-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_step_sizes_bounded [hPre_step_sizes_bounded : Cert.Pre_step_sizes_bounded.Facts] (m : (ℓ : Loc Cert.SsdIdeal.nD Cert.SsdIdeal.τ Cert.SsdIdeal.sig) → Buf (Elt Ideal) ℓ) : Prop :=
  ∀ c : Dev Cert.SsdIdeal.nD,
    (Cert.Pre_step_sizes_bounded.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_step_sizes_bounded [hPre_step_sizes_bounded : Cert.Pre_step_sizes_bounded.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_step_sizes_bounded.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Sg (m : (ℓ : Loc Cert.Sg.nD Cert.Sg.τ Cert.Sg.sig) → Buf (Elt Bits) ℓ) : Prop :=
  True

def Pre_SgIdeal (m : (ℓ : Loc Cert.SgIdeal.nD Cert.SgIdeal.τ Cert.SgIdeal.sig) → Buf (Elt Ideal) ℓ) : Prop :=
  True

def Pre_SgRefIdeal (m : (ℓ : Loc Cert.SgRefIdeal.nD Cert.SgRefIdeal.τ Cert.SgRefIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdIdeal_pre_step_sizes_bounded [hSsdIdeal : Cert.SsdIdeal.Facts] [hPre_step_sizes_bounded : Cert.Pre_step_sizes_bounded.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_step_sizes_bounded m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_SsdRefIdeal_pre_step_sizes_bounded [hSsdRefIdeal : Cert.SsdRefIdeal.Facts] [hPre_step_sizes_bounded : Cert.Pre_step_sizes_bounded.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_step_sizes_bounded m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_Sg [hSg : Cert.Sg.Facts] : Prop :=
  ∀ (m : (ℓ : Loc Cert.Sg.nD Cert.Sg.τ Cert.Sg.sig) → Buf (Elt Bits) ℓ) (g : Dev Cert.Sg.nD → PrngReg), Pre_Sg m →
    θ_run (Cert.Sg.defs (F := Bits)) (onTc (τ := Cert.Sg.τ) (Cert.Sg.main (F := Bits))) ⟨m, fun _ => 0, g⟩ (fun r => (∀ c : Dev Cert.Sg.nD,
      r.2.mem ((c.tc : Thread Cert.Sg.nD Cert.Sg.τ).loc Cert.Sg.main_arg0) = m ((c.tc : Thread Cert.Sg.nD Cert.Sg.τ).loc Cert.Sg.main_arg0)
      ∧ r.2.mem ((c.tc : Thread Cert.Sg.nD Cert.Sg.τ).loc Cert.Sg.main_arg1) = m ((c.tc : Thread Cert.Sg.nD Cert.Sg.τ).loc Cert.Sg.main_arg1)
      ∧ r.2.mem ((c.tc : Thread Cert.Sg.nD Cert.Sg.τ).loc Cert.Sg.main_arg2) = m ((c.tc : Thread Cert.Sg.nD Cert.Sg.τ).loc Cert.Sg.main_arg2)
      ∧ r.2.mem ((c.tc : Thread Cert.Sg.nD Cert.Sg.τ).loc Cert.Sg.main_arg3) = m ((c.tc : Thread Cert.Sg.nD Cert.Sg.τ).loc Cert.Sg.main_arg3))
      ∧ r.2.sem = fun _ => 0)

def quiescent_SgIdeal [hSgIdeal : Cert.SgIdeal.Facts] : Prop :=
  ∀ (m : (ℓ : Loc Cert.SgIdeal.nD Cert.SgIdeal.τ Cert.SgIdeal.sig) → Buf (Elt Ideal) ℓ) (g : Dev Cert.SgIdeal.nD → PrngReg), Pre_SgIdeal m →
    θ_run (Cert.SgIdeal.defs (F := Ideal)) (onTc (τ := Cert.SgIdeal.τ) (Cert.SgIdeal.main (F := Ideal))) ⟨m, fun _ => 0, g⟩ (fun r => (∀ c : Dev Cert.SgIdeal.nD,
      r.2.mem ((c.tc : Thread Cert.SgIdeal.nD Cert.SgIdeal.τ).loc Cert.SgIdeal.main_arg0) = m ((c.tc : Thread Cert.SgIdeal.nD Cert.SgIdeal.τ).loc Cert.SgIdeal.main_arg0)
      ∧ r.2.mem ((c.tc : Thread Cert.SgIdeal.nD Cert.SgIdeal.τ).loc Cert.SgIdeal.main_arg1) = m ((c.tc : Thread Cert.SgIdeal.nD Cert.SgIdeal.τ).loc Cert.SgIdeal.main_arg1)
      ∧ r.2.mem ((c.tc : Thread Cert.SgIdeal.nD Cert.SgIdeal.τ).loc Cert.SgIdeal.main_arg2) = m ((c.tc : Thread Cert.SgIdeal.nD Cert.SgIdeal.τ).loc Cert.SgIdeal.main_arg2)
      ∧ r.2.mem ((c.tc : Thread Cert.SgIdeal.nD Cert.SgIdeal.τ).loc Cert.SgIdeal.main_arg3) = m ((c.tc : Thread Cert.SgIdeal.nD Cert.SgIdeal.τ).loc Cert.SgIdeal.main_arg3))
      ∧ r.2.sem = fun _ => 0)

def quiescent_SgRefIdeal [hSgRefIdeal : Cert.SgRefIdeal.Facts] : Prop :=
  ∀ (m : (ℓ : Loc Cert.SgRefIdeal.nD Cert.SgRefIdeal.τ Cert.SgRefIdeal.sig) → Buf (Elt Ideal) ℓ) (g : Dev Cert.SgRefIdeal.nD → PrngReg), Pre_SgRefIdeal m →
    θ_run (Cert.SgRefIdeal.defs (F := Ideal)) (onTc (τ := Cert.SgRefIdeal.τ) (Cert.SgRefIdeal.main (F := Ideal))) ⟨m, fun _ => 0, g⟩ (fun r => (∀ c : Dev Cert.SgRefIdeal.nD,
      r.2.mem ((c.tc : Thread Cert.SgRefIdeal.nD Cert.SgRefIdeal.τ).loc Cert.SgRefIdeal.main_arg0) = m ((c.tc : Thread Cert.SgRefIdeal.nD Cert.SgRefIdeal.τ).loc Cert.SgRefIdeal.main_arg0)
      ∧ r.2.mem ((c.tc : Thread Cert.SgRefIdeal.nD Cert.SgRefIdeal.τ).loc Cert.SgRefIdeal.main_arg1) = m ((c.tc : Thread Cert.SgRefIdeal.nD Cert.SgRefIdeal.τ).loc Cert.SgRefIdeal.main_arg1)
      ∧ r.2.mem ((c.tc : Thread Cert.SgRefIdeal.nD Cert.SgRefIdeal.τ).loc Cert.SgRefIdeal.main_arg2) = m ((c.tc : Thread Cert.SgRefIdeal.nD Cert.SgRefIdeal.τ).loc Cert.SgRefIdeal.main_arg2)
      ∧ r.2.mem ((c.tc : Thread Cert.SgRefIdeal.nD Cert.SgRefIdeal.τ).loc Cert.SgRefIdeal.main_arg3) = m ((c.tc : Thread Cert.SgRefIdeal.nD Cert.SgRefIdeal.τ).loc Cert.SgRefIdeal.main_arg3))
      ∧ r.2.sem = fun _ => 0)

def preserves_Ssd_SsdIdeal : Prop :=
  True

def algebraic_SsdIdeal_SsdRefIdeal_pre_step_sizes_bounded [hSsdIdeal : Cert.SsdIdeal.Facts] [hSsdRefIdeal : Cert.SsdRefIdeal.Facts] [hPre_step_sizes_bounded : Cert.Pre_step_sizes_bounded.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_step_sizes_bounded m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)) →
    ∃ (v0 : (c : Dev Cert.SsdIdeal.nD) → Buf (Elt Ideal) ((c.tc : Thread Cert.SsdIdeal.nD Cert.SsdIdeal.τ).loc Cert.SsdIdeal.main_v9)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v9) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v268) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v76) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v9_0)) (v1 : (c : Dev Cert.InIdeal.nD) → Buf (Elt Ideal) ((c.tc : Thread Cert.InIdeal.nD Cert.InIdeal.τ).loc Cert.InIdeal.main_v9_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v9_0) = v0 c
          ∧ r.2.mem ((c.tc : Thread Cert.InIdeal.nD Cert.InIdeal.τ).loc Cert.InIdeal.main_v9_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v29) = v0 c
          ∧ r.2.mem ((c.tc : Thread Cert.InRefIdeal.nD Cert.InRefIdeal.τ).loc Cert.InRefIdeal.main_v31) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_Sg_SgIdeal : Prop :=
  True

def algebraic_SgIdeal_SgRefIdeal [hSgIdeal : Cert.SgIdeal.Facts] [hSgRefIdeal : Cert.SgRefIdeal.Facts] : Prop :=
  ∀ (m : (ℓ : Loc Cert.SgIdeal.nD Cert.SgIdeal.τ Cert.SgIdeal.sig) → Buf (Elt Ideal) ℓ) (g : Dev Cert.SgIdeal.nD → PrngReg)
    (m' : (ℓ : Loc Cert.SgRefIdeal.nD Cert.SgRefIdeal.τ Cert.SgRefIdeal.sig) → Buf (Elt Ideal) ℓ) (g' : Dev Cert.SgRefIdeal.nD → PrngReg), Pre_SgIdeal m →
    (∀ c : Dev Cert.SgIdeal.nD,
      m' ((c.tc : Thread Cert.SgRefIdeal.nD Cert.SgRefIdeal.τ).loc Cert.SgRefIdeal.main_arg0) = m ((c.tc : Thread Cert.SgIdeal.nD Cert.SgIdeal.τ).loc Cert.SgIdeal.main_arg0)
      ∧ m' ((c.tc : Thread Cert.SgRefIdeal.nD Cert.SgRefIdeal.τ).loc Cert.SgRefIdeal.main_arg1) = m ((c.tc : Thread Cert.SgIdeal.nD Cert.SgIdeal.τ).loc Cert.SgIdeal.main_arg1)
      ∧ m' ((c.tc : Thread Cert.SgRefIdeal.nD Cert.SgRefIdeal.τ).loc Cert.SgRefIdeal.main_arg2) = m ((c.tc : Thread Cert.SgIdeal.nD Cert.SgIdeal.τ).loc Cert.SgIdeal.main_arg2)
      ∧ m' ((c.tc : Thread Cert.SgRefIdeal.nD Cert.SgRefIdeal.τ).loc Cert.SgRefIdeal.main_arg3) = m ((c.tc : Thread Cert.SgIdeal.nD Cert.SgIdeal.τ).loc Cert.SgIdeal.main_arg3)) →
    ∃ (v0 : (c : Dev Cert.SgIdeal.nD) → Buf (Elt Ideal) ((c.tc : Thread Cert.SgIdeal.nD Cert.SgIdeal.τ).loc Cert.SgIdeal.main_v4)),
      θ_run (Cert.SgIdeal.defs (F := Ideal)) (onTc (τ := Cert.SgIdeal.τ) (Cert.SgIdeal.main (F := Ideal))) ⟨m, fun _ => 0, g⟩ (fun r => ∀ c : Dev Cert.SgIdeal.nD,
          r.2.mem ((c.tc : Thread Cert.SgIdeal.nD Cert.SgIdeal.τ).loc Cert.SgIdeal.main_v4) = v0 c
          ∧ r.2.mem ((c.tc : Thread Cert.SgIdeal.nD Cert.SgIdeal.τ).loc Cert.SgIdeal.main_arg0) = m ((c.tc : Thread Cert.SgIdeal.nD Cert.SgIdeal.τ).loc Cert.SgIdeal.main_arg0)
          ∧ r.2.mem ((c.tc : Thread Cert.SgIdeal.nD Cert.SgIdeal.τ).loc Cert.SgIdeal.main_arg1) = m ((c.tc : Thread Cert.SgIdeal.nD Cert.SgIdeal.τ).loc Cert.SgIdeal.main_arg1)
          ∧ r.2.mem ((c.tc : Thread Cert.SgIdeal.nD Cert.SgIdeal.τ).loc Cert.SgIdeal.main_arg2) = m ((c.tc : Thread Cert.SgIdeal.nD Cert.SgIdeal.τ).loc Cert.SgIdeal.main_arg2)
          ∧ r.2.mem ((c.tc : Thread Cert.SgIdeal.nD Cert.SgIdeal.τ).loc Cert.SgIdeal.main_arg3) = m ((c.tc : Thread Cert.SgIdeal.nD Cert.SgIdeal.τ).loc Cert.SgIdeal.main_arg3))
      ∧ θ_run (Cert.SgRefIdeal.defs (F := Ideal)) (onTc (τ := Cert.SgRefIdeal.τ) (Cert.SgRefIdeal.main (F := Ideal))) ⟨m', fun _ => 0, g'⟩ (fun r => ∀ c : Dev Cert.SgRefIdeal.nD,
          r.2.mem ((c.tc : Thread Cert.SgRefIdeal.nD Cert.SgRefIdeal.τ).loc Cert.SgRefIdeal.main_v44) = v0 c
          ∧ r.2.mem ((c.tc : Thread Cert.SgRefIdeal.nD Cert.SgRefIdeal.τ).loc Cert.SgRefIdeal.main_arg0) = m' ((c.tc : Thread Cert.SgRefIdeal.nD Cert.SgRefIdeal.τ).loc Cert.SgRefIdeal.main_arg0)
          ∧ r.2.mem ((c.tc : Thread Cert.SgRefIdeal.nD Cert.SgRefIdeal.τ).loc Cert.SgRefIdeal.main_arg1) = m' ((c.tc : Thread Cert.SgRefIdeal.nD Cert.SgRefIdeal.τ).loc Cert.SgRefIdeal.main_arg1)
          ∧ r.2.mem ((c.tc : Thread Cert.SgRefIdeal.nD Cert.SgRefIdeal.τ).loc Cert.SgRefIdeal.main_arg2) = m' ((c.tc : Thread Cert.SgRefIdeal.nD Cert.SgRefIdeal.τ).loc Cert.SgRefIdeal.main_arg2)
          ∧ r.2.mem ((c.tc : Thread Cert.SgRefIdeal.nD Cert.SgRefIdeal.τ).loc Cert.SgRefIdeal.main_arg3) = m' ((c.tc : Thread Cert.SgRefIdeal.nD Cert.SgRefIdeal.τ).loc Cert.SgRefIdeal.main_arg3))

def Claim : Prop :=
  ∃ (hSsd : Cert.Ssd.Facts) (hSsdIdeal : Cert.SsdIdeal.Facts) (hSsdRefIdeal : Cert.SsdRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hIn : Cert.In.Facts) (hInIdeal : Cert.InIdeal.Facts) (hInRefIdeal : Cert.InRefIdeal.Facts) (hSg : Cert.Sg.Facts) (hSgIdeal : Cert.SgIdeal.Facts) (hSgRefIdeal : Cert.SgRefIdeal.Facts) (hPre_step_sizes_bounded : Cert.Pre_step_sizes_bounded.Facts),
    quiescent_Ssd (hSsd := hSsd)
    ∧ quiescent_SsdIdeal (hSsdIdeal := hSsdIdeal)
    ∧ quiescent_SsdIdeal_pre_step_sizes_bounded (hSsdIdeal := hSsdIdeal) (hPre_step_sizes_bounded := hPre_step_sizes_bounded)
    ∧ quiescent_SsdRefIdeal (hSsdRefIdeal := hSsdRefIdeal)
    ∧ quiescent_SsdRefIdeal_pre_step_sizes_bounded (hSsdRefIdeal := hSsdRefIdeal) (hPre_step_sizes_bounded := hPre_step_sizes_bounded)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_In (hIn := hIn)
    ∧ quiescent_InIdeal (hInIdeal := hInIdeal)
    ∧ quiescent_InRefIdeal (hInRefIdeal := hInRefIdeal)
    ∧ quiescent_Sg (hSg := hSg)
    ∧ quiescent_SgIdeal (hSgIdeal := hSgIdeal)
    ∧ quiescent_SgRefIdeal (hSgRefIdeal := hSgRefIdeal)
    ∧ preserves_Ssd_SsdIdeal
    ∧ algebraic_SsdIdeal_SsdRefIdeal_pre_step_sizes_bounded (hSsdIdeal := hSsdIdeal) (hSsdRefIdeal := hSsdRefIdeal) (hPre_step_sizes_bounded := hPre_step_sizes_bounded)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_In_InIdeal
    ∧ algebraic_InIdeal_InRefIdeal (hInIdeal := hInIdeal) (hInRefIdeal := hInRefIdeal)
    ∧ preserves_Sg_SgIdeal
    ∧ algebraic_SgIdeal_SgRefIdeal (hSgIdeal := hSgIdeal) (hSgRefIdeal := hSgRefIdeal)
-- ==== Pre_step_sizes_bounded.lean ====
abbrev S32768x5632 : Shape := ⟨2, ![32768, 5632]⟩
abbrev S4x1024 : Shape := ⟨2, ![4, 1024]⟩
abbrev S1024 : Shape := ⟨1, ![1024]⟩
abbrev S8 : Shape := ⟨1, ![8]⟩
abbrev S512 : Shape := ⟨1, ![512]⟩
abbrev S32768x8 : Shape := ⟨2, ![32768, 8]⟩
abbrev S1x8 : Shape := ⟨2, ![1, 8]⟩
abbrev S_ : Shape := ⟨0, ![]⟩

class Facts : Prop where
  slices_S32768x5632_S32768x8_0_5376 : S32768x5632.Slices ![0, 5376] S32768x8
  bcast_S8_S1x8_1 : S8.BroadcastsInDim S1x8 (![1] : Fin 1 → Fin S1x8.rank)
  bcast_S1x8_S32768x8_0_1 : S1x8.BroadcastsInDim S32768x8 (![0, 1] : Fin 2 → Fin S32768x8.rank)
  bcast_S_S32768x8 : S_.BroadcastsInDim S32768x8 (![] : Fin 0 → Fin S32768x8.rank)
  reducesTo_S32768x8_S_d0_1 : S32768x8.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S32768x5632 .f32) (main_arg1 : FVec F S4x1024 .f32) (main_arg2 : FVec F S1024 .f32) (main_arg3 : FVec F S8 .f32) (main_arg4 : FVec F S8 .f32) (main_arg5 : FVec F S8 .f32) (main_arg6 : FVec F S512 .f32) : IVec S_ 1 :=
  let main_v0 : FVec F S32768x8 .f32 := (extractStridedSlice S32768x8 ![0, 5376] · slices_S32768x5632_S32768x8_0_5376) main_arg0
  let main_v1 : FVec F S1x8 .f32 := broadcastInDim S1x8 ![1] bcast_S8_S1x8_1 main_arg3
  let main_v2 : FVec F S32768x8 .f32 := broadcastInDim S32768x8 ![0, 1] bcast_S1x8_S32768x8_0_1 main_v1
  let main_v3 : FVec F S32768x8 .f32 := addf main_v0 main_v2
  let main_cst : FVec F S_ .f32 := constant S_ .f32 0x7F800000#32
  let main_v4 : FVec F S32768x8 .f32 := broadcastInDim S32768x8 ![] bcast_S_S32768x8 main_cst
  let main_v5 : IVec S32768x8 1 := cmpf .olt main_v3 main_v4
  let main_c : IVec S_ 1 := constantI S_ 1 1#1
  let main_v6 : IVec S_ 1 := (fun x v => Host.reduce IntOp.andi x v reducesTo_S32768x8_S_d0_1 h_S_) main_v5 main_c
  let main_cst_0 : FVec F S_ .f32 := constant S_ .f32 0x7F800000#32
  let main_v7 : FVec F S8 .f32 := broadcastInDim S8 ![] bcast_S_S8 main_cst_0
  let main_v8 : IVec S8 1 := cmpf .olt main_arg4 main_v7
  let main_c_1 : IVec S_ 1 := constantI S_ 1 1#1
  let main_v9 : IVec S_ 1 := (fun x v => Host.reduce IntOp.andi x v reducesTo_S8_S_d0 h_S_) main_v8 main_c_1
  let main_v10 : IVec S_ 1 := andi main_v6 main_v9
  main_v10
-- ==== Ssd.lean ====
abbrev S32768x5632 : Shape := ⟨2, ![32768, 5632]⟩
abbrev S4x1024 : Shape := ⟨2, ![4, 1024]⟩
abbrev S1024 : Shape := ⟨1, ![1024]⟩
abbrev S8 : Shape := ⟨1, ![8]⟩
abbrev S512 : Shape := ⟨1, ![512]⟩
abbrev S1x1024 : Shape := ⟨2, ![1, 1024]⟩
abbrev S_ : Shape := ⟨0, ![]⟩
abbrev S128 : Shape := ⟨1, ![128]⟩
abbrev S1x128 : Shape := ⟨2, ![1, 128]⟩
abbrev S8x64 : Shape := ⟨2, ![8, 64]⟩
abbrev S1x512 : Shape := ⟨2, ![1, 512]⟩
abbrev S32768x512 : Shape := ⟨2, ![32768, 512]⟩
abbrev S128x512 : Shape := ⟨2, ![128, 512]⟩
abbrev S128x128 : Shape := ⟨2, ![128, 128]⟩
abbrev S8x1024 : Shape := ⟨2, ![8, 1024]⟩
abbrev S8x128x64 : Shape := ⟨3, ![8, 128, 64]⟩
abbrev S128x1024 : Shape := ⟨2, ![128, 1024]⟩
abbrev S120x1024 : Shape := ⟨2, ![120, 1024]⟩
abbrev S128x256 : Shape := ⟨2, ![128, 256]⟩
abbrev S128x1 : Shape := ⟨2, ![128, 1]⟩
abbrev S128x64 : Shape := ⟨2, ![128, 64]⟩
abbrev S1x128x64 : Shape := ⟨3, ![1, 128, 64]⟩
abbrev S1x1 : Shape := ⟨2, ![1, 1]⟩

abbrev nBuf : Space → Nat
  | .hbm => 21
  | .vmem => 18
  | .smem => 0
  | _ => 0

abbrev bufTy : (tb : Table) → Fin (tcTables nBuf tb) → BufTy
  | .hbm, ⟨0, _⟩ => ⟨S32768x5632, .f32⟩
  | .hbm, ⟨1, _⟩ => ⟨S4x1024, .f32⟩
  | .hbm, ⟨2, _⟩ => ⟨S1024, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S512, .f32⟩
  | .hbm, ⟨7, _⟩ => ⟨S1x1024, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S8x64, .f32⟩
  | .hbm, ⟨17, _⟩ => ⟨S512, .f32⟩
  | .hbm, ⟨18, _⟩ => ⟨S1x512, .f32⟩
  | .hbm, ⟨19, _⟩ => ⟨S1x512, .f32⟩
  | .hbm, ⟨20, _⟩ => ⟨S32768x512, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x128, .f32⟩
  | .local _ .vmem, ⟨7, _⟩ => ⟨S128x128, .f32⟩
  | .local _ .vmem, ⟨8, _⟩ => ⟨S4x1024, .f32⟩
  | .local _ .vmem, ⟨9, _⟩ => ⟨S1x1024, .f32⟩
  | .local _ .vmem, ⟨10, _⟩ => ⟨S1x128, .f32⟩
  | .local _ .vmem, ⟨11, _⟩ => ⟨S1x128, .f32⟩
  | .local _ .vmem, ⟨12, _⟩ => ⟨S1x512, .f32⟩
  | .local _ .vmem, ⟨13, _⟩ => ⟨S1x512, .f32⟩
  | .local _ .vmem, ⟨14, _⟩ => ⟨S128x512, .bf16⟩
  | .local _ .vmem, ⟨15, _⟩ => ⟨S128x512, .bf16⟩
  | .local _ .vmem, ⟨16, _⟩ => ⟨S8x1024, .f32⟩
  | .local _ .vmem, ⟨17, _⟩ => ⟨S8x128x64, .f32⟩
  | _, _ => ⟨S32768x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c42_i32 : BitVec 32 := 42#32
  let c0_i32 : BitVec 32 := 0#32
  ![v1.toNat, c42_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SsdRefIdeal.lean ====
abbrev S32768x5632 : Shape := ⟨2, ![32768, 5632]⟩
abbrev S4x1024 : Shape := ⟨2, ![4, 1024]⟩
abbrev S1024 : Shape := ⟨1, ![1024]⟩
abbrev S8 : Shape := ⟨1, ![8]⟩
abbrev S512 : Shape := ⟨1, ![512]⟩
abbrev S16x2048x5632 : Shape := ⟨3, ![16, 2048, 5632]⟩
abbrev S16x2048x512 : Shape := ⟨3, ![16, 2048, 512]⟩
abbrev S16x2048x1024 : Shape := ⟨3, ![16, 2048, 1024]⟩
abbrev S_ : Shape := ⟨0, ![]⟩
abbrev S16x2051x1024 : Shape := ⟨3, ![16, 2051, 1024]⟩
abbrev S1x1024 : Shape := ⟨2, ![1, 1024]⟩
abbrev S1x1x1024 : Shape := ⟨3, ![1, 1, 1024]⟩
abbrev S16x2048x8 : Shape := ⟨3, ![16, 2048, 8]⟩
abbrev S1x1x8 : Shape := ⟨3, ![1, 1, 8]⟩
abbrev S16x2048x8x64 : Shape := ⟨4, ![16, 2048, 8, 64]⟩
abbrev S16x2048x256 : Shape := ⟨3, ![16, 2048, 256]⟩
abbrev S16x16x128x2x128 : Shape := ⟨5, ![16, 16, 128, 2, 128]⟩
abbrev S16x2048x8x1 : Shape := ⟨4, ![16, 2048, 8, 1]⟩
abbrev S16x16x128x2x4x64 : Shape := ⟨6, ![16, 16, 128, 2, 4, 64]⟩
abbrev S16x16x128x2x4 : Shape := ⟨5, ![16, 16, 128, 2, 4]⟩
abbrev S16x2x4x16x128 : Shape := ⟨5, ![16, 2, 4, 16, 128]⟩
abbrev S16x2x4x16x128x1 : Shape := ⟨6, ![16, 2, 4, 16, 128, 1]⟩
abbrev S16x2x4x16x128x128 : Shape := ⟨6, ![16, 2, 4, 16, 128, 128]⟩
abbrev S128x128 : Shape := ⟨2, ![128, 128]⟩
abbrev S16x2x16x128x128 : Shape := ⟨5, ![16, 2, 16, 128, 128]⟩
abbrev S16x2x1x16x128x128 : Shape := ⟨6, ![16, 2, 1, 16, 128, 128]⟩
abbrev S16x16x2x4x64x128 : Shape := ⟨6, ![16, 16, 2, 4, 64, 128]⟩
abbrev S16x2x4x16x1 : Shape := ⟨5, ![16, 2, 4, 16, 1]⟩
abbrev S16x16x128x2x4x1 : Shape := ⟨6, ![16, 16, 128, 2, 4, 1]⟩
abbrev S16x2x4x16 : Shape := ⟨4, ![16, 2, 4, 16]⟩
abbrev S16x16x2x4 : Shape := ⟨4, ![16, 16, 2, 4]⟩
abbrev S16x2x4x64x128 : Shape := ⟨5, ![16, 2, 4, 64, 128]⟩
abbrev S1x16x2x4 : Shape := ⟨4, ![1, 16, 2, 4]⟩
abbrev S16x2x4 : Shape := ⟨3, ![16, 2, 4]⟩
abbrev S16x2x4x1x1 : Shape := ⟨5, ![16, 2, 4, 1, 1]⟩
abbrev S1x16x2x4x64x128 : Shape := ⟨6, ![1, 16, 2, 4, 64, 128]⟩
abbrev S8x1 : Shape := ⟨2, ![8, 1]⟩
abbrev S1x1x8x1 : Shape := ⟨4, ![1, 1, 8, 1]⟩
abbrev S16x2048x2x256 : Shape := ⟨4, ![16, 2048, 2, 256]⟩
abbrev S2x256 : Shape := ⟨2, ![2, 256]⟩
abbrev S16x2048x2 : Shape := ⟨3, ![16, 2048, 2]⟩
abbrev S16x2048x2x1 : Shape := ⟨4, ![16, 2048, 2, 1]⟩
abbrev S1x1x2x256 : Shape := ⟨4, ![1, 1, 2, 256]⟩
abbrev S32768x512 : Shape := ⟨2, ![32768, 512]⟩

abbrev nBuf : Space → Nat
  | .hbm => 342
  | .vmem => 0
  | .smem => 0
  | _ => 0

abbrev hbmTy0_0 (i : Nat) : BufTy := match i % 128 with
  | 0 => ⟨S32768x5632, .f32⟩
  | 1 => ⟨S4x1024, .f32⟩
  | 2 => ⟨S1024, .f32⟩
  | 3 => ⟨S8, .f32⟩
  | 4 => ⟨S8, .f32⟩
  | 5 => ⟨S8, .f32⟩
  | 6 => ⟨S512, .f32⟩
  | 7 => ⟨S16x2048x5632, .f32⟩
  | 8 => ⟨S16x2048x512, .f32⟩
  | 9 => ⟨S16x2048x1024, .f32⟩
  | 10 => ⟨S_, .i32⟩
  | 11 => ⟨S_, .f32⟩
  | 12 => ⟨S16x2051x1024, .f32⟩
  | 13 => ⟨S16x2048x1024, .f32⟩
  | 14 => ⟨S1x1024, .f32⟩
  | 15 => ⟨S1024, .f32⟩
  | 16 => ⟨S1x1x1024, .f32⟩
  | 17 => ⟨S16x2048x1024, .f32⟩
  | 18 => ⟨S16x2048x1024, .f32⟩
  | 19 => ⟨S_, .f32⟩
  | 20 => ⟨S16x2048x1024, .f32⟩
  | 21 => ⟨S16x2048x1024, .f32⟩
  | 22 => ⟨S16x2048x1024, .f32⟩
  | 23 => ⟨S1x1024, .f32⟩
  | 24 => ⟨S1024, .f32⟩
  | 25 => ⟨S1x1x1024, .f32⟩
  | 26 => ⟨S16x2048x1024, .f32⟩
  | 27 => ⟨S16x2048x1024, .f32⟩
  | 28 => ⟨S16x2048x1024, .f32⟩
  | 29 => ⟨S16x2048x1024, .f32⟩
  | 30 => ⟨S1x1024, .f32⟩
  | 31 => ⟨S1024, .f32⟩
  | 32 => ⟨S1x1x1024, .f32⟩
  | 33 => ⟨S16x2048x1024, .f32⟩
  | 34 => ⟨S16x2048x1024, .f32⟩
  | 35 => ⟨S16x2048x1024, .f32⟩
  | 36 => ⟨S16x2048x1024, .f32⟩
  | 37 => ⟨S1x1024, .f32⟩
  | 38 => ⟨S1024, .f32⟩
  | 39 => ⟨S1x1x1024, .f32⟩
  | 40 => ⟨S16x2048x1024, .f32⟩
  | 41 => ⟨S16x2048x1024, .f32⟩
  | 42 => ⟨S16x2048x1024, .f32⟩
  | 43 => ⟨S1x1x1024, .f32⟩
  | 44 => ⟨S16x2048x1024, .f32⟩
  | 45 => ⟨S16x2048x1024, .f32⟩
  | 46 => ⟨S16x2048x1024, .f32⟩
  | 47 => ⟨S16x2048x1024, .f32⟩
  | 48 => ⟨S_, .f32⟩
  | 49 => ⟨S16x2048x1024, .f32⟩
  | 50 => ⟨S16x2048x1024, .f32⟩
  | 51 => ⟨S_, .f32⟩
  | 52 => ⟨S16x2048x1024, .f32⟩
  | 53 => ⟨S16x2048x1024, .f32⟩
  | 54 => ⟨S16x2048x1024, .f32⟩
  | 55 => ⟨S16x2048x8, .f32⟩
  | 56 => ⟨S1x1x8, .f32⟩
  | 57 => ⟨S16x2048x8, .f32⟩
  | 58 => ⟨S16x2048x8, .f32⟩
  | 59 => ⟨S_, .f32⟩
  | 60 => ⟨S16x2048x8, .f32⟩
  | 61 => ⟨S16x2048x8, .f32⟩
  | 62 => ⟨S16x2048x8, .f32⟩
  | 63 => ⟨S16x2048x8, .f32⟩
  | 64 => ⟨S16x2048x8, .i1⟩
  | 65 => ⟨S16x2048x8, .f32⟩
  | 66 => ⟨S16x2048x8, .f32⟩
  | 67 => ⟨S16x2048x8, .f32⟩
  | 68 => ⟨S16x2048x8, .f32⟩
  | 69 => ⟨S16x2048x8, .f32⟩
  | 70 => ⟨S16x2048x8, .f32⟩
  | 71 => ⟨S16x2048x8, .f32⟩
  | 72 => ⟨S16x2048x8, .f32⟩
  | 73 => ⟨S16x2048x512, .f32⟩
  | 74 => ⟨S16x2048x8x64, .f32⟩
  | 75 => ⟨S16x2048x256, .f32⟩
  | 76 => ⟨S16x16x128x2x128, .f32⟩
  | 77 => ⟨S16x2048x256, .f32⟩
  | 78 => ⟨S16x16x128x2x128, .f32⟩
  | 79 => ⟨S16x2048x8x1, .f32⟩
  | 80 => ⟨S16x2048x8x64, .f32⟩
  | 81 => ⟨S16x2048x8x64, .f32⟩
  | 82 => ⟨S16x16x128x2x4x64, .f32⟩
  | 83 => ⟨S8, .f32⟩
  | 84 => ⟨S8, .f32⟩
  | 85 => ⟨S1x1x8, .f32⟩
  | 86 => ⟨S16x2048x8, .f32⟩
  | 87 => ⟨S16x2048x8, .f32⟩
  | 88 => ⟨S16x16x128x2x4, .f32⟩
  | 89 => ⟨S16x2x4x16x128, .f32⟩
  | 90 => ⟨S_, .f32⟩
  | 91 => ⟨S_, .f32⟩
  | 92 => ⟨S16x2x4x16x128, .f32⟩
  | 93 => ⟨S16x2x4x16x128x1, .f32⟩
  | 94 => ⟨S16x2x4x16x128x128, .f32⟩
  | 95 => ⟨S_, .i1⟩
  | 96 => ⟨S128x128, .i1⟩
  | 97 => ⟨S128x128, .i32⟩
  | 98 => ⟨S_, .i32⟩
  | 99 => ⟨S128x128, .i32⟩
  | 100 => ⟨S128x128, .i32⟩
  | 101 => ⟨S128x128, .i32⟩
  | 102 => ⟨S128x128, .i1⟩
  | 103 => ⟨S_, .i1⟩
  | 104 => ⟨S128x128, .i1⟩
  | 105 => ⟨S128x128, .i1⟩
  | 106 => ⟨S_, .f32⟩
  | 107 => ⟨S_, .f32⟩
  | 108 => ⟨S16x2x4x16x128x128, .i1⟩
  | 109 => ⟨S16x2x4x16x128x128, .f32⟩
  | 110 => ⟨S16x2x4x16x128x128, .f32⟩
  | 111 => ⟨S_, .f32⟩
  | 112 => ⟨S_, .f32⟩
  | 113 => ⟨S16x2x4x16x128x128, .f32⟩
  | 114 => ⟨S_, .i1⟩
  | 115 => ⟨S128x128, .i1⟩
  | 116 => ⟨S128x128, .i32⟩
  | 117 => ⟨S_, .i32⟩
  | 118 => ⟨S128x128, .i32⟩
  | 119 => ⟨S128x128, .i32⟩
  | 120 => ⟨S128x128, .i32⟩
  | 121 => ⟨S128x128, .i1⟩
  | 122 => ⟨S_, .i1⟩
  | 123 => ⟨S128x128, .i1⟩
  | 124 => ⟨S128x128, .i1⟩
  | 125 => ⟨S_, .f32⟩
  | 126 => ⟨S_, .f32⟩
  | 127 => ⟨S16x2x4x16x128x128, .i1⟩
  | _ => ⟨S32768x5632, .f32⟩

abbrev hbmTy0_1 (i : Nat) : BufTy := match i % 128 with
  | 0 => ⟨S16x2x4x16x128x128, .f32⟩
  | 1 => ⟨S16x2x4x16x128x128, .f32⟩
  | 2 => ⟨S16x2x4x16x128x128, .f32⟩
  | 3 => ⟨S16x2x16x128x128, .f32⟩
  | 4 => ⟨S16x2x1x16x128x128, .f32⟩
  | 5 => ⟨S16x2x4x16x128x128, .f32⟩
  | 6 => ⟨S16x2x4x16x128x128, .f32⟩
  | 7 => ⟨S16x16x2x4x64x128, .f32⟩
  | 8 => ⟨S16x16x128x2x4x64, .f32⟩
  | 9 => ⟨S16x2x4x16x1, .f32⟩
  | 10 => ⟨S16x2x4x16x128, .f32⟩
  | 11 => ⟨S16x2x4x16x128, .f32⟩
  | 12 => ⟨S16x2x4x16x128, .f32⟩
  | 13 => ⟨S16x16x128x2x4, .f32⟩
  | 14 => ⟨S16x16x128x2x4x1, .f32⟩
  | 15 => ⟨S16x16x128x2x4x64, .f32⟩
  | 16 => ⟨S16x16x128x2x4x64, .f32⟩
  | 17 => ⟨S16x16x2x4x64x128, .f32⟩
  | 18 => ⟨S16x2x4x16x1, .f32⟩
  | 19 => ⟨S16x2x4x16, .f32⟩
  | 20 => ⟨S16x2x4x16, .f32⟩
  | 21 => ⟨S16x16x2x4, .f32⟩
  | 22 => ⟨S_, .f32⟩
  | 23 => ⟨S16x2x4x64x128, .f32⟩
  | 24 => ⟨S1x16x2x4, .f32⟩
  | 25 => ⟨S16x2x4, .f32⟩
  | 26 => ⟨S16x2x4x1x1, .f32⟩
  | 27 => ⟨S16x2x4x64x128, .f32⟩
  | 28 => ⟨S16x2x4x64x128, .f32⟩
  | 29 => ⟨S1x16x2x4x64x128, .f32⟩
  | 30 => ⟨S16x2x4x64x128, .f32⟩
  | 31 => ⟨S16x2x4x64x128, .f32⟩
  | 32 => ⟨S1x16x2x4, .f32⟩
  | 33 => ⟨S16x2x4, .f32⟩
  | 34 => ⟨S16x2x4x1x1, .f32⟩
  | 35 => ⟨S16x2x4x64x128, .f32⟩
  | 36 => ⟨S16x2x4x64x128, .f32⟩
  | 37 => ⟨S1x16x2x4x64x128, .f32⟩
  | 38 => ⟨S16x2x4x64x128, .f32⟩
  | 39 => ⟨S16x2x4x64x128, .f32⟩
  | 40 => ⟨S1x16x2x4, .f32⟩
  | 41 => ⟨S16x2x4, .f32⟩
  | 42 => ⟨S16x2x4x1x1, .f32⟩
  | 43 => ⟨S16x2x4x64x128, .f32⟩
  | 44 => ⟨S16x2x4x64x128, .f32⟩
  | 45 => ⟨S1x16x2x4x64x128, .f32⟩
  | 46 => ⟨S16x2x4x64x128, .f32⟩
  | 47 => ⟨S16x2x4x64x128, .f32⟩
  | 48 => ⟨S1x16x2x4, .f32⟩
  | 49 => ⟨S16x2x4, .f32⟩
  | 50 => ⟨S16x2x4x1x1, .f32⟩
  | 51 => ⟨S16x2x4x64x128, .f32⟩
  | 52 => ⟨S16x2x4x64x128, .f32⟩
  | 53 => ⟨S1x16x2x4x64x128, .f32⟩
  | 54 => ⟨S16x2x4x64x128, .f32⟩
  | 55 => ⟨S16x2x4x64x128, .f32⟩
  | 56 => ⟨S1x16x2x4, .f32⟩
  | 57 => ⟨S16x2x4, .f32⟩
  | 58 => ⟨S16x2x4x1x1, .f32⟩
  | 59 => ⟨S16x2x4x64x128, .f32⟩
  | 60 => ⟨S16x2x4x64x128, .f32⟩
  | 61 => ⟨S1x16x2x4x64x128, .f32⟩
  | 62 => ⟨S16x2x4x64x128, .f32⟩
  | 63 => ⟨S16x2x4x64x128, .f32⟩
  | 64 => ⟨S1x16x2x4, .f32⟩
  | 65 => ⟨S16x2x4, .f32⟩
  | 66 => ⟨S16x2x4x1x1, .f32⟩
  | 67 => ⟨S16x2x4x64x128, .f32⟩
  | 68 => ⟨S16x2x4x64x128, .f32⟩
  | 69 => ⟨S1x16x2x4x64x128, .f32⟩
  | 70 => ⟨S16x2x4x64x128, .f32⟩
  | 71 => ⟨S16x2x4x64x128, .f32⟩
  | 72 => ⟨S1x16x2x4, .f32⟩
  | 73 => ⟨S16x2x4, .f32⟩
  | 74 => ⟨S16x2x4x1x1, .f32⟩
  | 75 => ⟨S16x2x4x64x128, .f32⟩
  | 76 => ⟨S16x2x4x64x128, .f32⟩
  | 77 => ⟨S1x16x2x4x64x128, .f32⟩
  | 78 => ⟨S16x2x4x64x128, .f32⟩
  | 79 => ⟨S16x2x4x64x128, .f32⟩
  | 80 => ⟨S1x16x2x4, .f32⟩
  | 81 => ⟨S16x2x4, .f32⟩
  | 82 => ⟨S16x2x4x1x1, .f32⟩
  | 83 => ⟨S16x2x4x64x128, .f32⟩
  | 84 => ⟨S16x2x4x64x128, .f32⟩
  | 85 => ⟨S1x16x2x4x64x128, .f32⟩
  | 86 => ⟨S16x2x4x64x128, .f32⟩
  | 87 => ⟨S16x2x4x64x128, .f32⟩
  | 88 => ⟨S1x16x2x4, .f32⟩
  | 89 => ⟨S16x2x4, .f32⟩
  | 90 => ⟨S16x2x4x1x1, .f32⟩
  | 91 => ⟨S16x2x4x64x128, .f32⟩
  | 92 => ⟨S16x2x4x64x128, .f32⟩
  | 93 => ⟨S1x16x2x4x64x128, .f32⟩
  | 94 => ⟨S16x2x4x64x128, .f32⟩
  | 95 => ⟨S16x2x4x64x128, .f32⟩
  | 96 => ⟨S1x16x2x4, .f32⟩
  | 97 => ⟨S16x2x4, .f32⟩
  | 98 => ⟨S16x2x4x1x1, .f32⟩
  | 99 => ⟨S16x2x4x64x128, .f32⟩
  | 100 => ⟨S16x2x4x64x128, .f32⟩
  | 101 => ⟨S1x16x2x4x64x128, .f32⟩
  | 102 => ⟨S16x2x4x64x128, .f32⟩
  | 103 => ⟨S16x2x4x64x128, .f32⟩
  | 104 => ⟨S1x16x2x4, .f32⟩
  | 105 => ⟨S16x2x4, .f32⟩
  | 106 => ⟨S16x2x4x1x1, .f32⟩
  | 107 => ⟨S16x2x4x64x128, .f32⟩
  | 108 => ⟨S16x2x4x64x128, .f32⟩
  | 109 => ⟨S1x16x2x4x64x128, .f32⟩
  | 110 => ⟨S16x2x4x64x128, .f32⟩
  | 111 => ⟨S16x2x4x64x128, .f32⟩
  | 112 => ⟨S1x16x2x4, .f32⟩
  | 113 => ⟨S16x2x4, .f32⟩
  | 114 => ⟨S16x2x4x1x1, .f32⟩
  | 115 => ⟨S16x2x4x64x128, .f32⟩
  | 116 => ⟨S16x2x4x64x128, .f32⟩
  | 117 => ⟨S1x16x2x4x64x128, .f32⟩
  | 118 => ⟨S16x2x4x64x128, .f32⟩
  | 119 => ⟨S16x2x4x64x128, .f32⟩
  | 120 => ⟨S1x16x2x4, .f32⟩
  | 121 => ⟨S16x2x4, .f32⟩
  | 122 => ⟨S16x2x4x1x1, .f32⟩
  | 123 => ⟨S16x2x4x64x128, .f32⟩
  | 124 => ⟨S16x2x4x64x128, .f32⟩
  | 125 => ⟨S1x16x2x4x64x128, .f32⟩
  | 126 => ⟨S16x2x4x64x128, .f32⟩
  | 127 => ⟨S16x2x4x64x128, .f32⟩
  | _ => ⟨S32768x5632, .f32⟩

abbrev hbmTy0_2 (i : Nat) : BufTy := match i % 128 with
  | 0 => ⟨S1x16x2x4, .f32⟩
  | 1 => ⟨S16x2x4, .f32⟩
  | 2 => ⟨S16x2x4x1x1, .f32⟩
  | 3 => ⟨S16x2x4x64x128, .f32⟩
  | 4 => ⟨S16x2x4x64x128, .f32⟩
  | 5 => ⟨S1x16x2x4x64x128, .f32⟩
  | 6 => ⟨S16x2x4x64x128, .f32⟩
  | 7 => ⟨S16x2x4x64x128, .f32⟩
  | 8 => ⟨S1x16x2x4, .f32⟩
  | 9 => ⟨S16x2x4, .f32⟩
  | 10 => ⟨S16x2x4x1x1, .f32⟩
  | 11 => ⟨S16x2x4x64x128, .f32⟩
  | 12 => ⟨S16x2x4x64x128, .f32⟩
  | 13 => ⟨S1x16x2x4x64x128, .f32⟩
  | 14 => ⟨S16x2x4x64x128, .f32⟩
  | 15 => ⟨S16x2x4x64x128, .f32⟩
  | 16 => ⟨S1x16x2x4, .f32⟩
  | 17 => ⟨S16x2x4, .f32⟩
  | 18 => ⟨S16x2x4x1x1, .f32⟩
  | 19 => ⟨S16x2x4x64x128, .f32⟩
  | 20 => ⟨S16x2x4x64x128, .f32⟩
  | 21 => ⟨S1x16x2x4x64x128, .f32⟩
  | 22 => ⟨S16x2x4x64x128, .f32⟩
  | 23 => ⟨S16x2x4x64x128, .f32⟩
  | 24 => ⟨S1x16x2x4x64x128, .f32⟩
  | 25 => ⟨S1x16x2x4x64x128, .f32⟩
  | 26 => ⟨S1x16x2x4x64x128, .f32⟩
  | 27 => ⟨S1x16x2x4x64x128, .f32⟩
  | 28 => ⟨S1x16x2x4x64x128, .f32⟩
  | 29 => ⟨S1x16x2x4x64x128, .f32⟩
  | 30 => ⟨S1x16x2x4x64x128, .f32⟩
  | 31 => ⟨S1x16x2x4x64x128, .f32⟩
  | 32 => ⟨S1x16x2x4x64x128, .f32⟩
  | 33 => ⟨S1x16x2x4x64x128, .f32⟩
  | 34 => ⟨S1x16x2x4x64x128, .f32⟩
  | 35 => ⟨S1x16x2x4x64x128, .f32⟩
  | 36 => ⟨S1x16x2x4x64x128, .f32⟩
  | 37 => ⟨S1x16x2x4x64x128, .f32⟩
  | 38 => ⟨S1x16x2x4x64x128, .f32⟩
  | 39 => ⟨S1x16x2x4x64x128, .f32⟩
  | 40 => ⟨S16x16x2x4x64x128, .f32⟩
  | 41 => ⟨S16x16x2x4x64x128, .f32⟩
  | 42 => ⟨S16x16x128x2x4x64, .f32⟩
  | 43 => ⟨S16x2x4x16x128, .f32⟩
  | 44 => ⟨S16x16x128x2x4, .f32⟩
  | 45 => ⟨S16x16x128x2x4x1, .f32⟩
  | 46 => ⟨S16x16x128x2x4x64, .f32⟩
  | 47 => ⟨S16x16x128x2x4x64, .f32⟩
  | 48 => ⟨S16x16x128x2x4x64, .f32⟩
  | 49 => ⟨S16x2048x8x64, .f32⟩
  | 50 => ⟨S8x1, .f32⟩
  | 51 => ⟨S1x1x8x1, .f32⟩
  | 52 => ⟨S16x2048x8x64, .f32⟩
  | 53 => ⟨S16x2048x8x64, .f32⟩
  | 54 => ⟨S16x2048x8x64, .f32⟩
  | 55 => ⟨S16x2048x512, .f32⟩
  | 56 => ⟨S16x2048x512, .f32⟩
  | 57 => ⟨S16x2048x512, .f32⟩
  | 58 => ⟨S_, .f32⟩
  | 59 => ⟨S16x2048x512, .f32⟩
  | 60 => ⟨S16x2048x512, .f32⟩
  | 61 => ⟨S_, .f32⟩
  | 62 => ⟨S16x2048x512, .f32⟩
  | 63 => ⟨S16x2048x512, .f32⟩
  | 64 => ⟨S16x2048x512, .f32⟩
  | 65 => ⟨S16x2048x512, .f32⟩
  | 66 => ⟨S16x2048x2x256, .f32⟩
  | 67 => ⟨S2x256, .f32⟩
  | 68 => ⟨S16x2048x2x256, .f32⟩
  | 69 => ⟨S_, .f32⟩
  | 70 => ⟨S16x2048x2, .f32⟩
  | 71 => ⟨S16x2048x2x1, .f32⟩
  | 72 => ⟨S_, .f32⟩
  | 73 => ⟨S16x2048x2x1, .f32⟩
  | 74 => ⟨S16x2048x2x1, .f32⟩
  | 75 => ⟨S_, .f32⟩
  | 76 => ⟨S16x2048x2x1, .f32⟩
  | 77 => ⟨S16x2048x2x1, .f32⟩
  | 78 => ⟨S16x2048x2x1, .f32⟩
  | 79 => ⟨S16x2048x2x256, .f32⟩
  | 80 => ⟨S16x2048x2x256, .f32⟩
  | 81 => ⟨S1x1x2x256, .f32⟩
  | 82 => ⟨S16x2048x2x256, .f32⟩
  | 83 => ⟨S16x2048x2x256, .f32⟩
  | 84 => ⟨S32768x512, .f32⟩
  | 85 => ⟨S32768x512, .bf16⟩
  | _ => ⟨S32768x5632, .f32⟩

abbrev hbmTy (i : Nat) : BufTy := match i / 128 with
  | 0 => hbmTy0_0 i
  | 1 => hbmTy0_1 i
  | 2 => hbmTy0_2 i
  | _ => ⟨S32768x5632, .f32⟩

abbrev bufTy : (tb : Table) → Fin (tcTables nBuf tb) → BufTy
  | .hbm, ⟨i, _⟩ => hbmTy i
  | _, _ => ⟨S32768x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call3_call0_cst : Ref sig .tc := ⟨.hbm, 90, rfl⟩
abbrev main_call3_call0_v0 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_0 : Ref sig .tc := ⟨.hbm, 95, rfl⟩
abbrev main_v62 : Ref sig .tc := ⟨.hbm, 96, rfl⟩
abbrev main_call4_v0 : Ref sig .tc := ⟨.hbm, 97, rfl⟩
abbrev main_call4_c : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_c_0 : Ref sig .tc := ⟨.hbm, 103, rfl⟩
abbrev main_call4_v5 : Ref sig .tc := ⟨.hbm, 104, rfl⟩
abbrev main_v63 : Ref sig .tc := ⟨.hbm, 105, rfl⟩
abbrev main_cst_1 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v64 : Ref sig .tc := ⟨.hbm, 110, rfl⟩
abbrev main_call6_call0_cst : Ref sig .tc := ⟨.hbm, 111, rfl⟩
abbrev main_call6_call0_v0 : Ref sig .tc := ⟨.hbm, 112, rfl⟩
abbrev main_v65 : Ref sig .tc := ⟨.hbm, 113, rfl⟩
abbrev main_c_2 : Ref sig .tc := ⟨.hbm, 114, rfl⟩
abbrev main_v66 : Ref sig .tc := ⟨.hbm, 115, rfl⟩
abbrev main_call7_v0 : Ref sig .tc := ⟨.hbm, 116, rfl⟩
abbrev main_call7_c : Ref sig .tc := ⟨.hbm, 117, rfl⟩
abbrev main_call7_v1 : Ref sig .tc := ⟨.hbm, 118, rfl⟩
abbrev main_call7_v2 : Ref sig .tc := ⟨.hbm, 119, rfl⟩
abbrev main_call7_v3 : Ref sig .tc := ⟨.hbm, 120, rfl⟩
abbrev main_call7_v4 : Ref sig .tc := ⟨.hbm, 121, rfl⟩
abbrev main_call7_c_0 : Ref sig .tc := ⟨.hbm, 122, rfl⟩
abbrev main_call7_v5 : Ref sig .tc := ⟨.hbm, 123, rfl⟩
abbrev main_v67 : Ref sig .tc := ⟨.hbm, 124, rfl⟩
abbrev main_cst_3 : Ref sig .tc := ⟨.hbm, 125, rfl⟩
abbrev main_call8_v0 : Ref sig .tc := ⟨.hbm, 126, rfl⟩
abbrev main_call8_v1 : Ref sig .tc := ⟨.hbm, 127, rfl⟩
abbrev main_call8_v2 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_cst_4 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_call9_v0 : Ref sig .tc := ⟨.hbm, 312, rfl⟩
abbrev main_call9_v1 : Ref sig .tc := ⟨.hbm, 313, rfl⟩
abbrev main_call9_cst : Ref sig .tc := ⟨.hbm, 314, rfl⟩
abbrev main_call9_v2 : Ref sig .tc := ⟨.hbm, 315, rfl⟩
abbrev main_call9_v3 : Ref sig .tc := ⟨.hbm, 316, rfl⟩
abbrev main_call9_cst_0 : Ref sig .tc := ⟨.hbm, 317, rfl⟩
abbrev main_call9_v4 : Ref sig .tc := ⟨.hbm, 318, rfl⟩
abbrev main_call9_v5 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_cst_5 : Ref sig .tc := ⟨.hbm, 325, rfl⟩
abbrev main_v255 : Ref sig .tc := ⟨.hbm, 326, rfl⟩
abbrev main_v256 : Ref sig .tc := ⟨.hbm, 327, rfl⟩
abbrev main_cst_6 : Ref sig .tc := ⟨.hbm, 328, rfl⟩
abbrev main_v257 : Ref sig .tc := ⟨.hbm, 329, rfl⟩
abbrev main_v258 : Ref sig .tc := ⟨.hbm, 330, rfl⟩
abbrev main_cst_7 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩

abbrev nD : Nat := 1
abbrev τ : Topo := Topo.v7x

variable {F : FTy → Type} [FloatOps F]
-- ==== Ffn.lean ====
abbrev S32768x1024 : Shape := ⟨2, ![32768, 1024]⟩
abbrev S16x6x1024 : Shape := ⟨3, ![16, 6, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1x6x1024 : Shape := ⟨3, ![1, 6, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S1x1x1024 : Shape := ⟨3, ![1, 1, 1024]⟩
abbrev S512x1408 : Shape := ⟨2, ![512, 1408]⟩

abbrev nBuf : Space → Nat
  | .hbm => 7
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S16x6x1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1408x1024, .bf16⟩
  | .local _ .vmem, ⟨10, _⟩ => ⟨S1408x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v25 : BitVec 1 := Scalar.cmpi .eq arg1 c1_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S32768x1024 : Shape := ⟨2, ![32768, 1024]⟩
abbrev S16x6x1024 : Shape := ⟨3, ![16, 6, 1024]⟩
abbrev S1024 : Shape := ⟨1, ![1024]⟩
abbrev S1024x5632 : Shape := ⟨2, ![1024, 5632]⟩
abbrev S2816x1024 : Shape := ⟨2, ![2816, 1024]⟩
abbrev S16x2048x1024 : Shape := ⟨3, ![16, 2048, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x6x1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S16x2048x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S_, .f32⟩
  | .hbm, ⟨26, _⟩ => ⟨S16x1x1024, .f32⟩
  | .hbm, ⟨27, _⟩ => ⟨S16x1x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S1024x5632, .f32⟩
  | .hbm, ⟨33, _⟩ => ⟨S16x2048x5632, .f32⟩
  | .hbm, ⟨34, _⟩ => ⟨S16x2048x2816, .f32⟩
  | .hbm, ⟨35, _⟩ => ⟨S16x2048x2816, .f32⟩
  | .hbm, ⟨36, _⟩ => ⟨S16x2048x2816, .f32⟩
  | .hbm, ⟨37, _⟩ => ⟨S16x2048x2816, .f32⟩
  | .hbm, ⟨38, _⟩ => ⟨S_, .f32⟩
  | .hbm, ⟨39, _⟩ => ⟨S16x2048x2816, .f32⟩
  | .hbm, ⟨40, _⟩ => ⟨S16x2048x2816, .f32⟩
  | .hbm, ⟨41, _⟩ => ⟨S_, .f32⟩
  | .hbm, ⟨42, _⟩ => ⟨S16x2048x2816, .f32⟩
  | .hbm, ⟨43, _⟩ => ⟨S16x2048x2816, .f32⟩
  | .hbm, ⟨44, _⟩ => ⟨S16x2048x2816, .f32⟩
  | .hbm, ⟨45, _⟩ => ⟨S16x2048x2816, .f32⟩
  | .hbm, ⟨46, _⟩ => ⟨S2816x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S16x6x1024 : Shape := ⟨3, ![16, 6, 1024]⟩
abbrev S4x1024x1024 : Shape := ⟨3, ![4, 1024, 1024]⟩
abbrev S4x512x1024 : Shape := ⟨3, ![4, 512, 1024]⟩
abbrev S1024x1024 : Shape := ⟨2, ![1024, 1024]⟩
abbrev S512x1024 : Shape := ⟨2, ![512, 1024]⟩
abbrev S512x512 : Shape := ⟨2, ![512, 512]⟩
abbrev S1x6x1024 : Shape := ⟨3, ![1, 6, 1024]⟩
abbrev S1x1024x1024 : Shape := ⟨3, ![1, 1024, 1024]⟩
abbrev S1x512x1024 : Shape := ⟨3, ![1, 512, 1024]⟩
abbrev S1x1x1024 : Shape := ⟨3, ![1, 1, 1024]⟩
abbrev S1x1024 : Shape := ⟨2, ![1, 1024]⟩

abbrev nBuf : Space → Nat
  | .hbm => 11
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S16x6x1024, .f32⟩
  | .hbm, ⟨7, _⟩ => ⟨S4x1024x1024, .bf16⟩
  | .hbm, ⟨8, _⟩ => ⟨S4x512x1024, .bf16⟩
  | .hbm, ⟨9, _⟩ => ⟨S1024x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1x6x1024, .f32⟩
  | .local _ .vmem, ⟨13, _⟩ => ⟨S1x6x1024, .f32⟩
  | .local _ .vmem, ⟨14, _⟩ => ⟨S4x1024x1024, .bf16⟩
  | .local _ .vmem, ⟨15, _⟩ => ⟨S4x512x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S32768x1024 : Shape := ⟨2, ![32768, 1024]⟩
abbrev S32768x512 : Shape := ⟨2, ![32768, 512]⟩
abbrev S16x6x1024 : Shape := ⟨3, ![16, 6, 1024]⟩
abbrev S4x1024x1024 : Shape := ⟨3, ![4, 1024, 1024]⟩
abbrev S4x512x1024 : Shape := ⟨3, ![4, 512, 1024]⟩
abbrev S1024x1024 : Shape := ⟨2, ![1024, 1024]⟩
abbrev S16x2048x1024 : Shape := ⟨3, ![16, 2048, 1024]⟩
abbrev S16x2048x512 : Shape := ⟨3, ![16, 2048, 512]⟩
abbrev S16x1x1024 : Shape := ⟨3, ![16, 1, 1024]⟩
abbrev S_ : Shape := ⟨0, ![]⟩
abbrev S1x1024x1024 : Shape := ⟨3, ![1, 1024, 1024]⟩
abbrev S1x512x1024 : Shape := ⟨3, ![1, 512, 1024]⟩
abbrev S512x1024 : Shape := ⟨2, ![512, 1024]⟩

abbrev nBuf : Space → Nat
  | .hbm => 96
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S16x6x1024, .f32⟩
  | .hbm, ⟨7, _⟩ => ⟨S4x1024x1024, .bf16⟩
  | .hbm, ⟨8, _⟩ => ⟨S4x512x1024, .bf16⟩
  | .hbm, ⟨9, _⟩ => ⟨S1024x1024, .bf16⟩
  | .hbm, ⟨10, _⟩ => ⟨S16x2048x1024, .f32⟩
  | .hbm, ⟨11, _⟩ => ⟨S32768x1024, .f32⟩
  | .hbm, ⟨12, _⟩ => ⟨S16x2048x1024, .f32⟩
  | .hbm, ⟨13, _⟩ => ⟨S32768x512, .f32⟩
  | .hbm, ⟨14, _⟩ => ⟨S16x2048x512, .f32⟩
  | .hbm, ⟨15, _⟩ => ⟨S32768x512, .f32⟩
  | .hbm, ⟨16, _⟩ => ⟨S16x2048x512, .f32⟩
  | .hbm, ⟨17, _⟩ => ⟨S32768x512, .f32⟩
  | .hbm, ⟨18, _⟩ => ⟨S16x2048x512, .f32⟩
  | .hbm, ⟨19, _⟩ => ⟨S32768x512, .f32⟩
  | .hbm, ⟨20, _⟩ => ⟨S16x2048x512, .f32⟩
  | .hbm, ⟨21, _⟩ => ⟨S4x1024x1024, .f32⟩
  | .hbm, ⟨22, _⟩ => ⟨S4x512x1024, .f32⟩
  | .hbm, ⟨23, _⟩ => ⟨S1024x1024, .f32⟩
  | .hbm, ⟨24, _⟩ => ⟨S16x1x1024, .f32⟩
  | .hbm, ⟨25, _⟩ => ⟨S_, .f32⟩
  | .hbm, ⟨26, _⟩ => ⟨S16x2048x1024, .f32⟩
  | .hbm, ⟨27, _⟩ => ⟨S1x1024x1024, .f32⟩
  | .hbm, ⟨28, _⟩ => ⟨S1024x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048x1024, .f32⟩
  | .hbm, ⟨34, _⟩ => ⟨S16x2048x1024, .f32⟩
  | .hbm, ⟨35, _⟩ => ⟨S_, .f32⟩
  | .hbm, ⟨36, _⟩ => ⟨S16x2048x1024, .f32⟩
  | .hbm, ⟨37, _⟩ => ⟨S16x2048x1024, .f32⟩
  | .hbm, ⟨38, _⟩ => ⟨S1x512x1024, .f32⟩
  | .hbm, ⟨39, _⟩ => ⟨S512x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S1x1024x1024, .f32⟩
  | .hbm, ⟨44, _⟩ => ⟨S1024x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048x1024, .f32⟩
  | .hbm, ⟨50, _⟩ => ⟨S16x2048x1024, .f32⟩
  | .hbm, ⟨51, _⟩ => ⟨S_, .f32⟩
  | .hbm, ⟨52, _⟩ => ⟨S16x2048x1024, .f32⟩
  | .hbm, ⟨53, _⟩ => ⟨S16x2048x1024, .f32⟩
  | .hbm, ⟨54, _⟩ => ⟨S1x512x1024, .f32⟩
  | .hbm, ⟨55, _⟩ => ⟨S512x1024, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S1x1024x1024, .f32⟩
  | .hbm, ⟨60, _⟩ => ⟨S1024x1024, .f32⟩
  | .hbm, ⟨61, _⟩ => ⟨S16x2048x1024, .f32⟩
  | .hbm, ⟨62, _⟩ => ⟨S16x2048x1024, .f32⟩
  | .hbm, ⟨63, _⟩ => ⟨S16x2048x1024, .f32⟩
  | .hbm, ⟨64, _⟩ => ⟨S_, .f32⟩
  | .hbm, ⟨65, _⟩ => ⟨S16x2048x1024, .f32⟩
  | .hbm, ⟨66, _⟩ => ⟨S16x2048x1024, .f32⟩
  | .hbm, ⟨67, _⟩ => ⟨S_, .f32⟩
  | .hbm, ⟨68, _⟩ => ⟨S16x2048x1024, .f32⟩
  | .hbm, ⟨69, _⟩ => ⟨S16x2048x1024, .f32⟩
  | .hbm, ⟨70, _⟩ => ⟨S1x512x1024, .f32⟩
  | .hbm, ⟨71, _⟩ => ⟨S512x1024, .f32⟩
  | .hbm, ⟨72, _⟩ => ⟨S16x2048x1024, .f32⟩
  | .hbm, ⟨73, _⟩ => ⟨S16x2048x1024, .f32⟩
  | .hbm, ⟨74, _⟩ => ⟨S16x2048x1024, .f32⟩
  | .hbm, ⟨75, _⟩ => ⟨S1x1024x1024, .f32⟩
  | .hbm, ⟨76, _⟩ => ⟨S1024x1024, .f32⟩
  | .hbm, ⟨77, _⟩ => ⟨S16x2048x1024, .f32⟩
  | .hbm, ⟨78, _⟩ => ⟨S16x2048x1024, .f32⟩
  | .hbm, ⟨79, _⟩ => ⟨S16x2048x1024, .f32⟩
  | .hbm, ⟨80, _⟩ => ⟨S_, .f32⟩
  | .hbm, ⟨81, _⟩ => ⟨S16x2048x1024, .f32⟩
  | .hbm, ⟨82, _⟩ => ⟨S16x2048x1024, .f32⟩
  | .hbm, ⟨83, _⟩ => ⟨S_, .f32⟩
  | .hbm, ⟨84, _⟩ => ⟨S16x2048x1024, .f32⟩
  | .hbm, ⟨85, _⟩ => ⟨S16x2048x1024, .f32⟩
  | .hbm, ⟨86, _⟩ => ⟨S1x512x1024, .f32⟩
  | .hbm, ⟨87, _⟩ => ⟨S512x1024, .f32⟩
  | .hbm, ⟨88, _⟩ => ⟨S16x2048x1024, .f32⟩
  | .hbm, ⟨89, _⟩ => ⟨S16x2048x1024, .f32⟩
  | .hbm, ⟨90, _⟩ => ⟨S16x2048x1024, .f32⟩
  | .hbm, ⟨91, _⟩ => ⟨S16x2048x1024, .f32⟩
  | .hbm, ⟨92, _⟩ => ⟨S16x2048x1024, .f32⟩
  | .hbm, ⟨93, _⟩ => ⟨S16x2048x1024, .f32⟩
  | .hbm, ⟨94, _⟩ => ⟨S16x2048x1024, .f32⟩
  | .hbm, ⟨95, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_cst_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== In.lean ====
abbrev S32768x1024 : Shape := ⟨2, ![32768, 1024]⟩
abbrev S16x6x1024 : Shape := ⟨3, ![16, 6, 1024]⟩
abbrev S1024 : Shape := ⟨1, ![1024]⟩
abbrev S1024x5408 : Shape := ⟨2, ![1024, 5408]⟩
abbrev S1024x1536 : Shape := ⟨2, ![1024, 1536]⟩
abbrev S1024x2560 : Shape := ⟨2, ![1024, 2560]⟩
abbrev S1024x1280 : Shape := ⟨2, ![1024, 1280]⟩
abbrev S1024x8 : Shape := ⟨2, ![1024, 8]⟩
abbrev S1024x24 : Shape := ⟨2, ![1024, 24]⟩
abbrev S_ : Shape := ⟨0, ![]⟩
abbrev S1024x5632 : Shape := ⟨2, ![1024, 5632]⟩
abbrev S1x1024 : Shape := ⟨2, ![1, 1024]⟩
abbrev S32768x5632 : Shape := ⟨2, ![32768, 5632]⟩
abbrev S1024x1024 : Shape := ⟨2, ![1024, 1024]⟩
abbrev S1x6x1024 : Shape := ⟨3, ![1, 6, 1024]⟩
abbrev S1024x512 : Shape := ⟨2, ![1024, 512]⟩
abbrev S1024x1 : Shape := ⟨2, ![1024, 1]⟩
abbrev S1x1x1024 : Shape := ⟨3, ![1, 1, 1024]⟩

abbrev nBuf : Space → Nat
  | .hbm => 17
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S16x6x1024, .f32⟩
  | .hbm, ⟨2, _⟩ => ⟨S1024, .f32⟩
  | .hbm, ⟨3, _⟩ => ⟨S1024x5408, .f32⟩
  | .hbm, ⟨4, _⟩ => ⟨S1024x1536, .f32⟩
  | .hbm, ⟨5, _⟩ => ⟨S1024x2560, .f32⟩
  | .hbm, ⟨6, _⟩ => ⟨S1024x1280, .f32⟩
  | .hbm, ⟨7, _⟩ => ⟨S1024x8, .f32⟩
  | .hbm, ⟨8, _⟩ => ⟨S1024x24, .f32⟩
  | .hbm, ⟨9, _⟩ => ⟨S1024x5408, .f32⟩
  | .hbm, ⟨10, _⟩ => ⟨S_, .i32⟩
  | .hbm, ⟨11, _⟩ => ⟨S_, .f32⟩
  | .hbm, ⟨12, _⟩ => ⟨S1024x5632, .f32⟩
  | .hbm, ⟨13, _⟩ => ⟨S1024x5632, .bf16⟩
  | .hbm, ⟨14, _⟩ => ⟨S1x1024, .f32⟩
  | .hbm, ⟨15, _⟩ => ⟨S32768x5632, .f32⟩
  | .hbm, ⟨16, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S1024x512, .f32⟩
  | .local _ .vmem, ⟨8, _⟩ => ⟨S1024x512, .f32⟩
  | .local _ .vmem, ⟨9, _⟩ => ⟨S1024x1024, .bf16⟩
  | .local _ .vmem, ⟨10, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InRefIdeal.lean ====
abbrev S32768x1024 : Shape := ⟨2, ![32768, 1024]⟩
abbrev S16x6x1024 : Shape := ⟨3, ![16, 6, 1024]⟩
abbrev S1024 : Shape := ⟨1, ![1024]⟩
abbrev S1024x5408 : Shape := ⟨2, ![1024, 5408]⟩
abbrev S16x2048x1024 : Shape := ⟨3, ![16, 2048, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5408 : Shape := ⟨3, ![16, 2048, 5408]⟩
abbrev S16x2048x1536 : Shape := ⟨3, ![16, 2048, 1536]⟩
abbrev S16x2048x3840 : Shape := ⟨3, ![16, 2048, 3840]⟩
abbrev S16x2048x8 : Shape := ⟨3, ![16, 2048, 8]⟩
abbrev S16x2048x24 : Shape := ⟨3, ![16, 2048, 24]⟩
abbrev S16x2048x5632 : Shape := ⟨3, ![16, 2048, 5632]⟩
abbrev S32768x5632 : Shape := ⟨2, ![32768, 5632]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x6x1024, .f32⟩
  | .hbm, ⟨2, _⟩ => ⟨S1024, .f32⟩
  | .hbm, ⟨3, _⟩ => ⟨S1024x5408, .f32⟩
  | .hbm, ⟨4, _⟩ => ⟨S16x2048x1024, .f32⟩
  | .hbm, ⟨5, _⟩ => ⟨S16x1x1024, .f32⟩
  | .hbm, ⟨6, _⟩ => ⟨S16x1x1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x5408, .f32⟩
  | .hbm, ⟨31, _⟩ => ⟨S16x2048x1536, .f32⟩
  | .hbm, ⟨32, _⟩ => ⟨S16x2048x3840, .f32⟩
  | .hbm, ⟨33, _⟩ => ⟨S16x2048x8, .f32⟩
  | .hbm, ⟨34, _⟩ => ⟨S16x2048x24, .f32⟩
  | .hbm, ⟨35, _⟩ => ⟨S16x2048x5408, .f32⟩
  | .hbm, ⟨36, _⟩ => ⟨S_, .i32⟩
  | .hbm, ⟨37, _⟩ => ⟨S_, .f32⟩
  | .hbm, ⟨38, _⟩ => ⟨S16x2048x5632, .f32⟩
  | .hbm, ⟨39, _⟩ => ⟨S32768x5632, .f32⟩
  | .hbm, ⟨40, _⟩ => ⟨S16x2048x1024, .bf16⟩
  | .hbm, ⟨41, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Sg.lean ====
abbrev S32768x5632 : Shape := ⟨2, ![32768, 5632]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S32768x512 : Shape := ⟨2, ![32768, 512]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 9
  | .vmem => 9
  | .smem => 0
  | _ => 0

abbrev bufTy : (tb : Table) → Fin (tcTables nBuf tb) → BufTy
  | .hbm, ⟨0, _⟩ => ⟨S32768x5632, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S128x4, .f32⟩
  | .hbm, ⟨5, _⟩ => ⟨S128x4x128, .f32⟩
  | .hbm, ⟨6, _⟩ => ⟨S128x512, .f32⟩
  | .hbm, ⟨7, _⟩ => ⟨S1x512, .f32⟩
  | .hbm, ⟨8, _⟩ => ⟨S32768x512, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S4x128x128, .f32⟩
  | .local _ .vmem, ⟨6, _⟩ => ⟨S128x512, .f32⟩
  | .local _ .vmem, ⟨7, _⟩ => ⟨S128x512, .bf16⟩
  | .local _ .vmem, ⟨8, _⟩ => ⟨S128x512, .bf16⟩
  | _, _ => ⟨S32768x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SgRefIdeal.lean ====
abbrev S32768x5632 : Shape := ⟨2, ![32768, 5632]⟩
abbrev S512 : Shape := ⟨1, ![512]⟩
abbrev S4x128x128 : Shape := ⟨3, ![4, 128, 128]⟩
abbrev S4x128 : Shape := ⟨2, ![4, 128]⟩
abbrev S16x2048x5632 : Shape := ⟨3, ![16, 2048, 5632]⟩
abbrev S16x2048x1024 : Shape := ⟨3, ![16, 2048, 1024]⟩
abbrev S_ : Shape := ⟨0, ![]⟩
abbrev S16x2048x512 : Shape := ⟨3, ![16, 2048, 512]⟩
abbrev S16x2048 : Shape := ⟨2, ![16, 2048]⟩
abbrev S16x2048x1 : Shape := ⟨3, ![16, 2048, 1]⟩
abbrev S1x1x512 : Shape := ⟨3, ![1, 1, 512]⟩
abbrev S16x16x128x4x128 : Shape := ⟨5, ![16, 16, 128, 4, 128]⟩
abbrev S128x128 : Shape := ⟨2, ![128, 128]⟩
abbrev S4x16x16x128x128 : Shape := ⟨5, ![4, 16, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S32768x512 : Shape := ⟨2, ![32768, 512]⟩

abbrev nBuf : Space → Nat
  | .hbm => 69
  | .vmem => 0
  | .smem => 0
  | _ => 0

abbrev bufTy : (tb : Table) → Fin (tcTables nBuf tb) → BufTy
  | .hbm, ⟨0, _⟩ => ⟨S32768x5632, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S16x2048x5632, .f32⟩
  | .hbm, ⟨5, _⟩ => ⟨S16x2048x1024, .f32⟩
  | .hbm, ⟨6, _⟩ => ⟨S16x2048x1024, .f32⟩
  | .hbm, ⟨7, _⟩ => ⟨S16x2048x1024, .f32⟩
  | .hbm, ⟨8, _⟩ => ⟨S_, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S_, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S_, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x512, .f32⟩
  | .hbm, ⟨24, _⟩ => ⟨S16x2048x512, .f32⟩
  | .hbm, ⟨25, _⟩ => ⟨S16x2048x512, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S_, .f32⟩
  | .hbm, ⟨30, _⟩ => ⟨S16x2048x1, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S16x2048x1, .f32⟩
  | .hbm, ⟨36, _⟩ => ⟨S16x2048x512, .f32⟩
  | .hbm, ⟨37, _⟩ => ⟨S16x2048x512, .f32⟩
  | .hbm, ⟨38, _⟩ => ⟨S1x1x512, .f32⟩
  | .hbm, ⟨39, _⟩ => ⟨S16x2048x512, .f32⟩
  | .hbm, ⟨40, _⟩ => ⟨S16x2048x512, .f32⟩
  | .hbm, ⟨41, _⟩ => ⟨S16x16x128x4x128, .f32⟩
  | .hbm, ⟨42, _⟩ => ⟨S_, .i1⟩
  | .hbm, ⟨43, _⟩ => ⟨S128x128, .i1⟩
  | .hbm, ⟨44, _⟩ => ⟨S128x128, .i32⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .i1⟩
  | .hbm, ⟨51, _⟩ => ⟨S128x128, .i1⟩
  | .hbm, ⟨52, _⟩ => ⟨S128x128, .i1⟩
  | .hbm, ⟨53, _⟩ => ⟨S_, .f32⟩
  | .hbm, ⟨54, _⟩ => ⟨S_, .f32⟩
  | .hbm, ⟨55, _⟩ => ⟨S4x128x128, .i1⟩
  | .hbm, ⟨56, _⟩ => ⟨S4x128x128, .f32⟩
  | .hbm, ⟨57, _⟩ => ⟨S4x128x128, .f32⟩
  | .hbm, ⟨58, _⟩ => ⟨S4x16x16x128x128, .f32⟩
  | .hbm, ⟨59, _⟩ => ⟨S16x16x128x4x128, .f32⟩
  | .hbm, ⟨60, _⟩ => ⟨S128x4, .f32⟩
  | .hbm, ⟨61, _⟩ => ⟨S128x4x1, .f32⟩
  | .hbm, ⟨62, _⟩ => ⟨S1x1x128x4x1, .f32⟩
  | .hbm, ⟨63, _⟩ => ⟨S16x16x128x4x128, .f32⟩
  | .hbm, ⟨64, _⟩ => ⟨S16x16x128x4x128, .f32⟩
  | .hbm, ⟨65, _⟩ => ⟨S16x2048x512, .f32⟩
  | .hbm, ⟨66, _⟩ => ⟨S16x2048x512, .f32⟩
  | .hbm, ⟨67, _⟩ => ⟨S32768x512, .f32⟩
  | .hbm, ⟨68, _⟩ => ⟨S32768x512, .bf16⟩
  | _, _ => ⟨S32768x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_v31 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_0 : Ref sig .tc := ⟨.hbm, 50, rfl⟩
abbrev main_call0_v5 : Ref sig .tc := ⟨.hbm, 51, rfl⟩
abbrev main_v32 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Proof.InIdealBody.lean ====
/- The norm with its projection: what the kernel's body does at a grid point, and the run of the whole program. -/
module

public import proofs.«01_k».proof.Proof.Gen.InIdeal.Frame
public import proofs.«01_k».proof.Proof.Gen.InIdeal.Skeleton
public import Idealize.ShloMosaic.Lib.Pipeline.ReadBack
public import Idealize.ShloMosaic.Lib.Pipeline.ValueKit

@[expose] public section

set_option maxRecDepth 16384

noncomputable section

namespace Cert.InIdeal.Body

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The normed and modulated rows, from the four blocks that the body reads at a first point. -/
def rows (x0 : Vec F S1024x1024 .f32) (x1 : Vec F S1x6x1024 .f32) (x2 : Vec F S1x1024 .f32) : Vec F S1024x1024 .bf16 :=
  k0_pay1 x0 x2 (View.ld x1 (Rect.unit (s := S1x6x1024) ![0, 1, 0] S1x1x1024.size inb_S1x6x1024_S1x1x1024_0_1_0))
    (View.ld x1 (Rect.unit (s := S1x6x1024) ![0, 0, 0] S1x1x1024.size inb_S1x6x1024_S1x1x1024_0_0_0))

/-- `rows` from any four terms equal to its loads. -/
theorem rows_of {x0 y0 : Vec F S1024x1024 .f32} {x1 : Vec F S1x6x1024 .f32} {x2 y2 : Vec F S1x1024 .f32}
    {y1 y1' : Vec F S1x1x1024 .f32} (h0 : y0 = x0) (h2 : y2 = x2)
    (h1 : y1 = View.ld x1 (Rect.unit (s := S1x6x1024) ![0, 1, 0] S1x1x1024.size inb_S1x6x1024_S1x1x1024_0_1_0))
    (h1' : y1' = View.ld x1 (Rect.unit (s := S1x6x1024) ![0, 0, 0] S1x1x1024.size inb_S1x6x1024_S1x1x1024_0_0_0)) :
    k0_pay1 y0 y2 y1 y1' = rows x0 x1 x2 := by
  subst h0 h2 h1 h1'; rfl

theorem zeros2 : (![0, 0] : Fin 2 → ℕ) = fun _ => 0 := by
  funext a; fin_cases a <;> rfl

section
variable {Val : EltTy → Type} [∀ e, Nonempty (Val e)] {sig : RefSig} {κ : Kind} {sp : Space} {d : Fin 2 → ℕ} {e : EltTy}
  (v : View sig κ sp ⟨2, d⟩ e)

/-- A load of a whole matrix reads its contents. -/
theorem load_whole (f : v.ty.Contents Val) (inb : ∀ a, (![0, 0] : Fin 2 → ℕ) a + d a ≤ d a) (x : (⟨2, d⟩ : Shape).Idx → Val e)
    (h : v.read Val f = x) : v.readAt Val (Rect.unit (s := ⟨2, d⟩) ![0, 0] d inb).toLoadRect f = x := by
  rw [View.readAt_eq_ld, h]; exact View.ld_unit_zero zeros2 inb x

/-- A store of a whole matrix leaves what it stored. -/
theorem store_whole (f : v.ty.Contents Val) (inb : ∀ a, (![0, 0] : Fin 2 → ℕ) a + d a ≤ d a) (w : (⟨2, d⟩ : Shape).Idx → Val e) :
    v.read Val (v.writes Val f [⟨Rect.unit (s := ⟨2, d⟩) ![0, 0] d inb, w⟩]) = w := by
  rw [View.read_writes_eq_canon _ _ _ (fun y => ⟨_, List.mem_singleton_self _, View.mem_set_unit_zero zeros2 inb y⟩)]
  exact View.canon_unit_zero zeros2 inb w

/-- A whole matrix loaded after it was stored is what was stored. -/
theorem load_stored (inb : ∀ a, (![0, 0] : Fin 2 → ℕ) a + d a ≤ d a) (w : (⟨2, d⟩ : Shape).Idx → Val e) :
    v.readCov [⟨Rect.unit (s := ⟨2, d⟩) ![0, 0] d inb, w⟩] (Rect.unit (s := ⟨2, d⟩) ![0, 0] d inb).toLoadRect = w :=
  View.readCov_unit_zero v zeros2 inb w
end

/-- The body at the first point of a row block: it fills the second output with the normed rows and the first with
    their product. -/
theorem run_first (c : Dev nD) (i : grid0.Coords) (a0 : Memref sig .tc .vmem S1024x1024 .f32) (h0 : a0.IsWhole)
    (a1 : Memref sig .tc .vmem S1x6x1024 .f32) (h1 : a1.IsWhole) (a2 : Memref sig .tc .vmem S1x1024 .f32) (h2 : a2.IsWhole)
    (a3 : Memref sig .tc .vmem S1024x512 .bf16) (h3 : a3.IsWhole) (a4 : Memref sig .tc .vmem S1024x512 .f32) (h4 : a4.IsWhole)
    (a5 : Memref sig .tc .vmem S1024x1024 .bf16) (h5 : a5.IsWhole) (hc : k0_cond1 i = 1#1)
    (x0 : Vec F S1024x1024 .f32) (x1 : Vec F S1x6x1024 .f32) (x2 : Vec F S1x1024 .f32) (x3 : Vec F S1024x512 .bf16)
    (E : Set ℕ) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d) ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (k0_pay2 (rows x0 x1 x2) x3)
            ∗ owns (c : Thread nD τ) a5 fullShare (rows x0 x1 x2)) -∗ K ⟨⟩))
      ⊢ wp frame (wpE (defs₀ (F := F)) Variants.none c none) E (cc0_norm_in_proj i a0 h0 a1 h1 a2 h2 a3 h3 a4 h4 a5 h5) K := by
  simp only [cc0_norm_in_proj_eq_skeleton]; unfold cc0_norm_in_proj_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, Hk⟩
  obtain rfl := h0.eq_unread e0; obtain rfl := h1.eq_unread e1; obtain rfl := h2.eq_unread e2; obtain rfl := h3.eq_unread e3
  sl_exec (disch := sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    refine (store_whole a4.view _ _ _).trans ?_
    unfold run_first.sl.v3 run_first.sl.H5_1
    exact congrArg₂ k0_pay2 ((load_stored a5.view _ _).trans (rows_of (load_whole a0.view _ _ _ e0) (load_whole a2.view _ _ _ e2) (congrArg (fun z => View.ld z _) e1) (congrArg (fun z => View.ld z _) e1))) (load_whole a3.view _ _ _ e3)
  iexists _; isplitr
  swap; · iexact H5
  ipureintro
  unfold run_first.sl.H5_1
  exact (store_whole a5.view _ _ _).trans (rows_of (load_whole a0.view _ _ _ e0) (load_whole a2.view _ _ _ e2) (congrArg (fun z => View.ld z _) e1) (congrArg (fun z => View.ld z _) e1))

/-- The body at a later point of a row block: the second output keeps the rows it holds, and the first gets their product. -/
theorem run_rest (c : Dev nD) (i : grid0.Coords) (a0 : Memref sig .tc .vmem S1024x1024 .f32) (h0 : a0.IsWhole)
    (a1 : Memref sig .tc .vmem S1x6x1024 .f32) (h1 : a1.IsWhole) (a2 : Memref sig .tc .vmem S1x1024 .f32) (h2 : a2.IsWhole)
    (a3 : Memref sig .tc .vmem S1024x512 .bf16) (h3 : a3.IsWhole) (a4 : Memref sig .tc .vmem S1024x512 .f32) (h4 : a4.IsWhole)
    (a5 : Memref sig .tc .vmem S1024x1024 .bf16) (h5 : a5.IsWhole) (hc : ¬ k0_cond1 i = 1#1)
    (x0 : Vec F S1024x1024 .f32) (x1 : Vec F S1x6x1024 .f32) (x2 : Vec F S1x1024 .f32) (x3 : Vec F S1024x512 .bf16) (y : Vec F S1024x1024 .bf16)
    (E : Set ℕ) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d) ∗ owns (c : Thread nD τ) a5 fullShare y
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (k0_pay2 y x3)
            ∗ owns (c : Thread nD τ) a5 fullShare y) -∗ K ⟨⟩))
      ⊢ wp frame (wpE (defs₀ (F := F)) Variants.none c none) E (cc0_norm_in_proj i a0 h0 a1 h1 a2 h2 a3 h3 a4 h4 a5 h5) K := by
  simp only [cc0_norm_in_proj_eq_skeleton]; unfold cc0_norm_in_proj_skel
  unfold owns
  iintro ⟨⟨%f0, %e0, H0⟩, ⟨%f1, %e1, H1⟩, ⟨%f2, %e2, H2⟩, ⟨%f3, %e3, H3⟩, ⟨%d4, %f4, -, H4⟩, ⟨%f5, %e5, H5⟩, Hk⟩
  obtain rfl := h0.eq_unread e0; obtain rfl := h1.eq_unread e1; obtain rfl := h2.eq_unread e2; obtain rfl := h3.eq_unread e3; obtain rfl := h5.eq_unread e5
  sl_exec (disch := sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    refine (store_whole a4.view _ _ _).trans ?_
    exact congrArg₂ k0_pay2 (load_whole a5.view _ _ _ e5) (load_whole a3.view _ _ _ e3)
  iexists _; isplitr; · ipureintro; exact h5.read_unread _
  iexact H5

end Cert.InIdeal.Body

end
-- ==== Proof.InIdealFrame.lean ====
/- The norm with its projection: what every window holds from point to point, and the run of the whole program. -/
module

public import proofs.«01_k».proof.Proof.InIdealBody
public import proofs.«01_k».proof.Proof.Gen.InIdeal.Frame
public import proofs.«01_k».proof.Proof.Gen.InIdeal.Points
public import proofs.«01_k».proof.Proof.Gen.InIdeal.Launch
public import proofs.«01_k».proof.Proof.Gen.InIdeal.Skeleton
public import Idealize.ShloMosaic.Lib.Pipeline.ReadBack
public import Idealize.ShloMosaic.Lib.Pipeline.ValueKit
public import Idealize.ShloMosaic.Lib.Pipeline.TableIdle
public import Idealize.ShloMosaic.Lib.Pipeline.FrameBody
public import Idealize.ShloMosaic.Lib.Claim
public import Idealize.ShloMosaic.Lib.WordCmp

@[expose] public section

set_option maxRecDepth 16384

noncomputable section

namespace Cert.InIdeal.Body

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the first point of every row block. -/
theorem first_iff : ∀ t : Fin cfg0.N, k0_cond1 (grid0.coords t) = 1#1 ↔ t.val % 11 = 0 :=
  (fun t => by
    have ht : t.val < 352 := Nat.lt_of_lt_of_eq t.isLt N_0
    have e0 : (grid0.coords t 0).val = t.val / 11 % 32 := Pipeline.Grid.coords_val t 0 (by decide) rfl
    have e1 : (grid0.coords t 1).val = t.val / 1 % 11 := Pipeline.Grid.coords_val t 1 (by decide) rfl
    simp only [k0_cond1, e0, e1]
    word_cmp
   : ∀ t : Fin grid0.N, k0_cond1 (grid0.coords t) = 1#1 ↔ t.val % 11 = 0)

/-- The second output is written at the first point of a row block, -/
theorem idle_first (t : Fin cfg0.N) (h : t.val % 11 = 0) : cfg0.idle 5 (grid0.coords t) = false := by
  show (!(k0_cond1 (grid0.coords t) == 1#1)) = false
  rw [(first_iff t).mpr h]; rfl

/-- and at no other. -/
theorem idle_rest (t : Fin cfg0.N) (h : ¬ t.val % 11 = 0) : cfg0.idle 5 (grid0.coords t) = true := by
  show (!(k0_cond1 (grid0.coords t) == 1#1)) = true
  have := (first_iff t).not.mpr h
  simp [this]

/-- The second output's buffer holds nothing of the current row block at that block's first point alone. -/
theorem fresh_iff (n : ℕ) (hn : n ≤ cfg0.N) : cfg0.fresh 5 n = decide (n % 11 = 0) := by
  refine cfg0.fresh_tab 5 (fun n => decide (n % 11 = 0)) rfl (fun t => ?_) n hn
  have hf : (cfg0.win 5).flush t = decide (t.val % 11 = 10) := by
    by_cases h : t.val % 11 = 10
    · rw [(flush0_5 t).mpr h, decide_eq_true h]
    · rw [decide_eq_false h]; exact Bool.eq_false_iff.mpr fun h' => h ((flush0_5 t).mp h')
  have hi : (cfg0.idle 5 (cfg0.grid.coords t) && decide (t.val % 11 = 0)) = false := by
    by_cases h : t.val % 11 = 0
    · rw [show cfg0.idle 5 (cfg0.grid.coords t) = false from idle_first t h]; rfl
    · rw [decide_eq_false h, Bool.and_false]
  rw [hf, hi, Bool.or_false]
  exact decide_eq_decide.mpr (by omega)

/-- The first point of point `t`'s row block. -/
def start (t : Fin cfg0.N) : Fin cfg0.N := ⟨t.val / 11 * 11, Nat.lt_of_le_of_lt (Nat.div_mul_le_self _ _) t.isLt⟩

/-- A first point is its own block's start; -/
theorem start_first (t : Fin cfg0.N) (h : t.val % 11 = 0) : start t = t := Fin.ext (by show t.val / 11 * 11 = t.val; omega)

/-- a later one's is that of the point before. -/
theorem start_rest (t : Fin cfg0.N) (h : ¬ t.val % 11 = 0) (h' : t.val - 1 < cfg0.N) : start ⟨t.val - 1, h'⟩ = start t :=
  Fin.ext (by show (t.val - 1) / 11 * 11 = t.val / 11 * 11; omega)

/-- The normed rows of point `t`'s row block. -/
def hrows (c : Dev nD) (t : Fin cfg0.N) : Vec F S1024x1024 .bf16 :=
  rows (iblk m c 0 (start t)) (iblk m c 1 (start t)) (iblk m c 2 (start t))

/-- What every window holds after a point: an input its block, the outputs the rows' product and the rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (hrows m c t) (iblk m c 3 t)
    | ⟨5, _⟩ => hrows m c t
  Φ _ := Pipeline.ΦA spec0 c
  q _ := fullShare
  owed _ := 0

/-- The arrays are those that the call finds. -/
theorem arrays (c : Dev nD) (w : Fin cfg0.W) : (dats m 0 c).A w = V m c (Pipeline.arrRef spec0 w) := by
  dsimp only [dats]

/-- What each window's buffer holds after a point. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay2 (hrows m c t) (iblk m c 3 t) := by dsimp only [dats]
theorem after_5 (c : Dev nD) (t : Fin cfg0.N) : (dats m 0 c).after 5 t = hrows m c t := by dsimp only [dats]

/-- What each input's buffer holds before a point: its block. -/
theorem before_0 (c : Dev nD) (t : Fin cfg0.N) (d) : (dats m 0 c).before 0 t d = iblk m c 0 t :=
  before0_0_of m (dats m 0 c) (arrays m c 0) (after_0 m c) t d
theorem before_1 (c : Dev nD) (t : Fin cfg0.N) (d) : (dats m 0 c).before 1 t d = iblk m c 1 t :=
  before0_1_of m (dats m 0 c) (arrays m c 1) (after_1 m c) t d
theorem before_2 (c : Dev nD) (t : Fin cfg0.N) (d) : (dats m 0 c).before 2 t d = iblk m c 2 t :=
  before0_2_of m (dats m 0 c) (arrays m c 2) (after_2 m c) t d
theorem before_3 (c : Dev nD) (t : Fin cfg0.N) (d) : (dats m 0 c).before 3 t d = iblk m c 3 t :=
  before0_3_of m (dats m 0 c) (arrays m c 3) (after_3 m c) t d

/-- At a later point of a row block the second output's buffer holds the block's rows. -/
theorem before_5 (c : Dev nD) (t : Fin cfg0.N) (h : ¬ t.val % 11 = 0) (d) : (dats m 0 c).before 5 t d = hrows m c t := by
  have carry (t : Fin cfg0.N) (h : ¬ t.val % 11 = 0) (h' : t.val - 1 < cfg0.N) :
      (dats m 0 c).after 5 t = (dats m 0 c).after 5 ⟨t.val - 1, h'⟩ := by
    rw [after_5, after_5]; unfold hrows; rw [start_rest t h h']
  have hfr (t : Fin cfg0.N) : cfg0.fresh 5 t.val = decide (t.val % 11 = 0) := fresh_iff t.val (Nat.le_of_lt t.isLt)
  rw [(dats m 0 c).before_out_traj 5 rfl (fun _ _ => rfl)
    (fun t _ _ hf => carry t (by rw [hfr] at hf; exact of_decide_eq_false hf) _) t.val t rfl d, hfr,
    decide_eq_false h, if_neg Bool.false_ne_true, ← carry t h, after_5]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- At the first point of a row block the second output is left at the rows; -/
theorem leaves_first (c : Dev nD) (t : Fin cfg0.N) (h : t.val % 11 = 0) :
    owns (c : Thread nD τ) (st0_5 t) fullShare (hrows m c t) ⊢ ((dats m 0 c).leavesExact 5 t : sProp 𝕄) := by
  unfold Dat.leavesExact
  rw [show cfg0.idle 5 (cfg0.grid.coords t) = false from idle_first t h]
  dsimp only
  rw [after_5]

/-- and so it is at a later one. -/
theorem leaves_rest (c : Dev nD) (t : Fin cfg0.N) (h : ¬ t.val % 11 = 0) :
    owns (c : Thread nD τ) (st0_5 t) fullShare (hrows m c t) ⊢ ((dats m 0 c).leavesExact 5 t : sProp 𝕄) := by
  unfold Dat.leavesExact
  rw [show cfg0.idle 5 (cfg0.grid.coords t) = true from idle_rest t h]
  cases (cfg0.win 5).flush t
  · dsimp only
    iintro H
    iexists (hrows m c t)
    rw [before_5 m c t h]
    iexact H
  · dsimp only
    rw [after_5]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h : t.val % 11 = 0
  · have hr : rows (iblk m c 0 t) (iblk m c 1 t) (iblk m c 2 t) = hrows m c t := by unfold hrows; rw [start_first t h]
    iintro ⟨HΦ, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ ((first_iff t).mpr h) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    rw [hr]
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves_first m c t h)
    iexact H5
  · simp only [before_5 m c t h]
    iintro ⟨HΦ, Ho, ⟨%d0, H0⟩, ⟨%d1, H1⟩, ⟨%d2, H2⟩, ⟨%d3, H3⟩, ⟨%d4, H4⟩, ⟨%d5, H5⟩⟩
    iapply (run_rest c (grid0.coords t) _ _ _ _ _ _ _ _ _ _ _ _ ((first_iff t).not.mpr h) (iblk m c 0 t) (iblk m c 1 t) (iblk m c 2 t) (iblk m c 3 t) (hrows m c t) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves_rest m c t h)
    iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: the arrays end at what the windows' contents make of them, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := arrays m) (hΦ := fun _ _ => rfl)

/-- The run, of the arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, and every semaphore counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (arrays m) (run_main m ρ)) ((θ_run defs _ _).mono (fun _ h => h.2) (run_main_quiescent m ρ))

end Cert.InIdeal.Body

end
-- ==== Proof.SsdSpec.lean ====
/- The state-space mixer's mathematics on extended reals, as plain functions of natural-number positions, with
   the running sums and the finite arithmetic that both programs' proofs need. -/
module

public import proofs.«01_k».proof.Defs
public import Idealize.ShloMosaic.Lib.Pointwise
public import Idealize.ShloMosaic.Lib.Pointwise.Sums

@[expose] public section

set_option maxRecDepth 16384

noncomputable section

open Idealize.ShloMosaic Idealize.ShloMosaic.TcCoe
open scoped BigOperators

namespace Cert.SsdSpec

/-- A matrix as a function of two natural numbers, zero outside its shape. -/
def ext2 {n k : ℕ} (A : (⟨2, ![n, k]⟩ : Shape).Idx → EReal) (i j : ℕ) : EReal :=
  if h : i < n ∧ j < k then A (ix2 ⟨i, h.1⟩ ⟨j, h.2⟩) else 0

/-- A vector as a function of one natural number, zero outside its shape. -/
def ext1 {n : ℕ} (A : (⟨1, ![n]⟩ : Shape).Idx → EReal) (i : ℕ) : EReal :=
  if h : i < n then A (ix1 ⟨i, h⟩) else 0

/-- Inside its shape the extended matrix is the matrix. -/
theorem ext2_val {n k : ℕ} (A : (⟨2, ![n, k]⟩ : Shape).Idx → EReal) (a : Fin n) (b : Fin k) :
    A (ix2 a b) = ext2 A a.val b.val := by
  simp [ext2]

/-- Inside its shape the extended vector is the vector. -/
theorem ext1_val {n : ℕ} (A : (⟨1, ![n]⟩ : Shape).Idx → EReal) (a : Fin n) : A (ix1 a) = ext1 A a.val := by
  simp [ext1]

/-- The arguments of the mixer: the wide activations, the convolution's taps and offsets, the step offsets, the
    logarithms of the decay rates, the skip weights and the norm's gains. -/
structure Ins where
  /-- the wide activations, row and column -/
  u : ℕ → ℕ → EReal
  /-- the convolution's taps -/
  w : ℕ → ℕ → EReal
  /-- the convolution's offsets -/
  cb : ℕ → EReal
  /-- the step sizes' offsets -/
  db : ℕ → EReal
  /-- the logarithms of the decay rates -/
  al : ℕ → EReal
  /-- the skip weights -/
  ds : ℕ → EReal
  /-- the norm's gains -/
  ng : ℕ → EReal

/-- The logistic gate's product. -/
def silu (x : EReal) : EReal := x * Ideal.div 1 (1 + Ideal.exp (-x))

/-- The softplus. -/
def softplus (x : EReal) : EReal := max x 0 + Ideal.log1p (Ideal.exp (-max x (-x)))

variable (I : Ins)

/-- The convolution's input `k` positions back. -/
def xin (b t k j : ℕ) : EReal := if k ≤ t then I.u (b * 2048 + (t - k)) (512 + j) else 0

/-- The causal convolution with its offset. -/
def cv (b t j : ℕ) : EReal :=
  xin I b t 3 j * I.w 0 j + xin I b t 2 j * I.w 1 j + xin I b t 1 j * I.w 2 j + xin I b t 0 j * I.w 3 j + I.cb j

/-- The gated convolution. -/
def act (b t j : ℕ) : EReal := silu (cv I b t j)

/-- The step size. -/
def dt (b t h : ℕ) : EReal := softplus (I.u (b * 2048 + t) (5376 + h) + I.db h)

/-- The logarithm of one position's decay. -/
def da (b t h : ℕ) : EReal := dt I b t h * -Ideal.exp (I.al h)

/-- The running sum of the decays inside a chunk. -/
def acs (b c l h : ℕ) : EReal := ∑ k : Fin 128, if k.val ≤ l then da I b (c * 128 + k.val) h else 0

/-- The values, scaled by their step sizes. -/
def xdt (b t h p : ℕ) : EReal := act I b t (h * 64 + p) * dt I b t h

/-- The input maps. -/
def bm (b t g n : ℕ) : EReal := act I b t (512 + (g * 128 + n))

/-- The output maps. -/
def cm (b t g n : ℕ) : EReal := act I b t (768 + (g * 128 + n))

/-- What a chunk adds to the state. -/
def cst (b c h p n : ℕ) : EReal :=
  ∑ x : Fin 128, Ideal.exp (acs I b c 127 h - acs I b c x.val h) * xdt I b (c * 128 + x.val) h p * bm I b (c * 128 + x.val) (h / 4) n

/-- The state before a chunk. -/
def st (b : ℕ) : ℕ → ℕ → ℕ → ℕ → EReal
  | 0, _, _, _ => 0
  | c + 1, h, p, n => st b c h p n * Ideal.exp (acs I b c 127 h) + cst I b c h p n

/-- The decay between two positions of a chunk. -/
def seg (b c l s h : ℕ) : EReal :=
  Ideal.exp (if s ≤ l then ∑ k : Fin 128, (if k.val ≤ l then (if s < k.val then da I b (c * 128 + k.val) h else 0) else 0) else ⊥)

/-- The mixer's output before the gate. -/
def y (b c l h p : ℕ) : EReal :=
  (∑ s : Fin 128, xdt I b (c * 128 + s.val) h p *
      ((∑ n : Fin 128, cm I b (c * 128 + l) (h / 4) n.val * bm I b (c * 128 + s.val) (h / 4) n.val) * seg I b c l s.val h))
    + (∑ n : Fin 128, st I b c h p n.val * cm I b (c * 128 + l) (h / 4) n.val) * Ideal.exp (acs I b c l h)
    + act I b (c * 128 + l) (h * 64 + p) * I.ds h

/-- The gated output. -/
def yz (b c l j : ℕ) : EReal := y I b c l (j / 64) (j % 64) * silu (I.u (b * 2048 + (c * 128 + l)) j)

/-- The grouped root-mean-square norm of the gated output. -/
def out (b c l j : ℕ) : EReal :=
  yz I b c l j * Ideal.rsqrt (Ideal.div (∑ x : Fin 256, yz I b c l (j / 256 * 256 + x.val) * yz I b c l (j / 256 * 256 + x.val))
    (Ideal.ofBits .f32 0x43800000#32) + Ideal.ofBits .f32 0x358637BD#32) * I.ng j

/-! ## Running sums -/

/-- A left fold of additions from zero over all positions is their sum. -/
theorem foldl_finRange {n : ℕ} (f : Fin n → EReal) : (List.finRange n).foldl (fun r k => r + f k) 0 = ∑ k, f k := by
  rw [Fin.sum_univ_def, List.sum_eq_foldl, List.foldl_map]

/-- A window of 128 positions that ends at `l` is the positions up to `l`. -/
theorem window_sum (f : Fin 128 → EReal) (l : Fin 128) :
    (∑ e : Fin 128, if h : 127 ≤ l.val + e.val ∧ l.val + e.val - 127 < 128 then f ⟨l.val + e.val - 127, h.2⟩ else 0)
      = ∑ k : Fin 128, if k.val ≤ l.val then f k else 0 := by
  have e1 : ∀ e : Fin 128, (if h : 127 ≤ l.val + e.val ∧ l.val + e.val - 127 < 128 then f ⟨l.val + e.val - 127, h.2⟩ else (0 : EReal))
      = if 127 ≤ l.val + e.val then f ⟨(l.val + e.val - 127) % 128, Nat.mod_lt _ (by norm_num)⟩ else 0 := by
    intro e
    have he := e.isLt; have hl := l.isLt
    by_cases h : 127 ≤ l.val + e.val
    · rw [dif_pos ⟨h, by omega⟩, if_pos h]; congr 1; apply Fin.ext; show l.val + e.val - 127 = (l.val + e.val - 127) % 128; omega
    · rw [dif_neg (fun h' => h h'.1), if_neg h]
  rw [Finset.sum_congr rfl fun e _ => e1 e, ← Finset.sum_filter, ← Finset.sum_filter]
  refine Finset.sum_bij' (fun e _ => ⟨(l.val + e.val - 127) % 128, Nat.mod_lt _ (by norm_num)⟩)
    (fun k _ => ⟨(k.val + 127 - l.val) % 128, Nat.mod_lt _ (by norm_num)⟩) ?_ ?_ ?_ ?_ ?_
  · intro e he; simp only [Finset.mem_filter, Finset.mem_univ, true_and] at he ⊢
    have := e.isLt; have := l.isLt; omega
  · intro k hk; simp only [Finset.mem_filter, Finset.mem_univ, true_and] at hk ⊢
    have := k.isLt; have := l.isLt; omega
  · intro e he; simp only [Finset.mem_filter, Finset.mem_univ, true_and] at he
    have := e.isLt; have := l.isLt; apply Fin.ext; show ((l.val + e.val - 127) % 128 + 127 - l.val) % 128 = e.val; omega
  · intro k hk; simp only [Finset.mem_filter, Finset.mem_univ, true_and] at hk
    have := k.isLt; have := l.isLt; apply Fin.ext; show (l.val + (k.val + 127 - l.val) % 128 - 127) % 128 = k.val; omega
  · intro e he; rfl

/-- A padded window sum of the last of five axes is the sum up to the position. -/
theorem cumsum5 {n0 n1 n2 n3 : ℕ} (x : (⟨5, ![n0, n1, n2, n3, 128]⟩ : Shape).Idx → EReal)
    (h : (⟨5, ![n0, n1, n2, n3, 128]⟩ : Shape).ReduceWindows ![1, 1, 1, 1, 128] ![1, 1, 1, 1, 1] ![0, 0, 0, 0, 127] ![0, 0, 0, 0, 0]
      ⟨5, ![n0, n1, n2, n3, 128]⟩) (a : Fin n0) (b : Fin n1) (c : Fin n2) (d : Fin n3) (l : Fin 128) :
    Ideal.hostReduceWindowAdd ![1, 1, 1, 1, 128] ![1, 1, 1, 1, 1] ![0, 0, 0, 0, 127] ![0, 0, 0, 0, 0] h x 0 (ix5 a b c d l)
      = ∑ k : Fin 128, if k.val ≤ l.val then x (ix5 a b c d k) else 0 := by
  unfold Ideal.hostReduceWindowAdd Host.reduceWindow
  dsimp only
  refine (foldl_finRange _).trans ?_
  rw [← Equiv.sum_comp (Shape.rowMajor ⟨5, ![1, 1, 1, 1, 128]⟩)]
  simp only [Equiv.symm_apply_apply]
  rw [sum_idx5]
  simp only [Fin.sum_univ_one]
  rw [← window_sum (fun k => x (ix5 a b c d k)) l]
  refine Finset.sum_congr rfl fun e _ => ?_
  have he := e.isLt; have hl := l.isLt
  by_cases hc : 127 ≤ l.val + e.val
  · rw [dif_pos, dif_pos (show _ ∧ _ from ⟨hc, by omega⟩)]
    · congr 1; funext i; apply Fin.ext; fin_cases i <;> simp [ix5] <;> rfl
    · intro i; fin_cases i <;> simp [ix5] <;> omega
  · rw [dif_neg, dif_neg fun h' => hc h'.1]
    intro h'; apply hc; simpa [ix5] using (h' 4).1

/-- A padded window sum of the fifth of six axes is the sum up to the position. -/
theorem cumsum6 {n0 n1 n2 n3 n5 : ℕ} (x : (⟨6, ![n0, n1, n2, n3, 128, n5]⟩ : Shape).Idx → EReal)
    (h : (⟨6, ![n0, n1, n2, n3, 128, n5]⟩ : Shape).ReduceWindows ![1, 1, 1, 1, 128, 1] ![1, 1, 1, 1, 1, 1] ![0, 0, 0, 0, 127, 0] ![0, 0, 0, 0, 0, 0]
      ⟨6, ![n0, n1, n2, n3, 128, n5]⟩) (a : Fin n0) (b : Fin n1) (c : Fin n2) (d : Fin n3) (l : Fin 128) (q : Fin n5) :
    Ideal.hostReduceWindowAdd ![1, 1, 1, 1, 128, 1] ![1, 1, 1, 1, 1, 1] ![0, 0, 0, 0, 127, 0] ![0, 0, 0, 0, 0, 0] h x 0 (ix6 a b c d l q)
      = ∑ k : Fin 128, if k.val ≤ l.val then x (ix6 a b c d k q) else 0 := by
  unfold Ideal.hostReduceWindowAdd Host.reduceWindow
  dsimp only
  refine (foldl_finRange _).trans ?_
  rw [← Equiv.sum_comp (Shape.rowMajor ⟨6, ![1, 1, 1, 1, 128, 1]⟩)]
  simp only [Equiv.symm_apply_apply]
  rw [sum_idx6]
  simp only [Fin.sum_univ_one]
  rw [← window_sum (fun k => x (ix6 a b c d k q)) l]
  refine Finset.sum_congr rfl fun e _ => ?_
  have he := e.isLt; have hl := l.isLt
  by_cases hc : 127 ≤ l.val + e.val
  · rw [dif_pos, dif_pos (show _ ∧ _ from ⟨hc, by omega⟩)]
    · congr 1; funext i; apply Fin.ext; fin_cases i <;> simp [ix6] <;> rfl
    · intro i; fin_cases i <;> simp [ix6] <;> omega
  · rw [dif_neg, dif_neg fun h' => hc h'.1]
    intro h'; apply hc; simpa [ix6] using (h' 4).1

/-- The host's running sum of the last of five axes, from a zero start. -/
theorem hostCumsum5 {n0 n1 n2 n3 : ℕ} (x : (⟨5, ![n0, n1, n2, n3, 128]⟩ : Shape).Idx → EReal)
    (i : (⟨0, ![]⟩ : Shape).Idx → EReal) (hi : i = fun _ => 0)
    (h : (⟨5, ![n0, n1, n2, n3, 128]⟩ : Shape).ReduceWindows ![1, 1, 1, 1, 128] ![1, 1, 1, 1, 1] ![0, 0, 0, 0, 127] ![0, 0, 0, 0, 0]
      ⟨5, ![n0, n1, n2, n3, 128]⟩) (hu : 0 < (⟨0, ![]⟩ : Shape).numel) (a : Fin n0) (b : Fin n1) (c : Fin n2) (d : Fin n3) (l : Fin 128) :
    (Host.reduceWindowAdd (F := Ideal) (φ := .f32) ![1, 1, 1, 1, 128] ![1, 1, 1, 1, 1] ![0, 0, 0, 0, 127] ![0, 0, 0, 0, 0] x i h hu (ix5 a b c d l) : EReal)
      = ∑ k : Fin 128, if k.val ≤ l.val then x (ix5 a b c d k) else 0 := by
  subst hi
  unfold Host.reduceWindowAdd
  rw [Ideal.hostReduceWindowAdd_def]
  exact cumsum5 x h a b c d l

/-- The host's running sum of the fifth of six axes, from a zero start. -/
theorem hostCumsum6 {n0 n1 n2 n3 n5 : ℕ} (x : (⟨6, ![n0, n1, n2, n3, 128, n5]⟩ : Shape).Idx → EReal)
    (i : (⟨0, ![]⟩ : Shape).Idx → EReal) (hi : i = fun _ => 0)
    (h : (⟨6, ![n0, n1, n2, n3, 128, n5]⟩ : Shape).ReduceWindows ![1, 1, 1, 1, 128, 1] ![1, 1, 1, 1, 1, 1] ![0, 0, 0, 0, 127, 0] ![0, 0, 0, 0, 0, 0]
      ⟨6, ![n0, n1, n2, n3, 128, n5]⟩) (hu : 0 < (⟨0, ![]⟩ : Shape).numel) (a : Fin n0) (b : Fin n1) (c : Fin n2) (d : Fin n3) (l : Fin 128) (q : Fin n5) :
    (Host.reduceWindowAdd (F := Ideal) (φ := .f32) ![1, 1, 1, 1, 128, 1] ![1, 1, 1, 1, 1, 1] ![0, 0, 0, 0, 127, 0] ![0, 0, 0, 0, 0, 0] x i h hu (ix6 a b c d l q) : EReal)
      = ∑ k : Fin 128, if k.val ≤ l.val then x (ix6 a b c d k q) else 0 := by
  subst hi
  unfold Host.reduceWindowAdd
  rw [Ideal.hostReduceWindowAdd_def]
  exact cumsum6 x h a b c d l q

/-! ## Finite arithmetic -/

/-- A sum of real numbers is a real number. -/
theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

/-- A partial sum of real numbers is the real partial sum. -/
theorem coe_sum_if {n : ℕ} (p : Fin n → Prop) [DecidablePred p] (f : Fin n → ℝ) :
    (∑ k, if p k then (f k : EReal) else 0) = ((∑ k, if p k then f k else 0 : ℝ) : EReal) := by
  rw [← coe_sum]; refine Finset.sum_congr rfl fun k _ => ?_; split_ifs <;> simp

/-- An extended real that is a real number. -/
def Fin' (x : EReal) : Prop := ∃ r : ℝ, x = r

/-- The difference of a real number with itself is zero. -/
theorem Fin'.sub_self {x : EReal} (h : Fin' x) : x - x = 0 := by
  obtain ⟨r, rfl⟩ := h; rw [← EReal.coe_sub]; simp

/-- The product of two real numbers is one. -/
theorem Fin'.mul {x y : EReal} (hx : Fin' x) (hy : Fin' y) : Fin' (x * y) := by
  obtain ⟨r, rfl⟩ := hx; obtain ⟨s, rfl⟩ := hy; exact ⟨r * s, by rw [EReal.coe_mul]⟩

/-- The sum of two real numbers is one. -/
theorem Fin'.add {x y : EReal} (hx : Fin' x) (hy : Fin' y) : Fin' (x + y) := by
  obtain ⟨r, rfl⟩ := hx; obtain ⟨s, rfl⟩ := hy; exact ⟨r + s, by rw [EReal.coe_add]⟩

/-- The difference of two real numbers is one. -/
theorem Fin'.sub {x y : EReal} (hx : Fin' x) (hy : Fin' y) : Fin' (x - y) := by
  obtain ⟨r, rfl⟩ := hx; obtain ⟨s, rfl⟩ := hy; exact ⟨r - s, by rw [EReal.coe_sub]⟩

/-- The opposite of a real number is one. -/
theorem Fin'.neg {x : EReal} (hx : Fin' x) : Fin' (-x) := by
  obtain ⟨r, rfl⟩ := hx; exact ⟨-r, by rw [EReal.coe_neg]⟩

/-- The exponential of anything but plus infinity is a real number. -/
theorem Fin'.exp {x : EReal} (hx : x < ⊤) : Fin' (Ideal.exp x) := by
  induction x with
  | bot => exact ⟨0, rfl⟩
  | top => exact absurd hx (lt_irrefl _)
  | coe r => exact ⟨Real.exp r, rfl⟩

/-- The logarithm of one plus an exponential of a real number is a real number. -/
theorem Fin'.log1p {r : ℝ} (hr : 0 ≤ r) : Fin' (Ideal.log1p (r : EReal)) := by
  refine ⟨Real.log (1 + r), ?_⟩
  have e : (1 : EReal) + (r : EReal) = ((1 + r : ℝ) : EReal) := by rw [EReal.coe_add]; rfl
  show Ideal.log (1 + (r : EReal)) = _
  rw [e]
  show (if 1 + r ≤ 0 then ⊥ else (Real.log (1 + r) : EReal)) = _
  rw [if_neg (by linarith)]

/-- The softplus of anything but plus infinity is a real number. -/
theorem Fin'.softplus {x : EReal} (hx : x < ⊤) : Fin' (softplus x) := by
  unfold SsdSpec.softplus
  induction x with
  | bot =>
    have : Ideal.exp (-max (⊥ : EReal) (-⊥)) = ((0 : ℝ) : EReal) := by
      rw [EReal.neg_bot, max_eq_right bot_le, EReal.neg_top]; rfl
    rw [this]
    exact Fin'.add ⟨0, by simp⟩ (Fin'.log1p le_rfl)
  | top => exact absurd hx (lt_irrefl _)
  | coe r =>
    have : Ideal.exp (-max (r : EReal) (-r)) = ((Real.exp (-max r (-r)) : ℝ) : EReal) := by
      rw [← EReal.coe_neg, ← EReal.coe_strictMono.monotone.map_max, ← EReal.coe_neg]; rfl
    rw [this]
    refine Fin'.add ⟨max r 0, ?_⟩ (Fin'.log1p (Real.exp_nonneg _))
    rw [EReal.coe_strictMono.monotone.map_max]; rfl

/-- A sum of real numbers, with hypotheses. -/
theorem Fin'.sum {n : ℕ} (f : Fin n → EReal) (h : ∀ k, Fin' (f k)) : Fin' (∑ k, f k) := by
  choose g hg using h
  exact ⟨∑ k, g k, by rw [← coe_sum]; exact Finset.sum_congr rfl fun k _ => hg k⟩

/-- The difference of two running sums of real numbers is the sum between. -/
theorem sub_sums {n : ℕ} (f : Fin n → EReal) (h : ∀ k, Fin' (f k)) (l s : ℕ) (hs : s ≤ l) :
    (∑ k : Fin n, if k.val ≤ l then f k else 0) - (∑ k : Fin n, if k.val ≤ s then f k else 0)
      = ∑ k : Fin n, if k.val ≤ l then (if s < k.val then f k else 0) else 0 := by
  choose g hg using h
  have e : f = fun k => (g k : EReal) := funext hg
  subst e
  rw [coe_sum_if, coe_sum_if, ← EReal.coe_sub, ← Finset.sum_sub_distrib, ← coe_sum]
  refine Finset.sum_congr rfl fun k _ => ?_
  by_cases h1 : k.val ≤ l <;> by_cases h2 : k.val ≤ s <;> simp [h1, h2] <;> omega

end Cert.SsdSpec

end
-- ==== Proof.SsdConv.lean ====
/- The kernel's convolution, step sizes and running sums, each as the named function of positions that it computes. -/
module

public import proofs.«01_k».proof.Defs
public import proofs.«01_k».proof.Proof.Gen.SsdIdeal.Value
public import proofs.«01_k».proof.Proof.SsdSpec
public import Idealize.ShloMosaic.Lib.Pipeline.ValueKit
public import Idealize.ShloMosaic.Lib.Pointwise
public import Idealize.ShloMosaic.Lib.Pointwise.Sums
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SsdIdeal.Proof

open Cert.SsdIdeal Cert.SsdIdeal.Gen Cert.SsdSpec

/-! ## Words and masks -/

/-- The words of the first eight rows, tested against 1. -/
theorem slt8_1 : ∀ r : Fin 8, IntOp.cmpi .slt (BitVec.ofNat 32 r.val) 1#32 = if r.val < 1 then 1#1 else 0#1 := by decide +kernel

/-- The words of the first eight rows, tested against 2. -/
theorem slt8_2 : ∀ r : Fin 8, IntOp.cmpi .slt (BitVec.ofNat 32 r.val) 2#32 = if r.val < 2 then 1#1 else 0#1 := by decide +kernel

/-- The words of the first eight rows, tested against 3. -/
theorem slt8_3 : ∀ r : Fin 8, IntOp.cmpi .slt (BitVec.ofNat 32 r.val) 3#32 = if r.val < 3 then 1#1 else 0#1 := by decide +kernel

/-- The words of the lanes, tested against eight. -/
theorem slt128 : ∀ r : Fin 128, IntOp.cmpi .slt (BitVec.ofNat 32 r.val) 8#32 = if r.val < 8 then 1#1 else 0#1 := by decide +kernel

/-- The words of two positions, compared. -/
theorem sle128 : ∀ x r : Fin 128, IntOp.cmpi .sle (BitVec.ofNat 32 x.val) (BitVec.ofNat 32 r.val)
    = if x.val ≤ r.val then 1#1 else 0#1 := by decide +kernel

/-- The head of a column, as a word. -/
theorem head512 : ∀ j : Fin 512, IntOp.shrsi .vector (BitVec.ofNat 32 j.val) 6#32 = BitVec.ofNat 32 (j.val / 64) := by decide +kernel

/-- The words of a head and of a lane, compared. -/
theorem eq128 : ∀ a : Fin 8, ∀ x : Fin 128, IntOp.cmpi .eq (BitVec.ofNat 32 a.val) (BitVec.ofNat 32 x.val)
    = if x.val = a.val then 1#1 else 0#1 := by decide +kernel

/-- A decided bit, widened and made a number, is one or zero. -/
theorem bit_num (p : Prop) [Decidable p] :
    (FloatOps.sitofp (F := Ideal) FTy.f32 (BitVec.setWidth 32 (if p then 1#1 else 0#1)) : EReal) = if p then 1 else 0 := by
  split_ifs
  · show (((BitVec.setWidth 32 1#1).toInt : ℝ) : EReal) = 1
    have : (BitVec.setWidth 32 1#1).toInt = 1 := by decide
    rw [this]; simp
  · show (((BitVec.setWidth 32 0#1).toInt : ℝ) : EReal) = 0
    have : (BitVec.setWidth 32 0#1).toInt = 0 := by decide
    rw [this]; simp

/-- A selection by a decided bit is the conditional. -/
theorem sel_ite (p : Prop) [Decidable p] (a b : EReal) : Scalar.select (if p then 1#1 else 0#1) a b = if p then a else b := by
  split_ifs <;> rfl

/-- The largest negative word is minus infinity. -/
theorem negInf : Ideal.ofBits .f32 0xFF800000#32 = ⊥ := by
  simp [Ideal.ofBits, Ideal.ieee]

/-- A matrix product with the lower triangle of ones, over a number's three parts, is the running sum. -/
theorem cumsum3 (v : Fin 128 → EReal) (r : Fin 128) (h : ∀ k, Fin' (v k)) :
    (∑ x : Fin 128, FloatOps.sitofp (F := Ideal) FTy.f32 (BitVec.setWidth 32 (IntOp.cmpi .sle (BitVec.ofNat 32 x.val) (BitVec.ofNat 32 r.val))) * v x)
      + (∑ x : Fin 128, FloatOps.sitofp (F := Ideal) FTy.f32 (BitVec.setWidth 32 (IntOp.cmpi .sle (BitVec.ofNat 32 x.val) (BitVec.ofNat 32 r.val))) * (v x - v x))
      + (∑ x : Fin 128, FloatOps.sitofp (F := Ideal) FTy.f32 (BitVec.setWidth 32 (IntOp.cmpi .sle (BitVec.ofNat 32 x.val) (BitVec.ofNat 32 r.val))) * (v x - v x - (v x - v x)))
      = ∑ k : Fin 128, if k.val ≤ r.val then v k else 0 := by
  have e : ∀ x : Fin 128, (FloatOps.sitofp (F := Ideal) FTy.f32 (BitVec.setWidth 32 (IntOp.cmpi .sle (BitVec.ofNat 32 x.val) (BitVec.ofNat 32 r.val))) : EReal)
      = if x.val ≤ r.val then 1 else 0 := fun x => by rw [sle128 x r]; exact bit_num _
  have e0 : ∀ x, v x - v x = 0 := fun x => (h x).sub_self
  have e1 : ∀ x, v x - v x - (v x - v x) = 0 := fun x => by rw [e0 x]; exact (show Fin' (0 : EReal) from ⟨0, rfl⟩).sub_self
  have z1 : (∑ x : Fin 128, FloatOps.sitofp (F := Ideal) FTy.f32 (BitVec.setWidth 32 (IntOp.cmpi .sle (BitVec.ofNat 32 x.val) (BitVec.ofNat 32 r.val))) * (v x - v x) : EReal) = 0 :=
    Finset.sum_eq_zero fun x _ => by rw [e0 x]; exact mul_zero _
  have z2 : (∑ x : Fin 128, FloatOps.sitofp (F := Ideal) FTy.f32 (BitVec.setWidth 32 (IntOp.cmpi .sle (BitVec.ofNat 32 x.val) (BitVec.ofNat 32 r.val))) * (v x - v x - (v x - v x)) : EReal) = 0 :=
    Finset.sum_eq_zero fun x _ => by rw [e1 x]; exact mul_zero _
  refine (congrArg₂ (· + ·) (congrArg₂ (· + ·) rfl z1) z2).trans ?_
  rw [add_zero, add_zero]
  refine Finset.sum_congr rfl fun x _ => ?_
  refine (congrArg (· * v x) (e x)).trans ?_
  split_ifs <;> simp

/-- The matrix that repeats a head's lane over the head's columns. -/
abbrev expd (x : Fin 128) (j : Fin 512) : EReal :=
  FloatOps.sitofp (F := Ideal) FTy.f32 (BitVec.setWidth 32 (IntOp.cmpi .eq (IntOp.shrsi .vector (BitVec.ofNat 32 j.val) 6#32) (BitVec.ofNat 32 x.val)))

/-- A matrix product with that matrix, over a number's three parts, reads the head's lane. -/
theorem expand3 (v : Fin 128 → EReal) (j : Fin 512) (h : Fin' (v ⟨j.val / 64, by omega⟩)) :
    (∑ x : Fin 128, v x * expd x j) + (∑ x : Fin 128, (v x - v x) * expd x j) + (∑ x : Fin 128, (v x - v x - (v x - v x)) * expd x j)
      = v ⟨j.val / 64, by omega⟩ := by
  have e : ∀ x : Fin 128, expd x j = if x.val = j.val / 64 then 1 else 0 := fun x => by
    unfold expd; rw [head512 j, eq128 ⟨j.val / 64, by omega⟩ x]; exact bit_num _
  have key : ∀ f : Fin 128 → EReal, ∑ x : Fin 128, f x * expd x j = f ⟨j.val / 64, by omega⟩ := fun f => by
    rw [Finset.sum_eq_single ⟨j.val / 64, by omega⟩]
    · rw [e, if_pos rfl, mul_one]
    · intro x _ hx; rw [e, if_neg fun hh => hx (Fin.ext hh), mul_zero]
    · intro hx; exact absurd (Finset.mem_univ _) hx
  rw [key v, key fun x => v x - v x, key fun x => v x - v x - (v x - v x), h.sub_self]
  simp

/-! ## The convolution -/

variable (I : Ins) (b c : ℕ)

section Conv

variable {v5 : Vec Ideal S128x1024 .f32} {v6 : Vec Ideal S8x1024 .f32}
  (h5 : ∀ r j, (v5 (ix2 r j) : EReal) = I.u (b * 2048 + (c * 128 + r.val)) (512 + j.val))
  (h6 : ∀ i j, (v6 (ix2 i j) : EReal) = if 8 ≤ c * 128 + i.val then I.u (b * 2048 + (c * 128 + i.val - 8)) (512 + j.val) else 0)
include h5 h6

/-- The block shifted down by 1, its first rows from the rows before the block. -/
theorem shift1 (r : Fin 128) (j : Fin 1024) :
    ((if h : r.val < 8 then
        Scalar.select (IntOp.cmpi .slt (BitVec.ofNat 32 r.val) 1#32) (v6 (ix2 ⟨(r.val + 8 - 1) % 8, Nat.mod_lt _ (by norm_num)⟩ j))
          (v5 (ix2 ⟨(r.val + 128 - 1) % 128, Nat.mod_lt _ (by norm_num)⟩ j))
      else v5 (ix2 ⟨(8 + (r.val - 8) + 128 - 1) % 128, Nat.mod_lt _ (by norm_num)⟩ j)) : EReal) = xin I b (c * 128 + r.val) 1 j.val := by
  have hr := r.isLt
  unfold xin
  split_ifs with h1 h2 h2
  · have e : IntOp.cmpi .slt (BitVec.ofNat 32 r.val) 1#32 = if r.val < 1 then 1#1 else 0#1 := slt8_1 ⟨r.val, h1⟩
    refine (congrArg (fun w => Scalar.select w _ _) e).trans ?_
    refine (sel_ite _ _ _).trans ?_
    split_ifs with h3
    · refine (h6 _ _).trans ?_
      have a1 : (r.val + 8 - 1) % 8 = r.val + 8 - 1 := by omega
      simp only [a1]; rw [if_pos (by omega)]; congr 2
    · refine (h5 _ _).trans ?_
      have a1 : (r.val + 128 - 1) % 128 = r.val - 1 := by omega
      simp only [a1]; congr 2; omega
  · have e : IntOp.cmpi .slt (BitVec.ofNat 32 r.val) 1#32 = if r.val < 1 then 1#1 else 0#1 := slt8_1 ⟨r.val, h1⟩
    refine (congrArg (fun w => Scalar.select w _ _) e).trans ?_
    refine (sel_ite _ _ _).trans ?_
    rw [if_pos (show r.val < 1 by omega)]
    refine (h6 _ _).trans ?_
    have a1 : (r.val + 8 - 1) % 8 = r.val + 8 - 1 := by omega
    simp only [a1]; rw [if_neg (by omega)]
  · refine (h5 _ _).trans ?_
    have a1 : (8 + (r.val - 8) + 128 - 1) % 128 = r.val - 1 := by omega
    simp only [a1]; congr 2; omega
  · omega

/-- The block shifted down by 2, its first rows from the rows before the block. -/
theorem shift2 (r : Fin 128) (j : Fin 1024) :
    ((if h : r.val < 8 then
        Scalar.select (IntOp.cmpi .slt (BitVec.ofNat 32 r.val) 2#32) (v6 (ix2 ⟨(r.val + 8 - 2) % 8, Nat.mod_lt _ (by norm_num)⟩ j))
          (v5 (ix2 ⟨(r.val + 128 - 2) % 128, Nat.mod_lt _ (by norm_num)⟩ j))
      else v5 (ix2 ⟨(8 + (r.val - 8) + 128 - 2) % 128, Nat.mod_lt _ (by norm_num)⟩ j)) : EReal) = xin I b (c * 128 + r.val) 2 j.val := by
  have hr := r.isLt
  unfold xin
  split_ifs with h1 h2 h2
  · have e : IntOp.cmpi .slt (BitVec.ofNat 32 r.val) 2#32 = if r.val < 2 then 1#1 else 0#1 := slt8_2 ⟨r.val, h1⟩
    refine (congrArg (fun w => Scalar.select w _ _) e).trans ?_
    refine (sel_ite _ _ _).trans ?_
    split_ifs with h3
    · refine (h6 _ _).trans ?_
      have a1 : (r.val + 8 - 2) % 8 = r.val + 8 - 2 := by omega
      simp only [a1]; rw [if_pos (by omega)]; congr 2
    · refine (h5 _ _).trans ?_
      have a1 : (r.val + 128 - 2) % 128 = r.val - 2 := by omega
      simp only [a1]; congr 2; omega
  · have e : IntOp.cmpi .slt (BitVec.ofNat 32 r.val) 2#32 = if r.val < 2 then 1#1 else 0#1 := slt8_2 ⟨r.val, h1⟩
    refine (congrArg (fun w => Scalar.select w _ _) e).trans ?_
    refine (sel_ite _ _ _).trans ?_
    rw [if_pos (show r.val < 2 by omega)]
    refine (h6 _ _).trans ?_
    have a1 : (r.val + 8 - 2) % 8 = r.val + 8 - 2 := by omega
    simp only [a1]; rw [if_neg (by omega)]
  · refine (h5 _ _).trans ?_
    have a1 : (8 + (r.val - 8) + 128 - 2) % 128 = r.val - 2 := by omega
    simp only [a1]; congr 2; omega
  · omega

/-- The block shifted down by 3, its first rows from the rows before the block. -/
theorem shift3 (r : Fin 128) (j : Fin 1024) :
    ((if h : r.val < 8 then
        Scalar.select (IntOp.cmpi .slt (BitVec.ofNat 32 r.val) 3#32) (v6 (ix2 ⟨(r.val + 8 - 3) % 8, Nat.mod_lt _ (by norm_num)⟩ j))
          (v5 (ix2 ⟨(r.val + 128 - 3) % 128, Nat.mod_lt _ (by norm_num)⟩ j))
      else v5 (ix2 ⟨(8 + (r.val - 8) + 128 - 3) % 128, Nat.mod_lt _ (by norm_num)⟩ j)) : EReal) = xin I b (c * 128 + r.val) 3 j.val := by
  have hr := r.isLt
  unfold xin
  split_ifs with h1 h2 h2
  · have e : IntOp.cmpi .slt (BitVec.ofNat 32 r.val) 3#32 = if r.val < 3 then 1#1 else 0#1 := slt8_3 ⟨r.val, h1⟩
    refine (congrArg (fun w => Scalar.select w _ _) e).trans ?_
    refine (sel_ite _ _ _).trans ?_
    split_ifs with h3
    · refine (h6 _ _).trans ?_
      have a1 : (r.val + 8 - 3) % 8 = r.val + 8 - 3 := by omega
      simp only [a1]; rw [if_pos (by omega)]; congr 2
    · refine (h5 _ _).trans ?_
      have a1 : (r.val + 128 - 3) % 128 = r.val - 3 := by omega
      simp only [a1]; congr 2; omega
  · have e : IntOp.cmpi .slt (BitVec.ofNat 32 r.val) 3#32 = if r.val < 3 then 1#1 else 0#1 := slt8_3 ⟨r.val, h1⟩
    refine (congrArg (fun w => Scalar.select w _ _) e).trans ?_
    refine (sel_ite _ _ _).trans ?_
    rw [if_pos (show r.val < 3 by omega)]
    refine (h6 _ _).trans ?_
    have a1 : (r.val + 8 - 3) % 8 = r.val + 8 - 3 := by omega
    simp only [a1]; rw [if_neg (by omega)]
  · refine (h5 _ _).trans ?_
    have a1 : (8 + (r.val - 8) + 128 - 3) % 128 = r.val - 3 := by omega
    simp only [a1]; congr 2; omega
  · omega

/-- The gated convolution of a block. -/
theorem pay8 {v26 v34 : Vec Ideal S128x1024 .f32} {w1 w0 : Vec Ideal S1x1024 .f32}
    (h26 : ∀ r j, (v26 (ix2 r j) : EReal) = xin I b (c * 128 + r.val) 0 j.val * I.w 3 j.val + I.cb j.val + xin I b (c * 128 + r.val) 1 j.val * I.w 2 j.val)
    (h34 : ∀ r j, (v34 (ix2 r j) : EReal) = xin I b (c * 128 + r.val) 2 j.val)
    (hw1 : ∀ j : Fin 1024, (w1 (ix2 0 j) : EReal) = I.w 1 j.val) (hw0 : ∀ j : Fin 1024, (w0 (ix2 0 j) : EReal) = I.w 0 j.val)
    (r : Fin 128) (j : Fin 1024) :
    (k0_pay8 v5 v6 (iota .tc S8x1024 32 [0] iota_S8x1024_d0_w32) v26 v34 w1 w0 (ix2 r j) : EReal) = act I b (c * 128 + r.val) j.val := by
  unfold k0_pay8
  pointwise
  rw [shift3 I b c h5 h6 r j, h26, h34, hw1, hw0]
  have e : xin I b (c * 128 + r.val) 0 j.val * I.w 3 j.val + I.cb j.val + xin I b (c * 128 + r.val) 1 j.val * I.w 2 j.val
      + xin I b (c * 128 + r.val) 2 j.val * I.w 1 j.val + xin I b (c * 128 + r.val) 3 j.val * I.w 0 j.val = cv I b (c * 128 + r.val) j.val := by
    unfold cv; ac_rfl
  rw [e]; unfold act silu; rw [zero_sub]

end Conv

section Conv2

variable {x1 x2 : Vec Ideal S128x512 .f32} {tl : Vec Ideal S8x1024 .f32} {w3 w2 w1 w0 cb : Vec Ideal S1x1024 .f32}
  (h1 : ∀ r j, (x1 (ix2 r j) : EReal) = I.u (b * 2048 + (c * 128 + r.val)) (512 + j.val))
  (h2 : ∀ r j, (x2 (ix2 r j) : EReal) = I.u (b * 2048 + (c * 128 + r.val)) (1024 + j.val))
  (ht : ∀ i j, (tl (ix2 i j) : EReal) = if 8 ≤ c * 128 + i.val then I.u (b * 2048 + (c * 128 + i.val - 8)) (512 + j.val) else 0)
  (hw3 : ∀ j : Fin 1024, (w3 (ix2 0 j) : EReal) = I.w 3 j.val) (hw2 : ∀ j : Fin 1024, (w2 (ix2 0 j) : EReal) = I.w 2 j.val)
  (hw1 : ∀ j : Fin 1024, (w1 (ix2 0 j) : EReal) = I.w 1 j.val) (hw0 : ∀ j : Fin 1024, (w0 (ix2 0 j) : EReal) = I.w 0 j.val)
  (hcb : ∀ j : Fin 1024, (cb (ix2 0 j) : EReal) = I.cb j.val)
include h1 h2

/-- The two blocks side by side. -/
theorem pay4 (r : Fin 128) (j : Fin 1024) :
    (k0_pay4 x1 x2 (ix2 r j) : EReal) = I.u (b * 2048 + (c * 128 + r.val)) (512 + j.val) := by
  unfold k0_pay4
  pointwise
  split_ifs with h
  · exact h1 _ _
  · refine (h2 _ _).trans ?_
    dsimp only; congr 1; omega
  · exact absurd rfl (by assumption)

/-- The rows kept for the next block. -/
theorem pay7 (i : Fin 8) (j : Fin 1024) :
    (k0_pay7 (k0_pay4 x1 x2) (ix2 i j) : EReal) = if 8 ≤ (c + 1) * 128 + i.val then I.u (b * 2048 + ((c + 1) * 128 + i.val - 8)) (512 + j.val) else 0 := by
  unfold k0_pay7
  generalize hX : k0_pay4 x1 x2 = v5
  pointwise
  rw [← hX, pay4 I b c h1 h2, if_pos (by omega)]
  dsimp only; congr 2; omega

include ht

theorem pay6 (r : Fin 128) (j : Fin 1024) : (k0_pay6 x1 x2 tl (ix2 r j) : EReal) = xin I b (c * 128 + r.val) 2 j.val := by
  unfold k0_pay6
  generalize hX : k0_pay4 x1 x2 = v5
  pointwise
  exact shift2 I b c (fun r j => by rw [← hX]; exact pay4 I b c h1 h2 r j) ht r j

include hw3 hw2 hcb

theorem pay5 (r : Fin 128) (j : Fin 1024) : (k0_pay5 x1 x2 tl w3 cb w2 (ix2 r j) : EReal)
    = xin I b (c * 128 + r.val) 0 j.val * I.w 3 j.val + I.cb j.val + xin I b (c * 128 + r.val) 1 j.val * I.w 2 j.val := by
  unfold k0_pay5
  generalize hX : k0_pay4 x1 x2 = v5
  have h5 : ∀ r j, (v5 (ix2 r j) : EReal) = I.u (b * 2048 + (c * 128 + r.val)) (512 + j.val) :=
    fun r j => by rw [← hX]; exact pay4 I b c h1 h2 r j
  pointwise
  rw [shift1 I b c h5 ht r j, h5, hw3, hw2, hcb]
  unfold xin; rw [if_pos (Nat.zero_le _)]; rfl

include hw1 hw0

/-- The gated convolution of the two blocks. -/
theorem conv (r : Fin 128) (j : Fin 1024) :
    (k0_pay8 (k0_pay4 x1 x2) tl (iota .tc S8x1024 32 [0] iota_S8x1024_d0_w32) (k0_pay5 x1 x2 tl w3 cb w2) (k0_pay6 x1 x2 tl) w1 w0 (ix2 r j) : EReal) = act I b (c * 128 + r.val) j.val :=
  pay8 I b c (v5 := k0_pay4 x1 x2) (pay4 I b c h1 h2) ht (pay5 I b c h1 h2 ht hw3 hw2 hcb) (pay6 I b c h1 h2 ht) hw1 hw0 r j

/-- The values. -/
theorem pay9 (r : Fin 128) (j : Fin 512) :
    (k0_pay9 (k0_pay4 x1 x2) tl (iota .tc S8x1024 32 [0] iota_S8x1024_d0_w32) (k0_pay5 x1 x2 tl w3 cb w2) (k0_pay6 x1 x2 tl) w1 w0 (ix2 r j) : EReal) = act I b (c * 128 + r.val) (0 + j.val) := by
  have e := conv I b c h1 h2 ht hw3 hw2 hw1 hw0 hcb r ⟨0 + j.val, by omega⟩
  unfold k0_pay9
  generalize k0_pay8 (k0_pay4 x1 x2) tl (iota .tc S8x1024 32 [0] iota_S8x1024_d0_w32) (k0_pay5 x1 x2 tl w3 cb w2) (k0_pay6 x1 x2 tl) w1 w0 = v at e ⊢
  pointwise
  refine Eq.trans ?_ (e.trans (congrArg (act I b _) (Nat.zero_add j.val)))
  congr 3; exact (Nat.zero_add j.val).symm

/-- The input maps. -/
theorem pay10 (r : Fin 128) (j : Fin 256) :
    (k0_pay10 (k0_pay4 x1 x2) tl (iota .tc S8x1024 32 [0] iota_S8x1024_d0_w32) (k0_pay5 x1 x2 tl w3 cb w2) (k0_pay6 x1 x2 tl) w1 w0 (ix2 r j) : EReal) = act I b (c * 128 + r.val) (512 + j.val) := by
  have e := conv I b c h1 h2 ht hw3 hw2 hw1 hw0 hcb r ⟨512 + j.val, by omega⟩
  unfold k0_pay10
  generalize k0_pay8 (k0_pay4 x1 x2) tl (iota .tc S8x1024 32 [0] iota_S8x1024_d0_w32) (k0_pay5 x1 x2 tl w3 cb w2) (k0_pay6 x1 x2 tl) w1 w0 = v at e ⊢
  pointwise
  refine Eq.trans ?_ (e.trans rfl)
  congr 2

/-- The output maps. -/
theorem pay11 (r : Fin 128) (j : Fin 256) :
    (k0_pay11 (k0_pay4 x1 x2) tl (iota .tc S8x1024 32 [0] iota_S8x1024_d0_w32) (k0_pay5 x1 x2 tl w3 cb w2) (k0_pay6 x1 x2 tl) w1 w0 (ix2 r j) : EReal) = act I b (c * 128 + r.val) (768 + j.val) := by
  have e := conv I b c h1 h2 ht hw3 hw2 hw1 hw0 hcb r ⟨768 + j.val, by omega⟩
  unfold k0_pay11
  generalize k0_pay8 (k0_pay4 x1 x2) tl (iota .tc S8x1024 32 [0] iota_S8x1024_d0_w32) (k0_pay5 x1 x2 tl w3 cb w2) (k0_pay6 x1 x2 tl) w1 w0 = v at e ⊢
  pointwise
  refine Eq.trans ?_ (e.trans rfl)
  congr 2

end Conv2

/-! ## The step sizes and the running sums -/

section Steps

variable {x3 : Vec Ideal S128x128 .f32} {x6 x7 : Vec Ideal S1x128 .f32}
  (h3 : ∀ r j, (x3 (ix2 r j) : EReal) = I.u (b * 2048 + (c * 128 + r.val)) (5376 + j.val))
  (h6 : ∀ j : Fin 128, j.val < 8 → (x6 (ix2 0 j) : EReal) = I.db j.val)
  (h7 : ∀ j : Fin 128, j.val < 8 → (x7 (ix2 0 j) : EReal) = I.al j.val)
  (hu : ∀ r h, r < 128 → h < 8 → I.u (b * 2048 + (c * 128 + r)) (5376 + h) + I.db h < ⊤)
  (ha : ∀ h, h < 8 → I.al h < ⊤)
include h3 h6

/-- The step sizes of the eight heads, in the first lanes. -/
theorem pay16 (r h : Fin 128) (hh : h.val < 8) :
    (k0_pay16 k0_pay12 (k0_pay14 x3 x6) (k0_pay15 x3 x6) (ix2 r h) : EReal) = dt I b (c * 128 + r.val) h.val := by
  unfold k0_pay16 k0_pay12 k0_pay14 k0_pay15 k0_pay13
  pointwise
  rw [slt128 h, h3, h6 h hh]
  refine (sel_ite _ _ _).trans ?_
  rw [if_pos hh]
  unfold dt softplus
  rw [zero_sub]
  rfl

include h7

/-- The logarithms of the decays of the eight heads. -/
theorem pay17 (r h : Fin 128) (hh : h.val < 8) :
    (k0_pay17 k0_pay12 (k0_pay14 x3 x6) (k0_pay15 x3 x6) x7 (ix2 r h) : EReal) = da I b (c * 128 + r.val) h.val := by
  have e := pay16 I b c h3 h6 r h hh
  unfold k0_pay17
  generalize k0_pay16 k0_pay12 (k0_pay14 x3 x6) (k0_pay15 x3 x6) = v at e ⊢
  pointwise
  rw [e, h7 h hh, zero_sub]; rfl

omit h3 h6 h7
include hu

/-- The step sizes are real numbers. -/
theorem dt_fin (r h : ℕ) (hr : r < 128) (hh : h < 8) : Fin' (dt I b (c * 128 + r) h) := Fin'.softplus (hu r h hr hh)

include ha

/-- The logarithms of the decays are real numbers. -/
theorem da_fin (r h : ℕ) (hr : r < 128) (hh : h < 8) : Fin' (da I b (c * 128 + r) h) :=
  (dt_fin I b c hu r h hr hh).mul (Fin'.exp (ha h hh)).neg

/-- The running sums are real numbers. -/
theorem acs_fin (r h : ℕ) (hh : h < 8) : Fin' (acs I b c r h) :=
  Fin'.sum _ fun k => by split_ifs; exacts [da_fin I b c hu ha _ _ k.isLt hh, ⟨0, rfl⟩]

include h3 h6 h7

/-- The running sums, by rows. -/
theorem pay18 (r h : Fin 128) (hh : h.val < 8) :
    (k0_pay18 (iota .tc S128x128 32 [1] iota_S128x128_d1_w32) (iota .tc S128x128 32 [0] iota_S128x128_d0_w32) k0_pay12 (k0_pay14 x3 x6) (k0_pay15 x3 x6) x7 (ix2 r h) : EReal) = acs I b c r.val h.val := by
  have e := fun k => pay17 I b c h3 h6 h7 k h hh
  unfold k0_pay18
  generalize k0_pay17 k0_pay12 (k0_pay14 x3 x6) (k0_pay15 x3 x6) x7 = v at e ⊢
  pointwise
  refine (cumsum3 (fun x => v (ix2 x h)) r fun k => ?_).trans ?_
  · rw [e k]; exact da_fin I b c hu ha _ _ k.isLt hh
  · simp only [e]; rfl

/-- The running sums, by columns. -/
theorem pay19 (h s : Fin 128) (hh : h.val < 8) :
    (k0_pay19 (iota .tc S128x128 32 [1] iota_S128x128_d1_w32) (iota .tc S128x128 32 [0] iota_S128x128_d0_w32) k0_pay12 (k0_pay14 x3 x6) (k0_pay15 x3 x6) x7 (ix2 h s) : EReal) = acs I b c s.val h.val := by
  have e := fun k => pay17 I b c h3 h6 h7 k h hh
  unfold k0_pay19
  generalize k0_pay17 k0_pay12 (k0_pay14 x3 x6) (k0_pay15 x3 x6) x7 = v at e ⊢
  pointwise
  refine Eq.trans ?_ ((cumsum3 (fun x => v (ix2 x h)) s fun k => ?_).trans ?_)
  · refine congrArg₂ (· + ·) (congrArg₂ (· + ·) ?_ ?_) ?_ <;> exact Finset.sum_congr rfl fun x _ => mul_comm _ _
  · rw [e k]; exact da_fin I b c hu ha _ _ k.isLt hh
  · simp only [e]; rfl

/-- The chunk's total. -/
theorem pay20 (h : Fin 128) (hh : h.val < 8) :
    (k0_pay20 (iota .tc S128x128 32 [1] iota_S128x128_d1_w32) (iota .tc S128x128 32 [0] iota_S128x128_d0_w32) k0_pay12 (k0_pay14 x3 x6) (k0_pay15 x3 x6) x7 (ix2 0 h) : EReal) = acs I b c 127 h.val := by
  have e := pay18 I b c h3 h6 h7 hu ha 127 h hh
  unfold k0_pay20
  generalize k0_pay18 (iota .tc S128x128 32 [1] iota_S128x128_d1_w32) (iota .tc S128x128 32 [0] iota_S128x128_d0_w32) k0_pay12 (k0_pay14 x3 x6) (k0_pay15 x3 x6) x7 = v at e ⊢
  pointwise
  exact e

/-- The decays from the chunk's start, repeated over each head's columns. -/
theorem pay24 (r : Fin 128) (j : Fin 512) :
    (k0_pay24 (k0_pay21 (iota .tc S128x128 32 [1] iota_S128x128_d1_w32) (iota .tc S128x128 32 [0] iota_S128x128_d0_w32) k0_pay12 (k0_pay14 x3 x6) (k0_pay15 x3 x6) x7) (ix2 r j) : EReal) = Ideal.exp (acs I b c r.val (j.val / 64)) := by
  have e := pay18 I b c h3 h6 h7 hu ha r ⟨j.val / 64, by omega⟩ (by dsimp only; omega)
  unfold k0_pay24 k0_pay22 k0_pay21
  generalize k0_pay18 (iota .tc S128x128 32 [1] iota_S128x128_d1_w32) (iota .tc S128x128 32 [0] iota_S128x128_d0_w32) k0_pay12 (k0_pay14 x3 x6) (k0_pay15 x3 x6) x7 = v at e ⊢
  pointwise
  have hf := acs_fin I b c hu ha r.val (j.val / 64) (by omega)
  refine (expand3 (fun x => Ideal.exp (v (ix2 r x))) j ?_).trans ?_
  · rw [e]; obtain ⟨a, ha⟩ := hf; dsimp only; rw [ha]; exact Fin'.exp (EReal.coe_lt_top a)
  · rw [e]

omit h7 ha

/-- The values times their step sizes. -/
theorem pay23 {v63 : Vec Ideal S128x512 .f32} (h63 : ∀ r j, (v63 (ix2 r j) : EReal) = act I b (c * 128 + r.val) (0 + j.val)) (r : Fin 128) (j : Fin 512) :
    (k0_pay23 v63 (k0_pay16 k0_pay12 (k0_pay14 x3 x6) (k0_pay15 x3 x6)) (ix2 r j) : EReal)
      = act I b (c * 128 + r.val) j.val * dt I b (c * 128 + r.val) (j.val / 64) := by
  have e := pay16 I b c h3 h6 r ⟨j.val / 64, by omega⟩ (by dsimp only; omega)
  unfold k0_pay23 k0_pay22
  generalize k0_pay16 k0_pay12 (k0_pay14 x3 x6) (k0_pay15 x3 x6) = v at e ⊢
  pointwise
  rw [h63, Nat.zero_add]
  refine congrArg (_ * ·) ((expand3 (fun x => v (ix2 r x)) j ?_).trans ?_)
  · rw [e]; exact dt_fin I b c hu _ _ r.isLt (by dsimp only; omega)
  · rw [e]

include h7 ha

/-- The values times their step sizes and their decays to the chunk's end. -/
theorem pay25 {v63 : Vec Ideal S128x512 .f32} (h63 : ∀ r j, (v63 (ix2 r j) : EReal) = act I b (c * 128 + r.val) (0 + j.val)) (r : Fin 128) (j : Fin 512) :
    (k0_pay25 v63 (k0_pay16 k0_pay12 (k0_pay14 x3 x6) (k0_pay15 x3 x6)) (k0_pay18 (iota .tc S128x128 32 [1] iota_S128x128_d1_w32) (iota .tc S128x128 32 [0] iota_S128x128_d0_w32) k0_pay12 (k0_pay14 x3 x6) (k0_pay15 x3 x6) x7)
        (k0_pay20 (iota .tc S128x128 32 [1] iota_S128x128_d1_w32) (iota .tc S128x128 32 [0] iota_S128x128_d0_w32) k0_pay12 (k0_pay14 x3 x6) (k0_pay15 x3 x6) x7) (ix2 r j) : EReal)
      = act I b (c * 128 + r.val) j.val * dt I b (c * 128 + r.val) (j.val / 64)
        * Ideal.exp (acs I b c 127 (j.val / 64) - acs I b c r.val (j.val / 64)) := by
  have e3 := pay23 I b c h3 h6 hu h63 r j
  have e1 := pay18 I b c h3 h6 h7 hu ha r ⟨j.val / 64, by omega⟩ (by dsimp only; omega)
  have e2 := pay20 I b c h3 h6 h7 hu ha ⟨j.val / 64, by omega⟩ (by dsimp only; omega)
  unfold k0_pay25
  generalize k0_pay18 (iota .tc S128x128 32 [1] iota_S128x128_d1_w32) (iota .tc S128x128 32 [0] iota_S128x128_d0_w32) k0_pay12 (k0_pay14 x3 x6) (k0_pay15 x3 x6) x7 = v1 at e1 ⊢
  generalize k0_pay20 (iota .tc S128x128 32 [1] iota_S128x128_d1_w32) (iota .tc S128x128 32 [0] iota_S128x128_d0_w32) k0_pay12 (k0_pay14 x3 x6) (k0_pay15 x3 x6) x7 = v2 at e2 ⊢
  generalize k0_pay23 v63 (k0_pay16 k0_pay12 (k0_pay14 x3 x6) (k0_pay15 x3 x6)) = v3 at e3 ⊢
  unfold k0_pay22
  pointwise
  rw [e3]
  have hf := (acs_fin I b c hu ha 127 (j.val / 64) (by omega)).sub (acs_fin I b c hu ha r.val (j.val / 64) (by omega))
  refine congrArg (_ * ·) ((expand3 (fun x => Ideal.exp (v2 (ix2 0 x) - v1 (ix2 r x))) j ?_).trans ?_)
  · rw [e1, e2]; obtain ⟨a, ha⟩ := hf; dsimp only; rw [ha]; exact Fin'.exp (EReal.coe_lt_top a)
  · rw [e1, e2]

end Steps

/-- The causal mask. -/
theorem pay26 (r s : Fin 128) : k0_pay26 (iota .tc S128x128 32 [1] iota_S128x128_d1_w32) (iota .tc S128x128 32 [0] iota_S128x128_d0_w32) (ix2 r s) = if s.val ≤ r.val then 1#1 else 0#1 := by
  unfold k0_pay26
  pointwise
  exact sle128 s r

end Cert.SsdIdeal.Proof

end
-- ==== Proof.SsdHeads.lean ====
/- One block's step: each head's output and next state, and the whole output row, as the named functions of positions. -/
module

public import proofs.«01_k».proof.Defs
public import proofs.«01_k».proof.Proof.Gen.SsdIdeal.Value
public import proofs.«01_k».proof.Proof.SsdConv
public import Idealize.ShloMosaic.Lib.Pipeline.ValueKit
public import Idealize.ShloMosaic.Lib.Pointwise
public import Idealize.ShloMosaic.Lib.Pointwise.Sums
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SsdIdeal.Proof

open Cert.SsdIdeal Cert.SsdIdeal.Gen Cert.SsdSpec

/-- A head's output without the skip, in the kernel's order of factors. -/
def yh (I : Ins) (b c l h p : ℕ) : EReal :=
  (∑ s : Fin 128, (∑ n : Fin 128, act I b (c * 128 + l) (768 + (h / 4 * 128 + n.val)) * act I b (c * 128 + s.val) (512 + (h / 4 * 128 + n.val)))
      * Ideal.exp (if s.val ≤ l then acs I b c l h - acs I b c s.val h else ⊥)
      * (act I b (c * 128 + s.val) (h * 64 + p) * dt I b (c * 128 + s.val) h))
    + (∑ n : Fin 128, act I b (c * 128 + l) (768 + (h / 4 * 128 + n.val)) * st I b c h p n.val) * Ideal.exp (acs I b c l h)

/-- A head's next state, in the kernel's order of factors. -/
def sth (I : Ins) (b c h p n : ℕ) : EReal :=
  st I b c h p n * Ideal.exp (acs I b c 127 h)
    + ∑ x : Fin 128, act I b (c * 128 + x.val) (512 + (h / 4 * 128 + n))
      * (act I b (c * 128 + x.val) (h * 64 + p) * dt I b (c * 128 + x.val) h * Ideal.exp (acs I b c 127 h - acs I b c x.val h))

/-- That order gives the same state. -/
theorem sth_eq (I : Ins) (b c h p n : ℕ) : sth I b c h p n = st I b (c + 1) h p n := by
  unfold sth
  rw [st, cst]
  refine congrArg (_ + ·) (Finset.sum_congr rfl fun x _ => ?_)
  unfold xdt bm
  ac_rfl

/-- With the skip, that order gives the same output. -/
theorem yh_eq (I : Ins) (b c l h p : ℕ) (hf : ∀ k : Fin 128, Fin' (da I b (c * 128 + k.val) h)) :
    yh I b c l h p + act I b (c * 128 + l) (h * 64 + p) * I.ds h = y I b c l h p := by
  unfold yh y
  refine congrArg (· + _) (congrArg₂ (· + ·) (Finset.sum_congr rfl fun s _ => ?_) (congrArg (· * _) (Finset.sum_congr rfl fun n _ => mul_comm _ _)))
  have e : Ideal.exp (if s.val ≤ l then acs I b c l h - acs I b c s.val h else ⊥) = seg I b c l s.val h := by
    unfold seg
    split_ifs with hs
    · rw [← sub_sums (fun k : Fin 128 => da I b (c * 128 + k.val) h) hf l s.val hs]; rfl
    · rfl
  rw [e]
  unfold xdt cm bm
  ac_rfl

section Heads

variable {I : Ins} {b c : ℕ}
  {P9 P23 P24 P25 : Vec Ideal S128x512 .f32} {P10 P11 : Vec Ideal S128x256 .f32} {P18 P19 : Vec Ideal S128x128 .f32}
  {P20 : Vec Ideal S1x128 .f32} {P26 : IVec S128x128 1} {L : Vec Ideal S1x128x64 .f32}
  (h10 : ∀ r j, (P10 (ix2 r j) : EReal) = act I b (c * 128 + r.val) (512 + j.val))
  (h11 : ∀ r j, (P11 (ix2 r j) : EReal) = act I b (c * 128 + r.val) (768 + j.val))
  (h18 : ∀ r h : Fin 128, h.val < 8 → (P18 (ix2 r h) : EReal) = acs I b c r.val h.val)
  (h19 : ∀ h s : Fin 128, h.val < 8 → (P19 (ix2 h s) : EReal) = acs I b c s.val h.val)
  (h20 : ∀ h : Fin 128, h.val < 8 → (P20 (ix2 0 h) : EReal) = acs I b c 127 h.val)
  (h23 : ∀ r j, (P23 (ix2 r j) : EReal) = act I b (c * 128 + r.val) j.val * dt I b (c * 128 + r.val) (j.val / 64))
  (h24 : ∀ r j, (P24 (ix2 r j) : EReal) = Ideal.exp (acs I b c r.val (j.val / 64)))
  (h25 : ∀ r j, (P25 (ix2 r j) : EReal) = act I b (c * 128 + r.val) j.val * dt I b (c * 128 + r.val) (j.val / 64)
    * Ideal.exp (acs I b c 127 (j.val / 64) - acs I b c r.val (j.val / 64)))
  (h26 : ∀ r s, P26 (ix2 r s) = if s.val ≤ r.val then 1#1 else 0#1)

section Out
include h10 h11 h18 h19 h23 h24 h26

/-- Head 0's output. -/
theorem head0 (hL : ∀ n p, (L (ix3 0 n p) : EReal) = st I b c 0 p.val n.val) (r : Fin 128) (p : Fin 64) :
    (k0_pay33 P10 P11 P18 P19 P23 P24 P26 L (ix2 r p) : EReal) = yh I b c r.val 0 p.val := by
  have q18 := fun r => h18 r 0 (by decide)
  have q19 := fun s => h19 0 s (by decide)
  have e1 : (0 + p.val) / 64 = 0 := by omega
  unfold k0_pay33 k0_pay29 k0_pay31 k0_pay27 k0_pay28
  pointwise
  unfold yh
  simp only [h10, h11, q18, q19, h23, h24, h26, hL, sel_ite, negInf, e1, Nat.zero_add, Nat.zero_mul, Nat.reduceMul, Nat.reduceDiv]
  first | rfl | (have e0 : p.val / 64 = 0 := by omega
                 simp only [e0]; rfl)

/-- Head 1's output. -/
theorem head1 (hL : ∀ n p, (L (ix3 0 n p) : EReal) = st I b c 1 p.val n.val) (r : Fin 128) (p : Fin 64) :
    (k0_pay37 P23 P24 (k0_pay28 P11) (k0_pay34 P10 P11 P18 P19 P26) L (ix2 r p) : EReal) = yh I b c r.val 1 p.val := by
  have q18 := fun r => h18 r 1 (by decide)
  have q19 := fun s => h19 1 s (by decide)
  have e1 : (64 + p.val) / 64 = 1 := by omega
  unfold k0_pay37 k0_pay34 k0_pay35 k0_pay29 k0_pay27 k0_pay28
  pointwise
  unfold yh
  simp only [h10, h11, q18, q19, h23, h24, h26, hL, sel_ite, negInf, e1, Nat.zero_add, Nat.zero_mul, Nat.reduceMul, Nat.reduceDiv]
  first | rfl | (have e0 : p.val / 64 = 0 := by omega
                 simp only [e0]; rfl)

/-- Head 2's output. -/
theorem head2 (hL : ∀ n p, (L (ix3 0 n p) : EReal) = st I b c 2 p.val n.val) (r : Fin 128) (p : Fin 64) :
    (k0_pay43 (k0_pay38 P18 P19 P23 P26 (k0_pay29 P10 P11)) (k0_pay40 P24 (k0_pay28 P11) L) (ix2 r p) : EReal) = yh I b c r.val 2 p.val := by
  have q18 := fun r => h18 r 2 (by decide)
  have q19 := fun s => h19 2 s (by decide)
  have e1 : (128 + p.val) / 64 = 2 := by omega
  unfold k0_pay43 k0_pay38 k0_pay29 k0_pay40 k0_pay27 k0_pay28 k0_pay39
  pointwise
  unfold yh
  simp only [h10, h11, q18, q19, h23, h24, h26, hL, sel_ite, negInf, e1, Nat.zero_add, Nat.zero_mul, Nat.reduceMul, Nat.reduceDiv]
  first | rfl | (have e0 : p.val / 64 = 0 := by omega
                 simp only [e0]; rfl)

/-- Head 3's output. -/
theorem head3 (hL : ∀ n p, (L (ix3 0 n p) : EReal) = st I b c 3 p.val n.val) (r : Fin 128) (p : Fin 64) :
    (k0_pay46 P18 P19 P23 P24 P26 (k0_pay28 P11) (k0_pay29 P10 P11) L (ix2 r p) : EReal) = yh I b c r.val 3 p.val := by
  have q18 := fun r => h18 r 3 (by decide)
  have q19 := fun s => h19 3 s (by decide)
  have e1 : (192 + p.val) / 64 = 3 := by omega
  unfold k0_pay46 k0_pay29 k0_pay44 k0_pay27 k0_pay28
  pointwise
  unfold yh
  simp only [h10, h11, q18, q19, h23, h24, h26, hL, sel_ite, negInf, e1, Nat.zero_add, Nat.zero_mul, Nat.reduceMul, Nat.reduceDiv]
  first | rfl | (have e0 : p.val / 64 = 0 := by omega
                 simp only [e0]; rfl)

/-- Head 4's output. -/
theorem head4 (hL : ∀ n p, (L (ix3 0 n p) : EReal) = st I b c 4 p.val n.val) (r : Fin 128) (p : Fin 64) :
    (k0_pay54 P18 P19 P23 P24 P26 (k0_pay48 P11) (k0_pay49 P10) L (ix2 r p) : EReal) = yh I b c r.val 4 p.val := by
  have q18 := fun r => h18 r 4 (by decide)
  have q19 := fun s => h19 4 s (by decide)
  have e1 : (256 + p.val) / 64 = 4 := by omega
  unfold k0_pay54 k0_pay48 k0_pay49 k0_pay50 k0_pay52 k0_pay47
  pointwise
  unfold yh
  simp only [h10, h11, q18, q19, h23, h24, h26, hL, sel_ite, negInf, e1, Nat.zero_add, Nat.zero_mul, Nat.reduceMul, Nat.reduceDiv]
  first | rfl | (have e0 : p.val / 64 = 0 := by omega
                 simp only [e0]; rfl)

/-- Head 5's output. -/
theorem head5 (hL : ∀ n p, (L (ix3 0 n p) : EReal) = st I b c 5 p.val n.val) (r : Fin 128) (p : Fin 64) :
    (k0_pay59 P24 (k0_pay48 P11) (k0_pay55 P18 P19 P26 (k0_pay48 P11) (k0_pay49 P10)) (k0_pay56 P23) (constant S128x64 FTy.f32 0#32) L (ix2 r p) : EReal) = yh I b c r.val 5 p.val := by
  have q18 := fun r => h18 r 5 (by decide)
  have q19 := fun s => h19 5 s (by decide)
  have e1 : (320 + p.val) / 64 = 5 := by omega
  unfold k0_pay59 k0_pay55 k0_pay48 k0_pay49 k0_pay56 k0_pay57 k0_pay50 k0_pay47
  pointwise
  unfold yh
  simp only [h10, h11, q18, q19, h23, h24, h26, hL, sel_ite, negInf, e1, Nat.zero_add, Nat.zero_mul, Nat.reduceMul, Nat.reduceDiv]
  first | rfl | (have e0 : p.val / 64 = 0 := by omega
                 simp only [e0]; rfl)

end Out

section State
include h10 h20 h25

/-- Head 0's next state. -/
theorem state0 (hL : ∀ n p, (L (ix3 0 n p) : EReal) = st I b c 0 p.val n.val) (n : Fin 128) (p : Fin 64) :
    (k0_pay32 P10 P20 P25 L (ix3 0 n p) : EReal) = st I b (c + 1) 0 p.val n.val := by
  have q20 := h20 0 (by decide)
  have e1 : (0 + p.val) / 64 = 0 := by omega
  unfold k0_pay32 k0_pay31 k0_pay30 k0_pay27
  pointwise
  rw [← sth_eq]
  unfold sth
  simp only [h10, q20, h25, hL, e1, Nat.zero_add, Nat.zero_mul, Nat.reduceMul, Nat.reduceDiv]
  first | rfl | (have e0 : p.val / 64 = 0 := by omega
                 simp only [e0]; rfl)

/-- Head 1's next state. -/
theorem state1 (hL : ∀ n p, (L (ix3 0 n p) : EReal) = st I b c 1 p.val n.val) (n : Fin 128) (p : Fin 64) :
    (k0_pay36 P20 P25 (k0_pay30 P10) L (ix3 0 n p) : EReal) = st I b (c + 1) 1 p.val n.val := by
  have q20 := h20 1 (by decide)
  have e1 : (64 + p.val) / 64 = 1 := by omega
  unfold k0_pay36 k0_pay30 k0_pay35 k0_pay27
  pointwise
  rw [← sth_eq]
  unfold sth
  simp only [h10, q20, h25, hL, e1, Nat.zero_add, Nat.zero_mul, Nat.reduceMul, Nat.reduceDiv]
  first | rfl | (have e0 : p.val / 64 = 0 := by omega
                 simp only [e0]; rfl)

/-- Head 2's next state. -/
theorem state2 (hL : ∀ n p, (L (ix3 0 n p) : EReal) = st I b c 2 p.val n.val) (n : Fin 128) (p : Fin 64) :
    (k0_pay42 P25 (k0_pay30 P10) (k0_pay39 L) (k0_pay41 P20) (ix3 0 n p) : EReal) = st I b (c + 1) 2 p.val n.val := by
  have q20 := h20 2 (by decide)
  have e1 : (128 + p.val) / 64 = 2 := by omega
  unfold k0_pay42 k0_pay30 k0_pay39 k0_pay41 k0_pay27
  pointwise
  rw [← sth_eq]
  unfold sth
  simp only [h10, q20, h25, hL, e1, Nat.zero_add, Nat.zero_mul, Nat.reduceMul, Nat.reduceDiv]
  first | rfl | (have e0 : p.val / 64 = 0 := by omega
                 simp only [e0]; rfl)

/-- Head 3's next state. -/
theorem state3 (hL : ∀ n p, (L (ix3 0 n p) : EReal) = st I b c 3 p.val n.val) (n : Fin 128) (p : Fin 64) :
    (k0_pay45 P20 P25 (k0_pay30 P10) L (ix3 0 n p) : EReal) = st I b (c + 1) 3 p.val n.val := by
  have q20 := h20 3 (by decide)
  have e1 : (192 + p.val) / 64 = 3 := by omega
  unfold k0_pay45 k0_pay30 k0_pay44 k0_pay27
  pointwise
  rw [← sth_eq]
  unfold sth
  simp only [h10, q20, h25, hL, e1, Nat.zero_add, Nat.zero_mul, Nat.reduceMul, Nat.reduceDiv]
  first | rfl | (have e0 : p.val / 64 = 0 := by omega
                 simp only [e0]; rfl)

/-- Head 4's next state. -/
theorem state4 (hL : ∀ n p, (L (ix3 0 n p) : EReal) = st I b c 4 p.val n.val) (n : Fin 128) (p : Fin 64) :
    (k0_pay53 P20 P25 (k0_pay47 P10) L (ix3 0 n p) : EReal) = st I b (c + 1) 4 p.val n.val := by
  have q20 := h20 4 (by decide)
  have e1 : (256 + p.val) / 64 = 4 := by omega
  unfold k0_pay53 k0_pay47 k0_pay52 k0_pay51
  pointwise
  rw [← sth_eq]
  unfold sth
  simp only [h10, q20, h25, hL, e1, Nat.zero_add, Nat.zero_mul, Nat.reduceMul, Nat.reduceDiv]
  first | rfl | (have e0 : p.val / 64 = 0 := by omega
                 simp only [e0]; rfl)

/-- Head 5's next state. -/
theorem state5 (hL : ∀ n p, (L (ix3 0 n p) : EReal) = st I b c 5 p.val n.val) (n : Fin 128) (p : Fin 64) :
    (k0_pay58 P20 P25 (k0_pay51 (k0_pay47 P10)) L (ix3 0 n p) : EReal) = st I b (c + 1) 5 p.val n.val := by
  have q20 := h20 5 (by decide)
  have e1 : (320 + p.val) / 64 = 5 := by omega
  unfold k0_pay58 k0_pay51 k0_pay47 k0_pay57
  pointwise
  rw [← sth_eq]
  unfold sth
  simp only [h10, q20, h25, hL, e1, Nat.zero_add, Nat.zero_mul, Nat.reduceMul, Nat.reduceDiv]
  first | rfl | (have e0 : p.val / 64 = 0 := by omega
                 simp only [e0]; rfl)

/-- Head 6's next state. -/
theorem state6 (hL : ∀ n p, (L (ix3 0 n p) : EReal) = st I b c 6 p.val n.val) (n : Fin 128) (p : Fin 64) :
    (k0_pay65 (k0_pay51 (k0_pay47 P10)) (k0_pay63 P20 L) (k0_pay64 P25) (constant S128x64 FTy.f32 0#32) (ix3 0 n p) : EReal) = st I b (c + 1) 6 p.val n.val := by
  have q20 := h20 6 (by decide)
  have e1 : (384 + p.val) / 64 = 6 := by omega
  unfold k0_pay65 k0_pay51 k0_pay47 k0_pay63 k0_pay64 k0_pay61
  pointwise
  rw [← sth_eq]
  unfold sth
  simp only [h10, q20, h25, hL, e1, Nat.zero_add, Nat.zero_mul, Nat.reduceMul, Nat.reduceDiv]
  first | rfl | (have e0 : p.val / 64 = 0 := by omega
                 simp only [e0]; rfl)

/-- Head 7's next state. -/
theorem state7 (hL : ∀ n p, (L (ix3 0 n p) : EReal) = st I b c 7 p.val n.val) (n : Fin 128) (p : Fin 64) :
    (k0_pay67 P20 P25 (k0_pay51 (k0_pay47 P10)) L (ix3 0 n p) : EReal) = st I b (c + 1) 7 p.val n.val := by
  have q20 := h20 7 (by decide)
  have e1 : (448 + p.val) / 64 = 7 := by omega
  unfold k0_pay67 k0_pay51 k0_pay47 k0_pay66
  pointwise
  rw [← sth_eq]
  unfold sth
  simp only [h10, q20, h25, hL, e1, Nat.zero_add, Nat.zero_mul, Nat.reduceMul, Nat.reduceDiv]
  first | rfl | (have e0 : p.val / 64 = 0 := by omega
                 simp only [e0]; rfl)

end State
end Heads

end Cert.SsdIdeal.Proof

end
-- ==== Proof.SsdRows.lean ====
/- One block's step as a whole: its output row and the state and rows it leaves. -/
module

public import proofs.«01_k».proof.Defs
public import proofs.«01_k».proof.Proof.Gen.SsdIdeal.Value
public import proofs.«01_k».proof.Proof.SsdHeads
public import Idealize.ShloMosaic.Lib.Pipeline.ValueKit
public import Idealize.ShloMosaic.Lib.Pointwise
public import Idealize.ShloMosaic.Lib.Pointwise.Sums
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SsdIdeal.Proof

open Cert.SsdIdeal Cert.SsdIdeal.Gen Cert.SsdSpec

section Rows

variable {I : Ins} {b c : ℕ}
  {P9 P23 P24 P25 x0 : Vec Ideal S128x512 .f32} {P10 P11 : Vec Ideal S128x256 .f32} {P18 P19 : Vec Ideal S128x128 .f32}
  {P20 : Vec Ideal S1x128 .f32} {P26 : IVec S128x128 1} {L L0 L1 L2 L3 L4 L5 L6 L7 : Vec Ideal S1x128x64 .f32}
  {x8 x9 : Vec Ideal S1x512 .f32}
  {Y0 Y1 Y2 Y3 Y4 Y5 Y6 Z6 : Vec Ideal S128x64 .f32}
  (h9 : ∀ r j, (P9 (ix2 r j) : EReal) = act I b (c * 128 + r.val) (0 + j.val))
  (h10 : ∀ r j, (P10 (ix2 r j) : EReal) = act I b (c * 128 + r.val) (512 + j.val))
  (h11 : ∀ r j, (P11 (ix2 r j) : EReal) = act I b (c * 128 + r.val) (768 + j.val))
  (h18 : ∀ r h : Fin 128, h.val < 8 → (P18 (ix2 r h) : EReal) = acs I b c r.val h.val)
  (h19 : ∀ h s : Fin 128, h.val < 8 → (P19 (ix2 h s) : EReal) = acs I b c s.val h.val)
  (h20 : ∀ h : Fin 128, h.val < 8 → (P20 (ix2 0 h) : EReal) = acs I b c 127 h.val)
  (h23 : ∀ r j, (P23 (ix2 r j) : EReal) = act I b (c * 128 + r.val) j.val * dt I b (c * 128 + r.val) (j.val / 64))
  (h24 : ∀ r j, (P24 (ix2 r j) : EReal) = Ideal.exp (acs I b c r.val (j.val / 64)))
  (h25 : ∀ r j, (P25 (ix2 r j) : EReal) = act I b (c * 128 + r.val) j.val * dt I b (c * 128 + r.val) (j.val / 64)
    * Ideal.exp (acs I b c 127 (j.val / 64) - acs I b c r.val (j.val / 64)))
  (h26 : ∀ r s, P26 (ix2 r s) = if s.val ≤ r.val then 1#1 else 0#1)
  (hda : ∀ (k : Fin 128) h, h < 8 → Fin' (da I b (c * 128 + k.val) h))
  (hx8 : ∀ j : Fin 512, (x8 (ix2 0 j) : EReal) = I.ds (j.val / 64))
  (hx0 : ∀ r (j : Fin 512), (x0 (ix2 r j) : EReal) = I.u (b * 2048 + (c * 128 + r.val)) j.val)
  (hx9 : ∀ j : Fin 512, (x9 (ix2 0 j) : EReal) = I.ng j.val)

section Out
include h10 h11 h18 h19 h23 h24 h26

/-- Head 6's output. -/
theorem head6 (hL : ∀ n p, (L (ix3 0 n p) : EReal) = st I b c 6 p.val n.val) (r : Fin 128) (p : Fin 64) :
    (k0_pay60 (F := Ideal) P18 P19 P23 P26 (k0_pay50 (k0_pay48 P11) (k0_pay49 P10)) (ix2 r p) : EReal) + k0_pay62 (F := Ideal) P24 (k0_pay48 P11) L (ix2 r p) = yh I b c r.val 6 p.val := by
  have q18 := fun r => h18 r 6 (by decide)
  have q19 := fun s => h19 6 s (by decide)
  have e1 : (384 + p.val) / 64 = 6 := by omega
  unfold k0_pay60 k0_pay62 k0_pay61 k0_pay50 k0_pay49 k0_pay48 k0_pay47
  pointwise
  unfold yh
  simp only [h10, h11, q18, q19, h23, h24, h26, hL, sel_ite, negInf, e1, Nat.zero_add, Nat.zero_mul, Nat.reduceMul, Nat.reduceDiv]
  rfl

omit h18 h19 h23 h24 h26 h10 in
/-- The output maps of the second group. -/
theorem pay48 (r n : Fin 128) : (k0_pay48 (F := Ideal) P11 (ix2 r n) : EReal) = act I b (c * 128 + r.val) (768 + (128 + n.val)) := by
  unfold k0_pay48
  pointwise
  rw [h11]

omit h18 h19 h23 h24 h26 in
/-- The second group's products of output and input maps. -/
theorem pay50 (r s : Fin 128) : (k0_pay50 (F := Ideal) (k0_pay48 P11) (k0_pay49 P10) (ix2 r s) : EReal)
    = ∑ n : Fin 128, act I b (c * 128 + r.val) (768 + (128 + n.val)) * act I b (c * 128 + s.val) (512 + (128 + n.val)) := by
  unfold k0_pay50 k0_pay49 k0_pay48 k0_pay47
  pointwise
  simp only [h10, h11]

include h9 hda hx8
omit h10 h11

set_option maxHeartbeats 1000000 in
/-- The row before the gate, from the first seven heads' outputs. -/
theorem pay68 {V312 : Vec Ideal S128x128 .f32} {V310 : Vec Ideal S128x128 .bf16} (hV310 : ∀ r n, (V310 (ix2 r n) : EReal) = act I b (c * 128 + r.val) (768 + (128 + n.val)))
    (hV312 : ∀ r s, (V312 (ix2 r s) : EReal)
      = ∑ n : Fin 128, act I b (c * 128 + r.val) (768 + (128 + n.val)) * act I b (c * 128 + s.val) (512 + (128 + n.val)))
    (hy0 : ∀ r p, (Y0 (ix2 r p) : EReal) = yh I b c r.val 0 p.val) (hy1 : ∀ r p, (Y1 (ix2 r p) : EReal) = yh I b c r.val 1 p.val)
    (hy2 : ∀ r p, (Y2 (ix2 r p) : EReal) = yh I b c r.val 2 p.val) (hy3 : ∀ r p, (Y3 (ix2 r p) : EReal) = yh I b c r.val 3 p.val)
    (hy4 : ∀ r p, (Y4 (ix2 r p) : EReal) = yh I b c r.val 4 p.val) (hy5 : ∀ r p, (Y5 (ix2 r p) : EReal) = yh I b c r.val 5 p.val)
    (hy6 : ∀ r p, (Y6 (ix2 r p) : EReal) + Z6 (ix2 r p) = yh I b c r.val 6 p.val)
    (hL : ∀ n p, (L (ix3 0 n p) : EReal) = st I b c 7 p.val n.val) (r : Fin 128) (j : Fin 512) :
    (k0_pay68 P9 P18 P19 P23 P24 P26 Y0 Y1 Y2 Y3 V310 V312 Y4 Y5 Y6 Z6 L x8 (ix2 r j) : EReal)
      = y I b c r.val (j.val / 64) (j.val % 64) := by
  have hj := j.isLt
  rw [← yh_eq I b c r.val (j.val / 64) (j.val % 64) (fun k => hda k _ (by omega))]
  have q18 := fun r => h18 r 7 (by decide)
  have q19 := fun s => h19 7 s (by decide)
  have e64 : j.val / 64 * 64 + j.val % 64 = j.val := by omega
  rw [e64]
  unfold k0_pay68 k0_pay66
  pointwise
  rw [h9, hx8, Nat.zero_add]
  refine congrArg (· + _) ?_
  simp only [hy0, hy1, hy2, hy3, hy4, hy5, hy6]
  split_ifs
  · rw [show j.val / 64 = 0 by omega, show j.val % 64 = j.val by omega]
  · rw [show j.val / 64 = 1 by omega, show j.val % 64 = j.val - 64 by omega]
  · rw [show j.val / 64 = 2 by omega, show j.val % 64 = j.val - 64 - 64 by omega]
  · rw [show j.val / 64 = 3 by omega, show j.val % 64 = j.val - 64 - 64 - 64 by omega]
  · rw [show j.val / 64 = 4 by omega, show j.val % 64 = j.val - 64 - 64 - 64 - 64 by omega]
  · rw [show j.val / 64 = 5 by omega, show j.val % 64 = j.val - 64 - 64 - 64 - 64 - 64 by omega]
  · rw [show j.val / 64 = 6 by omega, show j.val % 64 = j.val - 64 - 64 - 64 - 64 - 64 - 64 by omega]
  · have e7 : j.val / 64 = 7 := by omega
    have e8 : j.val % 64 = j.val - 64 - 64 - 64 - 64 - 64 - 64 - 64 := by omega
    rw [e7, e8]
    have e1 : (448 + (j.val - 64 - 64 - 64 - 64 - 64 - 64 - 64)) / 64 = 7 := by omega
    unfold yh
    simp only [hV310, hV312, q18, q19, h23, h24, h26, hL, sel_ite, negInf, e1, Nat.zero_add, Nat.zero_mul, Nat.reduceMul, Nat.reduceDiv]
    rfl
  · exact absurd rfl (by assumption)

end Out

include hx0 hx9

/-- The gate and the grouped norm. -/
theorem pay69 {Y : Vec Ideal S128x512 .f32} (hy : ∀ r j, (Y (ix2 r j) : EReal) = y I b c r.val (j.val / 64) (j.val % 64)) (r : Fin 128) (j : Fin 512) :
    (k0_pay1 (k0_pay69 Y x0 x9) (ix2 r j) : EReal) = SsdSpec.out I b c r.val j.val := by
  have hj := j.isLt
  unfold k0_pay1 k0_pay69
  pointwise
  rw [hx9]
  unfold SsdSpec.out
  refine congrArg (· * _) ?_
  simp only [hy, hx0, zero_sub]
  split_ifs with h1
  · rw [show j.val / 256 = 0 by omega]
    simp only [Nat.zero_mul, Nat.zero_add]
    rfl
  · rw [show j.val / 256 = 1 by omega]
    have e : 256 + (j.val - 256) = j.val := by omega
    simp only [e, Nat.one_mul]
    rfl

omit hx0 hx9
end Rows

end Cert.SsdIdeal.Proof

end
-- ==== Proof.SsdBlocks.lean ====
/- The kernel's blocks, as entries of the program's arguments. -/
module

public import proofs.«01_k».proof.Defs
public import proofs.«01_k».proof.Proof.Gen.SsdIdeal.Value
public import proofs.«01_k».proof.Proof.SsdSpec
public import Idealize.ShloMosaic.Lib.Pipeline.ValueKit
public import Idealize.ShloMosaic.Lib.Pointwise
public import Idealize.ShloMosaic.Lib.Pointwise.Sums
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SsdIdeal.Proof

open Cert.SsdIdeal Cert.SsdIdeal.Gen Cert.SsdSpec

variable (m : (ℓ : Loc nD τ sig) → Buf (Elt Ideal) ℓ)

/-- Where each window's block sits at grid point `t`. -/
theorem idx : ∀ t : Fin cfg0.N, win0_0.index t = ![t.val, 0]
    ∧ win0_1.index t = ![t.val, 1]
    ∧ win0_2.index t = ![t.val, 2]
    ∧ win0_3.index t = ![t.val, 42]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0] :=
  (by decide +kernel : ∀ t : Fin grid0.N, _)

/-- The row of the arrays that row `r` of grid point `t`'s block is. -/
def row (t : Fin cfg0.N) (r : Fin 128) : Fin 32768 :=
  ⟨t.val * 128 + r.val, by have h : t.val < 256 := t.isLt; have := r.isLt; omega⟩

/-- The host-made arrays. -/
theorem V0 (c : Dev nD) : V m c main_v0 = shapeCast S1x1024 (m ((c.tc : Thread nD τ).loc main_arg2)) shapeCasts_S1024_S1x1024 := by
  rfl

theorem V8 (c : Dev nD) : V m c main_v8 = shapeCast S1x512 (m ((c.tc : Thread nD τ).loc main_arg6)) shapeCasts_S512_S1x512 := by
  rfl

theorem V7 (c : Dev nD) : V m c main_v7 = shapeCast S1x512 (shapeCast S512 (broadcastInDim S8x64 ![0] bcast_S8_S8x64_0 (m ((c.tc : Thread nD τ).loc main_arg5))) shapeCasts_S8x64_S512) shapeCasts_S512_S1x512 := by
  rfl

theorem V2 (c : Dev nD) : V m c main_v2 = shapeCast S1x128 (pad S128 ![0] ![120] ![0] (m ((c.tc : Thread nD τ).loc main_arg3) : Vec Ideal S8 .f32) (sitofp (F := Ideal) .f32 (constantI S_ 32 0#32) : Vec Ideal S_ .f32) pads_S8_S128_01200 h_S_) shapeCasts_S128_S1x128 := by
  rfl

theorem V4 (c : Dev nD) : V m c main_v4 = shapeCast S1x128 (pad S128 ![0] ![120] ![0] (m ((c.tc : Thread nD τ).loc main_arg4) : Vec Ideal S8 .f32) (sitofp (F := Ideal) .f32 (constantI S_ 32 0#32) : Vec Ideal S_ .f32) pads_S8_S128_01200 h_S_) shapeCasts_S128_S1x128 := by
  rfl

theorem blk0 (c : Dev nD) (t : Fin cfg0.N) (r : Fin 128) (j : Fin 512) :
    iblk m c 0 t (ix2 r j) = m ((c.tc : Thread nD τ).loc main_arg0) (ix2 (row t r) ⟨0 + j.val, by have := j.isLt; omega⟩) := by
  obtain ⟨e0, e1, e2, e3, e4, e5, e6, e7, e8, e9, e10⟩ := idx t
  blk_ext [iblk, V, e0, row]

theorem blk1 (c : Dev nD) (t : Fin cfg0.N) (r : Fin 128) (j : Fin 512) :
    iblk m c 1 t (ix2 r j) = m ((c.tc : Thread nD τ).loc main_arg0) (ix2 (row t r) ⟨512 + j.val, by have := j.isLt; omega⟩) := by
  obtain ⟨e0, e1, e2, e3, e4, e5, e6, e7, e8, e9, e10⟩ := idx t
  blk_ext [iblk, V, e1, row]

theorem blk2 (c : Dev nD) (t : Fin cfg0.N) (r : Fin 128) (j : Fin 512) :
    iblk m c 2 t (ix2 r j) = m ((c.tc : Thread nD τ).loc main_arg0) (ix2 (row t r) ⟨1024 + j.val, by have := j.isLt; omega⟩) := by
  obtain ⟨e0, e1, e2, e3, e4, e5, e6, e7, e8, e9, e10⟩ := idx t
  blk_ext [iblk, V, e2, row]

theorem blk3 (c : Dev nD) (t : Fin cfg0.N) (r : Fin 128) (j : Fin 128) :
    iblk m c 3 t (ix2 r j) = m ((c.tc : Thread nD τ).loc main_arg0) (ix2 (row t r) ⟨5376 + j.val, by have := j.isLt; omega⟩) := by
  obtain ⟨e0, e1, e2, e3, e4, e5, e6, e7, e8, e9, e10⟩ := idx t
  blk_ext [iblk, V, e3, row]

theorem blk4 (c : Dev nD) (t : Fin cfg0.N) (r : Fin 4) (j : Fin 1024) :
    iblk m c 4 t (ix2 r j) = m ((c.tc : Thread nD τ).loc main_arg1) (ix2 r j) := by
  obtain ⟨e0, e1, e2, e3, e4, e5, e6, e7, e8, e9, e10⟩ := idx t
  blk_ext [iblk, V, e4]

theorem blk5 (c : Dev nD) (t : Fin cfg0.N) (j : Fin 1024) :
    iblk m c 5 t (ix2 0 j) = m ((c.tc : Thread nD τ).loc main_arg2) (ix1 j) := by
  obtain ⟨e0, e1, e2, e3, e4, e5, e6, e7, e8, e9, e10⟩ := idx t
  have hb : iblk m c 5 t (ix2 0 j) = V m c main_v0 (ix2 0 j) := by
    blk_ext [iblk, e5]
  rw [hb, V0]
  pointwise

theorem blk6 (c : Dev nD) (t : Fin cfg0.N) (j : Fin 128) (hj : j.val < 8) :
    iblk m c 6 t (ix2 0 j) = m ((c.tc : Thread nD τ).loc main_arg3) (ix1 ⟨j.val, hj⟩) := by
  obtain ⟨e0, e1, e2, e3, e4, e5, e6, e7, e8, e9, e10⟩ := idx t
  have hb : iblk m c 6 t (ix2 0 j) = V m c main_v2 (ix2 0 j) := by
    blk_ext [iblk, e6]
  rw [hb, V2]
  pointwise
  rw [dif_pos fun a => by fin_cases a; exact hj]

theorem blk7 (c : Dev nD) (t : Fin cfg0.N) (j : Fin 128) (hj : j.val < 8) :
    iblk m c 7 t (ix2 0 j) = m ((c.tc : Thread nD τ).loc main_arg4) (ix1 ⟨j.val, hj⟩) := by
  obtain ⟨e0, e1, e2, e3, e4, e5, e6, e7, e8, e9, e10⟩ := idx t
  have hb : iblk m c 7 t (ix2 0 j) = V m c main_v4 (ix2 0 j) := by
    blk_ext [iblk, e7]
  rw [hb, V4]
  pointwise
  rw [dif_pos fun a => by fin_cases a; exact hj]

theorem blk8 (c : Dev nD) (t : Fin cfg0.N) (j : Fin 512) :
    iblk m c 8 t (ix2 0 j) = m ((c.tc : Thread nD τ).loc main_arg5) (ix1 ⟨j.val / 64, by have := j.isLt; omega⟩) := by
  obtain ⟨e0, e1, e2, e3, e4, e5, e6, e7, e8, e9, e10⟩ := idx t
  have hb : iblk m c 8 t (ix2 0 j) = V m c main_v7 (ix2 0 j) := by
    blk_ext [iblk, e8]
  rw [hb, V7]
  pointwise

theorem blk9 (c : Dev nD) (t : Fin cfg0.N) (j : Fin 512) :
    iblk m c 9 t (ix2 0 j) = m ((c.tc : Thread nD τ).loc main_arg6) (ix1 j) := by
  obtain ⟨e0, e1, e2, e3, e4, e5, e6, e7, e8, e9, e10⟩ := idx t
  have hb : iblk m c 9 t (ix2 0 j) = V m c main_v8 (ix2 0 j) := by
    blk_ext [iblk, e9]
  rw [hb, V8]
  pointwise

theorem emb10 (t : Fin cfg0.N) (r : Fin 128) (j : Fin 512) :
    ((View.whole main_v9).slice (win0_10.rect t)).emb (ix2 r j) = ix2 (row t r) j := by
  obtain ⟨e0, e1, e2, e3, e4, e5, e6, e7, e8, e9, e10⟩ := idx t
  blk_ext [e10, row]

end Cert.SsdIdeal.Proof

end
-- ==== Proof.SsdStored.lean ====
/- What each grid point leaves: the tail, the states and the output of its chunk. -/
module

public import proofs.«01_k».proof.Defs
public import proofs.«01_k».proof.Proof.Gen.SsdIdeal.Value
public import proofs.«01_k».proof.Proof.SsdRows
public import proofs.«01_k».proof.Proof.SsdBlocks
public import Idealize.ShloMosaic.Lib.Pipeline.ValueKit
public import Idealize.ShloMosaic.Lib.Pointwise
public import Idealize.ShloMosaic.Lib.Pointwise.Sums
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SsdIdeal.Proof

open Cert.SsdIdeal Cert.SsdIdeal.Gen Cert.SsdSpec

/-! ## The stored states -/

/-- A state's row just stored is the payload. -/
theorem canon_at (k : ℕ) (inb) (w : (Rect.unit (s := S8x128x64) ![k, 0, 0] ![1, 128, 64] inb).shape.Idx → Elt Ideal .f32)
    (L : List (View.Piece (Elt Ideal) S8x128x64 .f32)) (h : Fin 8) (n : Fin 128) (p : Fin 64) (hk : h.val = k) :
    View.canon (⟨Rect.unit ![k, 0, 0] ![1, 128, 64] inb, w⟩ :: L) (ix3 h n p) = w (ix3 0 n p) := by
  have e : (ix3 h n p : S8x128x64.Idx) = (Rect.unit (s := S8x128x64) ![k, 0, 0] ![1, 128, 64] inb).emb (ix3 0 n p) := by
    funext a; apply Fin.ext
    fin_cases a
    · show h.val = k + 1 * 0; omega
    · show n.val = 0 + 1 * n.val; omega
    · show p.val = 0 + 1 * p.val; omega
  rw [e]; exact View.canon_cons_emb _ _ _ _

/-- A row stored elsewhere leaves the others. -/
theorem canon_off (k : ℕ) (inb) (w : (Rect.unit (s := S8x128x64) ![k, 0, 0] ![1, 128, 64] inb).shape.Idx → Elt Ideal .f32)
    (L : List (View.Piece (Elt Ideal) S8x128x64 .f32)) (h : Fin 8) (n : Fin 128) (p : Fin 64) (hk : h.val ≠ k) :
    View.canon (⟨Rect.unit ![k, 0, 0] ![1, 128, 64] inb, w⟩ :: L) (ix3 h n p) = View.canon L (ix3 h n p) := by
  refine View.canon_cons_of_not_mem _ _ fun hm => hk ?_
  have h0 := (Rect.mem_set_unit (inb := inb)).1 hm 0
  have a1 : k ≤ h.val := h0.1
  have a2 : h.val < k + 1 := h0.2
  omega

/-- A row of the states, loaded. -/
theorem ld_row (k : ℕ) (hk : k < 8) (inb) (S : Vec Ideal S8x128x64 .f32) (n : Fin 128) (p : Fin 64) :
    View.ld (Val := Elt Ideal) (e' := .f32) S (Rect.unit (s := S8x128x64) ![k, 0, 0] ![1, 128, 64] inb) (ix3 0 n p) = S (ix3 ⟨k, hk⟩ n p) := by
  refine congrArg S ?_
  funext a; apply Fin.ext
  fin_cases a
  · show k + 1 * 0 = k; omega
  · show 0 + 1 * n.val = n.val; omega
  · show 0 + 1 * p.val = p.val; omega

/-- A row of the taps, loaded. -/
theorem ld_tap (k : ℕ) (hk : k < 4) (inb) (S : Vec Ideal S4x1024 .f32) (j : Fin 1024) :
    View.ld (Val := Elt Ideal) (e' := .f32) S (Rect.unit (s := S4x1024) ![k, 0] ![1, 1024] inb) (ix2 0 j) = S (ix2 ⟨k, hk⟩ j) := by
  refine congrArg S ?_
  funext a; apply Fin.ext
  fin_cases a
  · show k + 1 * 0 = k; omega
  · show 0 + 1 * j.val = j.val; omega

section Stored

variable {I : Ins} {b c : ℕ} {P25 : Vec Ideal S128x512 .f32} {P10 : Vec Ideal S128x256 .f32}
  {P20 : Vec Ideal S1x128 .f32} {L0 L1 L2 L3 L4 L5 L6 L7 : Vec Ideal S1x128x64 .f32}
  (h10 : ∀ r j, (P10 (ix2 r j) : EReal) = act I b (c * 128 + r.val) (512 + j.val))
  (h20 : ∀ h : Fin 128, h.val < 8 → (P20 (ix2 0 h) : EReal) = acs I b c 127 h.val)
  (h25 : ∀ r j, (P25 (ix2 r j) : EReal) = act I b (c * 128 + r.val) j.val * dt I b (c * 128 + r.val) (j.val / 64)
    * Ideal.exp (acs I b c 127 (j.val / 64) - acs I b c r.val (j.val / 64)))
  (hL0 : ∀ n p, (L0 (ix3 0 n p) : EReal) = st I b c 0 p.val n.val)
  (hL1 : ∀ n p, (L1 (ix3 0 n p) : EReal) = st I b c 1 p.val n.val)
  (hL2 : ∀ n p, (L2 (ix3 0 n p) : EReal) = st I b c 2 p.val n.val)
  (hL3 : ∀ n p, (L3 (ix3 0 n p) : EReal) = st I b c 3 p.val n.val)
  (hL4 : ∀ n p, (L4 (ix3 0 n p) : EReal) = st I b c 4 p.val n.val)
  (hL5 : ∀ n p, (L5 (ix3 0 n p) : EReal) = st I b c 5 p.val n.val)
  (hL6 : ∀ n p, (L6 (ix3 0 n p) : EReal) = st I b c 6 p.val n.val)
  (hL7 : ∀ n p, (L7 (ix3 0 n p) : EReal) = st I b c 7 p.val n.val)
include h10 h20 h25 hL0 hL1 hL2 hL3 hL4 hL5 hL6 hL7

/-- The states a block leaves. -/
theorem stored (T : List (View.Piece (Elt Ideal) S8x128x64 .f32)) (h : Fin 8) (n : Fin 128) (p : Fin 64) :
    (View.canon (⟨Rect.unit ![7, 0, 0] ![1, 128, 64] inb_S8x128x64_S1x128x64_7_0_0, k0_pay67 P20 P25 (k0_pay51 (k0_pay47 P10)) L7⟩ :: ⟨Rect.unit ![6, 0, 0] ![1, 128, 64] inb_S8x128x64_S1x128x64_6_0_0, k0_pay65 (k0_pay51 (k0_pay47 P10)) (k0_pay63 P20 L6) (k0_pay64 P25) (constant S128x64 FTy.f32 0#32)⟩ :: ⟨Rect.unit ![5, 0, 0] ![1, 128, 64] inb_S8x128x64_S1x128x64_5_0_0, k0_pay58 P20 P25 (k0_pay51 (k0_pay47 P10)) L5⟩ :: ⟨Rect.unit ![4, 0, 0] ![1, 128, 64] inb_S8x128x64_S1x128x64_4_0_0, k0_pay53 P20 P25 (k0_pay47 P10) L4⟩ :: ⟨Rect.unit ![3, 0, 0] ![1, 128, 64] inb_S8x128x64_S1x128x64_3_0_0, k0_pay45 P20 P25 (k0_pay30 P10) L3⟩ :: ⟨Rect.unit ![2, 0, 0] ![1, 128, 64] inb_S8x128x64_S1x128x64_2_0_0, k0_pay42 P25 (k0_pay30 P10) (k0_pay39 L2) (k0_pay41 P20)⟩ :: ⟨Rect.unit ![1, 0, 0] ![1, 128, 64] inb_S8x128x64_S1x128x64_1_0_0, k0_pay36 P20 P25 (k0_pay30 P10) L1⟩ :: ⟨Rect.unit ![0, 0, 0] ![1, 128, 64] inb_S8x128x64_S1x128x64_0_0_0, k0_pay32 P10 P20 P25 L0⟩ :: T : List (View.Piece (Elt Ideal) S8x128x64 .f32)) (ix3 h n p) : EReal)
      = st I b (c + 1) h.val p.val n.val := by
  obtain ⟨h, hh⟩ := h
  interval_cases h
  · refine (canon_off 7 _ _ _ _ n p (by dsimp only; omega)).trans ?_
    refine (canon_off 6 _ _ _ _ n p (by dsimp only; omega)).trans ?_
    refine (canon_off 5 _ _ _ _ n p (by dsimp only; omega)).trans ?_
    refine (canon_off 4 _ _ _ _ n p (by dsimp only; omega)).trans ?_
    refine (canon_off 3 _ _ _ _ n p (by dsimp only; omega)).trans ?_
    refine (canon_off 2 _ _ _ _ n p (by dsimp only; omega)).trans ?_
    refine (canon_off 1 _ _ _ _ n p (by dsimp only; omega)).trans ?_
    refine (canon_at 0 _ _ _ _ n p rfl).trans ?_
    exact state0 h10 h20 h25 hL0 n p
  · refine (canon_off 7 _ _ _ _ n p (by dsimp only; omega)).trans ?_
    refine (canon_off 6 _ _ _ _ n p (by dsimp only; omega)).trans ?_
    refine (canon_off 5 _ _ _ _ n p (by dsimp only; omega)).trans ?_
    refine (canon_off 4 _ _ _ _ n p (by dsimp only; omega)).trans ?_
    refine (canon_off 3 _ _ _ _ n p (by dsimp only; omega)).trans ?_
    refine (canon_off 2 _ _ _ _ n p (by dsimp only; omega)).trans ?_
    refine (canon_at 1 _ _ _ _ n p rfl).trans ?_
    exact state1 h10 h20 h25 hL1 n p
  · refine (canon_off 7 _ _ _ _ n p (by dsimp only; omega)).trans ?_
    refine (canon_off 6 _ _ _ _ n p (by dsimp only; omega)).trans ?_
    refine (canon_off 5 _ _ _ _ n p (by dsimp only; omega)).trans ?_
    refine (canon_off 4 _ _ _ _ n p (by dsimp only; omega)).trans ?_
    refine (canon_off 3 _ _ _ _ n p (by dsimp only; omega)).trans ?_
    refine (canon_at 2 _ _ _ _ n p rfl).trans ?_
    exact state2 h10 h20 h25 hL2 n p
  · refine (canon_off 7 _ _ _ _ n p (by dsimp only; omega)).trans ?_
    refine (canon_off 6 _ _ _ _ n p (by dsimp only; omega)).trans ?_
    refine (canon_off 5 _ _ _ _ n p (by dsimp only; omega)).trans ?_
    refine (canon_off 4 _ _ _ _ n p (by dsimp only; omega)).trans ?_
    refine (canon_at 3 _ _ _ _ n p rfl).trans ?_
    exact state3 h10 h20 h25 hL3 n p
  · refine (canon_off 7 _ _ _ _ n p (by dsimp only; omega)).trans ?_
    refine (canon_off 6 _ _ _ _ n p (by dsimp only; omega)).trans ?_
    refine (canon_off 5 _ _ _ _ n p (by dsimp only; omega)).trans ?_
    refine (canon_at 4 _ _ _ _ n p rfl).trans ?_
    exact state4 h10 h20 h25 hL4 n p
  · refine (canon_off 7 _ _ _ _ n p (by dsimp only; omega)).trans ?_
    refine (canon_off 6 _ _ _ _ n p (by dsimp only; omega)).trans ?_
    refine (canon_at 5 _ _ _ _ n p rfl).trans ?_
    exact state5 h10 h20 h25 hL5 n p
  · refine (canon_off 7 _ _ _ _ n p (by dsimp only; omega)).trans ?_
    refine (canon_at 6 _ _ _ _ n p rfl).trans ?_
    exact state6 h10 h20 h25 hL6 n p
  · refine (canon_at 7 _ _ _ _ n p rfl).trans ?_
    exact state7 h10 h20 h25 hL7 n p

end Stored

section Whole

variable {I : Ins} {b c : ℕ}
  {P9 P23 P24 P25 x0 : Vec Ideal S128x512 .f32} {P10 P11 : Vec Ideal S128x256 .f32} {P18 P19 : Vec Ideal S128x128 .f32}
  {P20 : Vec Ideal S1x128 .f32} {P26 : IVec S128x128 1} {L0 L1 L2 L3 L4 L5 L6 L7 : Vec Ideal S1x128x64 .f32}
  {x8 x9 : Vec Ideal S1x512 .f32}
  (h9 : ∀ r j, (P9 (ix2 r j) : EReal) = act I b (c * 128 + r.val) (0 + j.val))
  (h10 : ∀ r j, (P10 (ix2 r j) : EReal) = act I b (c * 128 + r.val) (512 + j.val))
  (h11 : ∀ r j, (P11 (ix2 r j) : EReal) = act I b (c * 128 + r.val) (768 + j.val))
  (h18 : ∀ r h : Fin 128, h.val < 8 → (P18 (ix2 r h) : EReal) = acs I b c r.val h.val)
  (h19 : ∀ h s : Fin 128, h.val < 8 → (P19 (ix2 h s) : EReal) = acs I b c s.val h.val)
  (h20 : ∀ h : Fin 128, h.val < 8 → (P20 (ix2 0 h) : EReal) = acs I b c 127 h.val)
  (h23 : ∀ r j, (P23 (ix2 r j) : EReal) = act I b (c * 128 + r.val) j.val * dt I b (c * 128 + r.val) (j.val / 64))
  (h24 : ∀ r j, (P24 (ix2 r j) : EReal) = Ideal.exp (acs I b c r.val (j.val / 64)))
  (h25 : ∀ r j, (P25 (ix2 r j) : EReal) = act I b (c * 128 + r.val) j.val * dt I b (c * 128 + r.val) (j.val / 64)
    * Ideal.exp (acs I b c 127 (j.val / 64) - acs I b c r.val (j.val / 64)))
  (h26 : ∀ r s, P26 (ix2 r s) = if s.val ≤ r.val then 1#1 else 0#1)
  (hda : ∀ (k : Fin 128) h, h < 8 → Fin' (da I b (c * 128 + k.val) h))
  (hx8 : ∀ j : Fin 512, (x8 (ix2 0 j) : EReal) = I.ds (j.val / 64))
  (hx0 : ∀ r (j : Fin 512), (x0 (ix2 r j) : EReal) = I.u (b * 2048 + (c * 128 + r.val)) j.val)
  (hx9 : ∀ j : Fin 512, (x9 (ix2 0 j) : EReal) = I.ng j.val)
  (hL0 : ∀ n p, (L0 (ix3 0 n p) : EReal) = st I b c 0 p.val n.val)
  (hL1 : ∀ n p, (L1 (ix3 0 n p) : EReal) = st I b c 1 p.val n.val)
  (hL2 : ∀ n p, (L2 (ix3 0 n p) : EReal) = st I b c 2 p.val n.val)
  (hL3 : ∀ n p, (L3 (ix3 0 n p) : EReal) = st I b c 3 p.val n.val)
  (hL4 : ∀ n p, (L4 (ix3 0 n p) : EReal) = st I b c 4 p.val n.val)
  (hL5 : ∀ n p, (L5 (ix3 0 n p) : EReal) = st I b c 5 p.val n.val)
  (hL6 : ∀ n p, (L6 (ix3 0 n p) : EReal) = st I b c 6 p.val n.val)
  (hL7 : ∀ n p, (L7 (ix3 0 n p) : EReal) = st I b c 7 p.val n.val)
include h9 h10 h11 h18 h19 h23 h24 h26 hda hx8 hx0 hx9 hL0 hL1 hL2 hL3 hL4 hL5 hL6 hL7

/-- The output row a block leaves. -/
theorem outRow (r : Fin 128) (j : Fin 512) :
    (k0_pay1 (k0_pay69 (k0_pay68 P9 P18 P19 P23 P24 P26 (k0_pay33 P10 P11 P18 P19 P23 P24 P26 L0) (k0_pay37 P23 P24 (k0_pay28 P11) (k0_pay34 P10 P11 P18 P19 P26) L1) (k0_pay43 (k0_pay38 P18 P19 P23 P26 (k0_pay29 P10 P11)) (k0_pay40 P24 (k0_pay28 P11) L2)) (k0_pay46 P18 P19 P23 P24 P26 (k0_pay28 P11) (k0_pay29 P10 P11) L3) (k0_pay48 P11) (k0_pay50 (k0_pay48 P11) (k0_pay49 P10)) (k0_pay54 P18 P19 P23 P24 P26 (k0_pay48 P11) (k0_pay49 P10) L4) (k0_pay59 P24 (k0_pay48 P11) (k0_pay55 P18 P19 P26 (k0_pay48 P11) (k0_pay49 P10)) (k0_pay56 P23) (constant S128x64 FTy.f32 0#32) L5) (k0_pay60 P18 P19 P23 P26 (k0_pay50 (k0_pay48 P11) (k0_pay49 P10))) (k0_pay62 P24 (k0_pay48 P11) L6) L7 x8) x0 x9) (ix2 r j) : EReal) = SsdSpec.out I b c r.val j.val :=
  pay69 hx0 hx9 (fun r j => pay68 h9 h18 h19 h23 h24 h26 hda hx8 (pay48 h11) (pay50 h10 h11)
    (head0 h10 h11 h18 h19 h23 h24 h26 hL0) (head1 h10 h11 h18 h19 h23 h24 h26 hL1) (head2 h10 h11 h18 h19 h23 h24 h26 hL2) (head3 h10 h11 h18 h19 h23 h24 h26 hL3) (head4 h10 h11 h18 h19 h23 h24 h26 hL4) (head5 h10 h11 h18 h19 h23 h24 h26 hL5) (head6 h10 h11 h18 h19 h23 h24 h26 hL6) hL7 r j) r j

end Whole

end Cert.SsdIdeal.Proof

end
-- ==== Proof.SsdStep.lean ====
/- What every grid point leaves, from the first chunk on. -/
module

public import proofs.«01_k».proof.Defs
public import proofs.«01_k».proof.Proof.Gen.SsdIdeal.Value
public import proofs.«01_k».proof.Proof.SsdStored
public import Idealize.ShloMosaic.Lib.Pipeline.ValueKit
public import Idealize.ShloMosaic.Lib.Pointwise
public import Idealize.ShloMosaic.Lib.Pointwise.Sums
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SsdIdeal.Proof

open Cert.SsdIdeal Cert.SsdIdeal.Gen Cert.SsdSpec

variable (m : (ℓ : Loc nD τ sig) → Buf (Elt Ideal) ℓ) (c : Dev nD)

/-- The program's arguments as functions of positions. -/
def insOf : Ins where
  u := ext2 (m ((c.tc : Thread nD τ).loc main_arg0))
  w := ext2 (m ((c.tc : Thread nD τ).loc main_arg1))
  cb := ext1 (m ((c.tc : Thread nD τ).loc main_arg2))
  db := ext1 (m ((c.tc : Thread nD τ).loc main_arg3))
  al := ext1 (m ((c.tc : Thread nD τ).loc main_arg4))
  ds := ext1 (m ((c.tc : Thread nD τ).loc main_arg5))
  ng := ext1 (m ((c.tc : Thread nD τ).loc main_arg6))

/-- The step sizes' arguments and the decay rates' logarithms are not plus infinity. -/
def Small : Prop :=
  (∀ i h, i < 32768 → h < 8 → (insOf m c).u i (5376 + h) + (insOf m c).db h < ⊤) ∧ ∀ h, h < 8 → (insOf m c).al h < ⊤

section Blocks

variable (n : ℕ) (hn : n < cfg0.N)

theorem pos (r : ℕ) : n * 128 + r = n / 16 * 2048 + (n % 16 * 128 + r) := by omega

theorem B0 (r : Fin 128) (j : Fin 512) : (iblk m c 0 ⟨n, hn⟩ (ix2 r j) : EReal) = (insOf m c).u (n / 16 * 2048 + (n % 16 * 128 + r.val)) j.val := by
  rw [← pos n r.val]
  refine (blk0 m c ⟨n, hn⟩ r j).trans ((ext2_val _ _ _).trans ?_)
  show ext2 _ (n * 128 + r.val) (0 + j.val) = _; rw [Nat.zero_add]; rfl

theorem B1 (r : Fin 128) (j : Fin 512) : (iblk m c 1 ⟨n, hn⟩ (ix2 r j) : EReal) = (insOf m c).u (n / 16 * 2048 + (n % 16 * 128 + r.val)) (512 + j.val) := by
  rw [← pos n r.val]
  refine (blk1 m c ⟨n, hn⟩ r j).trans ((ext2_val _ _ _).trans ?_)
  rfl

theorem B2 (r : Fin 128) (j : Fin 512) : (iblk m c 2 ⟨n, hn⟩ (ix2 r j) : EReal) = (insOf m c).u (n / 16 * 2048 + (n % 16 * 128 + r.val)) (1024 + j.val) := by
  rw [← pos n r.val]
  refine (blk2 m c ⟨n, hn⟩ r j).trans ((ext2_val _ _ _).trans ?_)
  rfl

theorem B3 (r : Fin 128) (j : Fin 128) : (iblk m c 3 ⟨n, hn⟩ (ix2 r j) : EReal) = (insOf m c).u (n / 16 * 2048 + (n % 16 * 128 + r.val)) (5376 + j.val) := by
  rw [← pos n r.val]
  refine (blk3 m c ⟨n, hn⟩ r j).trans ((ext2_val _ _ _).trans ?_)
  rfl

theorem W0 (j : Fin 1024) : (View.ld (Val := Elt Ideal) (e' := .f32) (iblk m c 4 ⟨n, hn⟩) (Rect.unit ![0, 0] ![1, 1024] inb_S4x1024_S1x1024_0_0) (ix2 0 j) : EReal)
    = (insOf m c).w 0 j.val :=
  (ld_tap 0 (by decide) _ (iblk m c 4 ⟨n, hn⟩) j).trans ((blk4 m c ⟨n, hn⟩ ⟨0, by decide⟩ j).trans (ext2_val _ _ _))

theorem W1 (j : Fin 1024) : (View.ld (Val := Elt Ideal) (e' := .f32) (iblk m c 4 ⟨n, hn⟩) (Rect.unit ![1, 0] ![1, 1024] inb_S4x1024_S1x1024_1_0) (ix2 0 j) : EReal)
    = (insOf m c).w 1 j.val :=
  (ld_tap 1 (by decide) _ (iblk m c 4 ⟨n, hn⟩) j).trans ((blk4 m c ⟨n, hn⟩ ⟨1, by decide⟩ j).trans (ext2_val _ _ _))

theorem W2 (j : Fin 1024) : (View.ld (Val := Elt Ideal) (e' := .f32) (iblk m c 4 ⟨n, hn⟩) (Rect.unit ![2, 0] ![1, 1024] inb_S4x1024_S1x1024_2_0) (ix2 0 j) : EReal)
    = (insOf m c).w 2 j.val :=
  (ld_tap 2 (by decide) _ (iblk m c 4 ⟨n, hn⟩) j).trans ((blk4 m c ⟨n, hn⟩ ⟨2, by decide⟩ j).trans (ext2_val _ _ _))

theorem W3 (j : Fin 1024) : (View.ld (Val := Elt Ideal) (e' := .f32) (iblk m c 4 ⟨n, hn⟩) (Rect.unit ![3, 0] ![1, 1024] inb_S4x1024_S1x1024_3_0) (ix2 0 j) : EReal)
    = (insOf m c).w 3 j.val :=
  (ld_tap 3 (by decide) _ (iblk m c 4 ⟨n, hn⟩) j).trans ((blk4 m c ⟨n, hn⟩ ⟨3, by decide⟩ j).trans (ext2_val _ _ _))

theorem CB (j : Fin 1024) : (iblk m c 5 ⟨n, hn⟩ (ix2 0 j) : EReal) = (insOf m c).cb j.val :=
  (blk5 m c ⟨n, hn⟩ j).trans (ext1_val _ _)

theorem B6 (j : Fin 128) (hj : j.val < 8) : (iblk m c 6 ⟨n, hn⟩ (ix2 0 j) : EReal) = (insOf m c).db j.val :=
  (blk6 m c ⟨n, hn⟩ j hj).trans (ext1_val _ _)

theorem B7 (j : Fin 128) (hj : j.val < 8) : (iblk m c 7 ⟨n, hn⟩ (ix2 0 j) : EReal) = (insOf m c).al j.val :=
  (blk7 m c ⟨n, hn⟩ j hj).trans (ext1_val _ _)

theorem B8 (j : Fin 512) : (iblk m c 8 ⟨n, hn⟩ (ix2 0 j) : EReal) = (insOf m c).ds (j.val / 64) :=
  (blk8 m c ⟨n, hn⟩ j).trans (ext1_val _ _)

theorem B9 (j : Fin 512) : (iblk m c 9 ⟨n, hn⟩ (ix2 0 j) : EReal) = (insOf m c).ng j.val :=
  (blk9 m c ⟨n, hn⟩ j).trans (ext1_val _ _)

include hn in
theorem small_u (hS : Small m c) (r h : ℕ) (hr : r < 128) (hh : h < 8) :
    (insOf m c).u (n / 16 * 2048 + (n % 16 * 128 + r)) (5376 + h) + (insOf m c).db h < ⊤ := by
  have hN : n < 256 := hn
  exact hS.1 _ h (by omega) hh

end Blocks

/-- The scratch buffers start at zero. -/
theorem start2 (y) : (k0_pay2 (F := Ideal) y : EReal) = 0 := by
  pointwise [k0_pay2]

theorem start3 (y) : (k0_pay3 (F := Ideal) y : EReal) = 0 := by
  pointwise [k0_pay3]

/-- The rows before a chunk. -/
def TailAt (b ch : ℕ) (tl : Vec Ideal S8x1024 .f32) : Prop :=
  ∀ i j, (tl (ix2 i j) : EReal) = if 8 ≤ ch * 128 + i.val then (insOf m c).u (b * 2048 + (ch * 128 + i.val - 8)) (512 + j.val) else 0

/-- The states before a chunk. -/
def StateAt (b ch : ℕ) (S : Vec Ideal S8x128x64 .f32) : Prop :=
  ∀ h n p, (S (ix3 h n p) : EReal) = st (insOf m c) b ch h.val p.val n.val

theorem tailZero (b ch : ℕ) (h : ch = 0) : TailAt m c b ch (k0_pay2 (F := Ideal)) := fun i j => by
  have := i.isLt
  rw [start2, if_neg (by omega)]

theorem stateZero (b ch : ℕ) (h : ch = 0) : StateAt m c b ch (k0_pay3 (F := Ideal)) := fun h' n p => by
  subst h
  rw [start3]; rfl

/-- The rows the first chunk keeps. -/
theorem tailA (n : ℕ) (hn : n < cfg0.N) (h0 : n % 16 = 0) : TailAt m c (n / 16) (n % 16 + 1) (outsAt0 m c n hn).2.1 := by
  intro i j
  rw [outsAt0_A m c ⟨n, hn⟩ (by simpa using h0)]
  dsimp only; frame_open; simp (disch := decide) only [↓ View.readCov_skip, ↓ View.readCov_cons_toLoadRect, ↓ View.readCov_fill]; frame_out
  exact pay7 (insOf m c) _ _ (B1 m c n hn) (B2 m c n hn) i j

/-- The states the first chunk leaves. -/
theorem stateA (hS : Small m c) (n : ℕ) (hn : n < cfg0.N) (h0 : n % 16 = 0) :
    StateAt m c (n / 16) (n % 16 + 1) (outsAt0 m c n hn).2.2 := by
  intro h q p
  have ht := tailZero m c (n / 16) (n % 16) h0
  have hst := stateZero m c (n / 16) (n % 16) h0
  rw [outsAt0_A m c ⟨n, hn⟩ (by simpa using h0)]
  dsimp only; frame_open; simp (disch := decide) only [↓ View.readCov_skip, ↓ View.readCov_cons_toLoadRect, ↓ View.readCov_fill]; frame_out
  exact stored (I := insOf m c) (b := n / 16) (c := n % 16) (pay10 (insOf m c) _ _ (B1 m c n hn) (B2 m c n hn) ht (W3 m c n hn) (W2 m c n hn) (W1 m c n hn) (W0 m c n hn) (CB m c n hn))
    (pay20 (insOf m c) _ _ (B3 m c n hn) (B6 m c n hn) (B7 m c n hn) (small_u m c n hn hS) hS.2)
    (pay25 (insOf m c) _ _ (B3 m c n hn) (B6 m c n hn) (B7 m c n hn) (small_u m c n hn hS) hS.2 (pay9 (insOf m c) _ _ (B1 m c n hn) (B2 m c n hn) ht (W3 m c n hn) (W2 m c n hn) (W1 m c n hn) (W0 m c n hn) (CB m c n hn)))
    (fun n p => (ld_row 0 (by decide) _ _ n p).trans (hst _ n p)) (fun n p => (ld_row 1 (by decide) _ _ n p).trans (hst _ n p)) (fun n p => (ld_row 2 (by decide) _ _ n p).trans (hst _ n p)) (fun n p => (ld_row 3 (by decide) _ _ n p).trans (hst _ n p)) (fun n p => (ld_row 4 (by decide) _ _ n p).trans (hst _ n p)) (fun n p => (ld_row 5 (by decide) _ _ n p).trans (hst _ n p)) (fun n p => (ld_row 6 (by decide) _ _ n p).trans (hst _ n p)) (fun n p => (ld_row 7 (by decide) _ _ n p).trans (hst _ n p)) _ h q p

/-- The output of the first chunk. -/
theorem outA (hS : Small m c) (n : ℕ) (hn : n < cfg0.N) (h0 : n % 16 = 0) (r : Fin 128) (j : Fin 512) :
    ((outsAt0 m c n hn).1 (ix2 r j) : EReal) = SsdSpec.out (insOf m c) (n / 16) (n % 16) r.val j.val := by
  have ht := tailZero m c (n / 16) (n % 16) h0
  have hst := stateZero m c (n / 16) (n % 16) h0
  rw [outsAt0_A m c ⟨n, hn⟩ (by simpa using h0)]
  dsimp only; frame_open; simp (disch := decide) only [↓ View.readCov_skip, ↓ View.readCov_cons_toLoadRect, ↓ View.readCov_fill]; frame_out
  exact outRow (I := insOf m c) (b := n / 16) (c := n % 16) (pay9 (insOf m c) _ _ (B1 m c n hn) (B2 m c n hn) ht (W3 m c n hn) (W2 m c n hn) (W1 m c n hn) (W0 m c n hn) (CB m c n hn))
    (pay10 (insOf m c) _ _ (B1 m c n hn) (B2 m c n hn) ht (W3 m c n hn) (W2 m c n hn) (W1 m c n hn) (W0 m c n hn) (CB m c n hn))
    (pay11 (insOf m c) _ _ (B1 m c n hn) (B2 m c n hn) ht (W3 m c n hn) (W2 m c n hn) (W1 m c n hn) (W0 m c n hn) (CB m c n hn))
    (pay18 (insOf m c) _ _ (B3 m c n hn) (B6 m c n hn) (B7 m c n hn) (small_u m c n hn hS) hS.2)
    (pay19 (insOf m c) _ _ (B3 m c n hn) (B6 m c n hn) (B7 m c n hn) (small_u m c n hn hS) hS.2)
    (pay23 (insOf m c) _ _ (B3 m c n hn) (B6 m c n hn) (small_u m c n hn hS) (pay9 (insOf m c) _ _ (B1 m c n hn) (B2 m c n hn) ht (W3 m c n hn) (W2 m c n hn) (W1 m c n hn) (W0 m c n hn) (CB m c n hn)))
    (pay24 (insOf m c) _ _ (B3 m c n hn) (B6 m c n hn) (B7 m c n hn) (small_u m c n hn hS) hS.2)
    pay26 (fun k h hh => da_fin (insOf m c) _ _ (small_u m c n hn hS) hS.2 k.val h k.isLt hh)
    (B8 m c n hn) (B0 m c n hn) (B9 m c n hn)
    (fun n p => (ld_row 0 (by decide) _ _ n p).trans (hst _ n p)) (fun n p => (ld_row 1 (by decide) _ _ n p).trans (hst _ n p)) (fun n p => (ld_row 2 (by decide) _ _ n p).trans (hst _ n p)) (fun n p => (ld_row 3 (by decide) _ _ n p).trans (hst _ n p)) (fun n p => (ld_row 4 (by decide) _ _ n p).trans (hst _ n p)) (fun n p => (ld_row 5 (by decide) _ _ n p).trans (hst _ n p)) (fun n p => (ld_row 6 (by decide) _ _ n p).trans (hst _ n p)) (fun n p => (ld_row 7 (by decide) _ _ n p).trans (hst _ n p)) r j

/-- The rows a later chunk keeps. -/
theorem tailB (n : ℕ) (hn : n < cfg0.N) (h0 : ¬ n % 16 = 0) : TailAt m c (n / 16) (n % 16 + 1) (outsAt0 m c n hn).2.1 := by
  intro i j
  rw [outsAt0_B m c ⟨n, hn⟩ (by simpa using h0)]
  dsimp only; frame_open; simp (disch := decide) only [↓ View.readCov_skip, ↓ View.readCov_cons_toLoadRect, ↓ View.readCov_fill]; frame_out
  exact pay7 (insOf m c) _ _ (B1 m c n hn) (B2 m c n hn) i j

/-- The states a later chunk leaves. -/
theorem stateB (hS : Small m c) (n : ℕ) (hn : n < cfg0.N) (h0 : ¬ n % 16 = 0)
    (ht : TailAt m c (n / 16) (n % 16) (outsAt0 m c (n - 1) (Nat.lt_of_le_of_lt (Nat.sub_le _ _) hn)).2.1) (hst : StateAt m c (n / 16) (n % 16) (outsAt0 m c (n - 1) (Nat.lt_of_le_of_lt (Nat.sub_le _ _) hn)).2.2) :
    StateAt m c (n / 16) (n % 16 + 1) (outsAt0 m c n hn).2.2 := by
  intro h q p
  rw [outsAt0_B m c ⟨n, hn⟩ (by simpa using h0)]
  dsimp only; frame_open; simp (disch := decide) only [↓ View.readCov_skip, ↓ View.readCov_cons_toLoadRect, ↓ View.readCov_fill]; frame_out
  simp only [read_unread_whole]
  exact stored (I := insOf m c) (b := n / 16) (c := n % 16) (pay10 (insOf m c) _ _ (B1 m c n hn) (B2 m c n hn) ht (W3 m c n hn) (W2 m c n hn) (W1 m c n hn) (W0 m c n hn) (CB m c n hn))
    (pay20 (insOf m c) _ _ (B3 m c n hn) (B6 m c n hn) (B7 m c n hn) (small_u m c n hn hS) hS.2)
    (pay25 (insOf m c) _ _ (B3 m c n hn) (B6 m c n hn) (B7 m c n hn) (small_u m c n hn hS) hS.2 (pay9 (insOf m c) _ _ (B1 m c n hn) (B2 m c n hn) ht (W3 m c n hn) (W2 m c n hn) (W1 m c n hn) (W0 m c n hn) (CB m c n hn)))
    (fun n p => (ld_row 0 (by decide) _ _ n p).trans (hst _ n p)) (fun n p => (ld_row 1 (by decide) _ _ n p).trans (hst _ n p)) (fun n p => (ld_row 2 (by decide) _ _ n p).trans (hst _ n p)) (fun n p => (ld_row 3 (by decide) _ _ n p).trans (hst _ n p)) (fun n p => (ld_row 4 (by decide) _ _ n p).trans (hst _ n p)) (fun n p => (ld_row 5 (by decide) _ _ n p).trans (hst _ n p)) (fun n p => (ld_row 6 (by decide) _ _ n p).trans (hst _ n p)) (fun n p => (ld_row 7 (by decide) _ _ n p).trans (hst _ n p)) _ h q p

/-- The output of a later chunk. -/
theorem outB (hS : Small m c) (n : ℕ) (hn : n < cfg0.N) (h0 : ¬ n % 16 = 0)
    (ht : TailAt m c (n / 16) (n % 16) (outsAt0 m c (n - 1) (Nat.lt_of_le_of_lt (Nat.sub_le _ _) hn)).2.1) (hst : StateAt m c (n / 16) (n % 16) (outsAt0 m c (n - 1) (Nat.lt_of_le_of_lt (Nat.sub_le _ _) hn)).2.2) (r : Fin 128) (j : Fin 512) :
    ((outsAt0 m c n hn).1 (ix2 r j) : EReal) = SsdSpec.out (insOf m c) (n / 16) (n % 16) r.val j.val := by
  rw [outsAt0_B m c ⟨n, hn⟩ (by simpa using h0)]
  dsimp only; frame_open; simp (disch := decide) only [↓ View.readCov_skip, ↓ View.readCov_cons_toLoadRect, ↓ View.readCov_fill]; frame_out
  simp only [read_unread_whole]
  exact outRow (I := insOf m c) (b := n / 16) (c := n % 16) (pay9 (insOf m c) _ _ (B1 m c n hn) (B2 m c n hn) ht (W3 m c n hn) (W2 m c n hn) (W1 m c n hn) (W0 m c n hn) (CB m c n hn))
    (pay10 (insOf m c) _ _ (B1 m c n hn) (B2 m c n hn) ht (W3 m c n hn) (W2 m c n hn) (W1 m c n hn) (W0 m c n hn) (CB m c n hn))
    (pay11 (insOf m c) _ _ (B1 m c n hn) (B2 m c n hn) ht (W3 m c n hn) (W2 m c n hn) (W1 m c n hn) (W0 m c n hn) (CB m c n hn))
    (pay18 (insOf m c) _ _ (B3 m c n hn) (B6 m c n hn) (B7 m c n hn) (small_u m c n hn hS) hS.2)
    (pay19 (insOf m c) _ _ (B3 m c n hn) (B6 m c n hn) (B7 m c n hn) (small_u m c n hn hS) hS.2)
    (pay23 (insOf m c) _ _ (B3 m c n hn) (B6 m c n hn) (small_u m c n hn hS) (pay9 (insOf m c) _ _ (B1 m c n hn) (B2 m c n hn) ht (W3 m c n hn) (W2 m c n hn) (W1 m c n hn) (W0 m c n hn) (CB m c n hn)))
    (pay24 (insOf m c) _ _ (B3 m c n hn) (B6 m c n hn) (B7 m c n hn) (small_u m c n hn hS) hS.2)
    pay26 (fun k h hh => da_fin (insOf m c) _ _ (small_u m c n hn hS) hS.2 k.val h k.isLt hh)
    (B8 m c n hn) (B0 m c n hn) (B9 m c n hn)
    (fun n p => (ld_row 0 (by decide) _ _ n p).trans (hst _ n p)) (fun n p => (ld_row 1 (by decide) _ _ n p).trans (hst _ n p)) (fun n p => (ld_row 2 (by decide) _ _ n p).trans (hst _ n p)) (fun n p => (ld_row 3 (by decide) _ _ n p).trans (hst _ n p)) (fun n p => (ld_row 4 (by decide) _ _ n p).trans (hst _ n p)) (fun n p => (ld_row 5 (by decide) _ _ n p).trans (hst _ n p)) (fun n p => (ld_row 6 (by decide) _ _ n p).trans (hst _ n p)) (fun n p => (ld_row 7 (by decide) _ _ n p).trans (hst _ n p)) r j

/-- The rows and states kept after every chunk. -/
theorem carried (hS : Small m c) : ∀ (n : ℕ) (hn : n < cfg0.N),
    TailAt m c (n / 16) (n % 16 + 1) (outsAt0 m c n hn).2.1 ∧ StateAt m c (n / 16) (n % 16 + 1) (outsAt0 m c n hn).2.2 := by
  intro n
  induction n with
  | zero => intro hn; exact ⟨tailA m c 0 hn rfl, stateA m c hS 0 hn rfl⟩
  | succ k ih =>
    intro hn
    by_cases h0 : (k + 1) % 16 = 0
    · exact ⟨tailA m c _ hn h0, stateA m c hS _ hn h0⟩
    · have hp := ih (Nat.lt_of_le_of_lt (Nat.sub_le (k + 1) 1) hn)
      have e1 : k / 16 = (k + 1) / 16 := by omega
      have e2 : k % 16 + 1 = (k + 1) % 16 := by omega
      rw [e1, e2] at hp
      exact ⟨tailB m c _ hn h0, stateB m c hS _ hn h0 hp.1 hp.2⟩

/-- The output of every chunk. -/
theorem outAt (hS : Small m c) (n : ℕ) (hn : n < cfg0.N) (r : Fin 128) (j : Fin 512) :
    ((outsAt0 m c n hn).1 (ix2 r j) : EReal) = SsdSpec.out (insOf m c) (n / 16) (n % 16) r.val j.val := by
  by_cases h0 : n % 16 = 0
  · exact outA m c hS n hn h0 r j
  · have hp := carried m c hS (n - 1) (Nat.lt_of_le_of_lt (Nat.sub_le _ _) hn)
    have e1 : (n - 1) / 16 = n / 16 := by omega
    have e2 : (n - 1) % 16 + 1 = n % 16 := by omega
    rw [e1, e2] at hp
    exact outB m c hS n hn h0 hp.1 hp.2 r j

end Cert.SsdIdeal.Proof

end
-- ==== Proof.SsdRef.lean ====
/- The reference's steps, each as the named function of positions that it computes. -/
module

public import proofs.«01_k».proof.Defs
public import proofs.«01_k».proof.Proof.Gen.SsdRefIdeal.Run
public import proofs.«01_k».proof.Proof.SsdSpec
public import Idealize.ShloMosaic.Lib.Pointwise
public import Idealize.ShloMosaic.Lib.Pointwise.Sums
public import Idealize.ShloMosaic.Lib.Tactic.CleanTypes

@[expose] public section

set_option maxRecDepth 16384

noncomputable section

open Idealize.ShloMosaic Idealize.ShloMosaic.TcCoe Idealize.SL.Sem
open scoped BigOperators

namespace Cert.SsdRefIdeal.Proof

open Cert.SsdRefIdeal Cert.SsdRefIdeal.Value Cert.SsdSpec

/-- The reference's arguments are the mixer's inputs `I`. -/
structure Reads (V0 : Valuation τ sig (Elt Ideal)) (I : Ins) : Prop where
  u : ∀ (a : Fin 32768) (b : Fin 5632), (V0 (Proc.tc.devRef main_arg0) (ix2 a b) : EReal) = I.u a.val b.val
  w : ∀ (a : Fin 4) (b : Fin 1024), (V0 (Proc.tc.devRef main_arg1) (ix2 a b) : EReal) = I.w a.val b.val
  cb : ∀ a : Fin 1024, (V0 (Proc.tc.devRef main_arg2) (ix1 a) : EReal) = I.cb a.val
  db : ∀ a : Fin 8, (V0 (Proc.tc.devRef main_arg3) (ix1 a) : EReal) = I.db a.val
  al : ∀ a : Fin 8, (V0 (Proc.tc.devRef main_arg4) (ix1 a) : EReal) = I.al a.val
  ds : ∀ a : Fin 8, (V0 (Proc.tc.devRef main_arg5) (ix1 a) : EReal) = I.ds a.val
  ng : ∀ a : Fin 512, (V0 (Proc.tc.devRef main_arg6) (ix1 a) : EReal) = I.ng a.val

variable {V0 : Valuation τ sig (Elt Ideal)} {I : Ins} (R : Reads V0 I)
include R

theorem v0 (a : Fin 16) (b : Fin 2048) (c : Fin 5632) :
    (res_main_v0 (F := Ideal) V0 (ix3 a b c) : EReal) = I.u (a.val * 2048 + b.val) c.val := by
  unfold res_main_v0; clean_types; pointwise
  exact R.u _ _

theorem v1 (a : Fin 16) (b : Fin 2048) (c : Fin 512) :
    (res_main_v1 (F := Ideal) V0 (ix3 a b c) : EReal) = I.u (a.val * 2048 + b.val) c.val := by
  unfold res_main_v1; clean_types; pointwise
  exact v0 R _ _ _

theorem v3 (a : Fin 16) (b : Fin 2051) (c : Fin 1024) :
    (res_main_v3 (F := Ideal) V0 (ix3 a b c) : EReal) = if 3 ≤ b.val then I.u (a.val * 2048 + (b.val - 3)) (512 + c.val) else 0 := by
  unfold res_main_v3; clean_types; pointwise
  have hb := b.isLt
  by_cases h : 3 ≤ b.val
  · rw [dif_pos (show _ ∧ _ from ⟨h, by omega⟩), if_pos h]; exact v0 R _ _ _
  · rw [dif_neg fun h' => h h'.1, if_neg h]; simp [FloatOps.sitofp]

theorem v35 (a : Fin 16) (b : Fin 2048) (c : Fin 1024) :
    (res_main_v35 (F := Ideal) V0 (ix3 a b c) : EReal) = cv I a.val b.val c.val := by
  unfold res_main_v35; clean_types; pointwise
  simp only [v3 R, R.w, R.cb]
  have e : ∀ (k i : ℕ), k + i = 3 → (if 3 ≤ k + b.val then I.u (a.val * 2048 + (k + b.val - 3)) (512 + c.val) else 0)
      = xin I a.val b.val i c.val := by
    intro k i hk
    unfold xin
    by_cases h : i ≤ b.val
    · rw [if_pos h, if_pos (by omega)]; congr 2; omega
    · rw [if_neg h, if_neg (by omega)]
  have e0 : (if 3 ≤ b.val then I.u (a.val * 2048 + (b.val - 3)) (512 + c.val) else 0) = xin I a.val b.val 3 c.val := rfl
  rw [e0, e 1 2 rfl, e 2 1 rfl, e 3 0 rfl]; rfl

theorem v36 (a : Fin 16) (b : Fin 2048) (c : Fin 1024) :
    (res_main_v36 (F := Ideal) V0 (ix3 a b c) : EReal) = act I a.val b.val c.val := by
  unfold res_main_v36; clean_types; pointwise
  simp only [v35 R]; rfl

theorem v40 (a : Fin 16) (b : Fin 2048) (c : Fin 8) :
    (res_main_v40 (F := Ideal) V0 (ix3 a b c) : EReal) = I.u (a.val * 2048 + b.val) (5376 + c.val) + I.db c.val := by
  unfold res_main_v40; clean_types; pointwise
  simp only [v0 R, R.db]

theorem call2_cst : (res_main_call2_cst (F := Ideal) V0 ix0 : EReal) = (fun x : EReal => x) 0 := by
  unfold res_main_call2_cst; clean_types; pointwise

theorem call2_v3 (a : Fin 16) (b : Fin 2048) (c : Fin 8) :
    (res_main_call2_v3 (F := Ideal) V0 (ix3 a b c) : EReal) = I.u (a.val * 2048 + b.val) (5376 + c.val) + I.db c.val := by
  unfold res_main_call2_v3; clean_types; pointwise
  simp only [v40 R, call2_cst R, sub_zero]

theorem v41 (a : Fin 16) (b : Fin 2048) (c : Fin 8) :
    (res_main_v41 (F := Ideal) V0 (ix3 a b c) : EReal) = dt I a.val b.val c.val := by
  unfold res_main_v41; clean_types; pointwise
  simp only [v40 R, call2_cst R, call2_v3 R, ne_eq, not_true_eq_false, if_false]
  rfl

theorem v43 (a : Fin 16) (b : Fin 2048) (c : Fin 8) (d : Fin 64) :
    (res_main_v43 (F := Ideal) V0 (ix4 a b c d) : EReal) = act I a.val b.val (c.val * 64 + d.val) := by
  unfold res_main_v43; clean_types; pointwise
  simp only [v36 R]

theorem v45 (a : Fin 16) (b : Fin 16) (c : Fin 128) (d : Fin 2) (e : Fin 128) :
    (res_main_v45 (F := Ideal) V0 (ix5 a b c d e) : EReal) = bm I a.val (b.val * 128 + c.val) d.val e.val := by
  unfold res_main_v45; clean_types; pointwise
  simp only [v36 R]; rfl

theorem v47 (a : Fin 16) (b : Fin 16) (c : Fin 128) (d : Fin 2) (e : Fin 128) :
    (res_main_v47 (F := Ideal) V0 (ix5 a b c d e) : EReal) = cm I a.val (b.val * 128 + c.val) d.val e.val := by
  unfold res_main_v47; clean_types; pointwise
  simp only [v36 R]; rfl

theorem v51 (a : Fin 16) (b : Fin 16) (c : Fin 128) (d : Fin 2) (e : Fin 4) (f : Fin 64) :
    (res_main_v51 (F := Ideal) V0 (ix6 a b c d e f) : EReal) = xdt I a.val (b.val * 128 + c.val) (d.val * 4 + e.val) f.val := by
  unfold res_main_v51; clean_types; pointwise
  simp only [v43 R, v41 R]; rfl

theorem v58 (a : Fin 16) (d : Fin 2) (e : Fin 4) (b : Fin 16) (c : Fin 128) :
    (res_main_v58 (F := Ideal) V0 (ix5 a d e b c) : EReal) = da I a.val (b.val * 128 + c.val) (d.val * 4 + e.val) := by
  unfold res_main_v58; clean_types; pointwise
  simp only [v41 R, R.al]; rfl

theorem v59 (a : Fin 16) (d : Fin 2) (e : Fin 4) (b : Fin 16) (c : Fin 128) :
    (res_main_v59 (F := Ideal) V0 (ix5 a d e b c) : EReal) = acs I a.val b.val c.val (d.val * 4 + e.val) := by
  unfold res_main_v59; clean_types
  refine (hostCumsum5 (res_main_v58 V0) _ ?_ _ _ a d e b c).trans ?_
  · funext j; rw [show j = ix0 from funext fun i => i.elim0]; pointwise
  simp only [v58 R]; rfl

end Cert.SsdRefIdeal.Proof

end
-- ==== Proof.SsdRefState.lean ====
/- The reference's steps, each as the named function of positions that it computes. -/
module

public import proofs.«01_k».proof.Defs
public import proofs.«01_k».proof.Proof.Gen.SsdRefIdeal.Run
public import proofs.«01_k».proof.Proof.SsdRef
public import Idealize.ShloMosaic.Lib.Pointwise
public import Idealize.ShloMosaic.Lib.Pointwise.Sums
public import Idealize.ShloMosaic.Lib.Tactic.CleanTypes

@[expose] public section

set_option maxRecDepth 16384

noncomputable section

open Idealize.ShloMosaic Idealize.ShloMosaic.TcCoe Idealize.SL.Sem
open scoped BigOperators

namespace Cert.SsdRefIdeal.Proof

open Cert.SsdRefIdeal Cert.SsdRefIdeal.Value Cert.SsdSpec

variable {V0 : Valuation τ sig (Elt Ideal)} {I : Ins} (R : Reads V0 I)
include R

theorem v84 (b : Fin 16) (a : Fin 16) (d : Fin 2) (e : Fin 4) (f : Fin 64) (g : Fin 128) :
    (res_main_v84 (F := Ideal) V0 (ix6 b a d e f g) : EReal) = cst I a.val b.val (d.val * 4 + e.val) f.val g.val := by
  unfold res_main_v84; clean_types; pointwise
  simp only [v59 R, v51 R, v45 R]
  have h4 : (d.val * 4 + e.val) / 4 = d.val := by omega
  unfold cst; rw [h4]
  try rfl

theorem v88 (b : Fin 16) (a : Fin 16) (d : Fin 2) (e : Fin 4) :
    (res_main_v88 (F := Ideal) V0 (ix4 b a d e) : EReal) = Ideal.exp (acs I a.val b.val 127 (d.val * 4 + e.val)) := by
  unfold res_main_v88; clean_types; pointwise
  simp only [v59 R]; try rfl

theorem v89 (a : Fin 16) (d : Fin 2) (e : Fin 4) (f : Fin 64) (g : Fin 128) :
    (res_main_v89 (F := Ideal) V0 (ix5 a d e f g) : EReal) = st I a.val 0 (d.val * 4 + e.val) f.val g.val := by
  unfold res_main_v89; clean_types; pointwise
  try rfl

theorem v97 (a : Fin 16) (d : Fin 2) (e : Fin 4) (f : Fin 64) (g : Fin 128) :
    (res_main_v97 (F := Ideal) V0 (ix5 a d e f g) : EReal) = st I a.val 1 (d.val * 4 + e.val) f.val g.val := by
  unfold res_main_v97; clean_types; pointwise
  simp only [v89 R, v88 R, v84 R]; rfl

theorem v105 (a : Fin 16) (d : Fin 2) (e : Fin 4) (f : Fin 64) (g : Fin 128) :
    (res_main_v105 (F := Ideal) V0 (ix5 a d e f g) : EReal) = st I a.val 2 (d.val * 4 + e.val) f.val g.val := by
  unfold res_main_v105; clean_types; pointwise
  simp only [v97 R, v88 R, v84 R]; rfl

theorem v113 (a : Fin 16) (d : Fin 2) (e : Fin 4) (f : Fin 64) (g : Fin 128) :
    (res_main_v113 (F := Ideal) V0 (ix5 a d e f g) : EReal) = st I a.val 3 (d.val * 4 + e.val) f.val g.val := by
  unfold res_main_v113; clean_types; pointwise
  simp only [v105 R, v88 R, v84 R]; rfl

theorem v121 (a : Fin 16) (d : Fin 2) (e : Fin 4) (f : Fin 64) (g : Fin 128) :
    (res_main_v121 (F := Ideal) V0 (ix5 a d e f g) : EReal) = st I a.val 4 (d.val * 4 + e.val) f.val g.val := by
  unfold res_main_v121; clean_types; pointwise
  simp only [v113 R, v88 R, v84 R]; rfl

theorem v129 (a : Fin 16) (d : Fin 2) (e : Fin 4) (f : Fin 64) (g : Fin 128) :
    (res_main_v129 (F := Ideal) V0 (ix5 a d e f g) : EReal) = st I a.val 5 (d.val * 4 + e.val) f.val g.val := by
  unfold res_main_v129; clean_types; pointwise
  simp only [v121 R, v88 R, v84 R]; rfl

theorem v137 (a : Fin 16) (d : Fin 2) (e : Fin 4) (f : Fin 64) (g : Fin 128) :
    (res_main_v137 (F := Ideal) V0 (ix5 a d e f g) : EReal) = st I a.val 6 (d.val * 4 + e.val) f.val g.val := by
  unfold res_main_v137; clean_types; pointwise
  simp only [v129 R, v88 R, v84 R]; rfl

theorem v145 (a : Fin 16) (d : Fin 2) (e : Fin 4) (f : Fin 64) (g : Fin 128) :
    (res_main_v145 (F := Ideal) V0 (ix5 a d e f g) : EReal) = st I a.val 7 (d.val * 4 + e.val) f.val g.val := by
  unfold res_main_v145; clean_types; pointwise
  simp only [v137 R, v88 R, v84 R]; rfl

theorem v153 (a : Fin 16) (d : Fin 2) (e : Fin 4) (f : Fin 64) (g : Fin 128) :
    (res_main_v153 (F := Ideal) V0 (ix5 a d e f g) : EReal) = st I a.val 8 (d.val * 4 + e.val) f.val g.val := by
  unfold res_main_v153; clean_types; pointwise
  simp only [v145 R, v88 R, v84 R]; rfl

theorem v161 (a : Fin 16) (d : Fin 2) (e : Fin 4) (f : Fin 64) (g : Fin 128) :
    (res_main_v161 (F := Ideal) V0 (ix5 a d e f g) : EReal) = st I a.val 9 (d.val * 4 + e.val) f.val g.val := by
  unfold res_main_v161; clean_types; pointwise
  simp only [v153 R, v88 R, v84 R]; rfl

theorem v169 (a : Fin 16) (d : Fin 2) (e : Fin 4) (f : Fin 64) (g : Fin 128) :
    (res_main_v169 (F := Ideal) V0 (ix5 a d e f g) : EReal) = st I a.val 10 (d.val * 4 + e.val) f.val g.val := by
  unfold res_main_v169; clean_types; pointwise
  simp only [v161 R, v88 R, v84 R]; rfl

theorem v177 (a : Fin 16) (d : Fin 2) (e : Fin 4) (f : Fin 64) (g : Fin 128) :
    (res_main_v177 (F := Ideal) V0 (ix5 a d e f g) : EReal) = st I a.val 11 (d.val * 4 + e.val) f.val g.val := by
  unfold res_main_v177; clean_types; pointwise
  simp only [v169 R, v88 R, v84 R]; rfl

theorem v185 (a : Fin 16) (d : Fin 2) (e : Fin 4) (f : Fin 64) (g : Fin 128) :
    (res_main_v185 (F := Ideal) V0 (ix5 a d e f g) : EReal) = st I a.val 12 (d.val * 4 + e.val) f.val g.val := by
  unfold res_main_v185; clean_types; pointwise
  simp only [v177 R, v88 R, v84 R]; rfl

theorem v193 (a : Fin 16) (d : Fin 2) (e : Fin 4) (f : Fin 64) (g : Fin 128) :
    (res_main_v193 (F := Ideal) V0 (ix5 a d e f g) : EReal) = st I a.val 13 (d.val * 4 + e.val) f.val g.val := by
  unfold res_main_v193; clean_types; pointwise
  simp only [v185 R, v88 R, v84 R]; rfl

theorem v201 (a : Fin 16) (d : Fin 2) (e : Fin 4) (f : Fin 64) (g : Fin 128) :
    (res_main_v201 (F := Ideal) V0 (ix5 a d e f g) : EReal) = st I a.val 14 (d.val * 4 + e.val) f.val g.val := by
  unfold res_main_v201; clean_types; pointwise
  simp only [v193 R, v88 R, v84 R]; rfl

theorem v209 (a : Fin 16) (d : Fin 2) (e : Fin 4) (f : Fin 64) (g : Fin 128) :
    (res_main_v209 (F := Ideal) V0 (ix5 a d e f g) : EReal) = st I a.val 15 (d.val * 4 + e.val) f.val g.val := by
  unfold res_main_v209; clean_types; pointwise
  simp only [v201 R, v88 R, v84 R]; rfl

theorem v241 (a b : Fin 16) (c : Fin 128) (d : Fin 2) (e : Fin 4) (f : Fin 64) :
    (res_main_v241 (F := Ideal) V0 (ix6 a b c d e f) : EReal)
      = (∑ n : Fin 128, st I a.val b.val (d.val * 4 + e.val) f.val n.val * cm I a.val (b.val * 128 + c.val) d.val n.val)
        * Ideal.exp (acs I a.val b.val c.val (d.val * 4 + e.val)) := by
  unfold res_main_v241; clean_types; pointwise
  simp only [v89 R, v97 R, v105 R, v113 R, v121 R, v129 R, v137 R, v145 R, v153 R, v161 R, v169 R, v177 R, v185 R, v193 R, v201 R, v209 R, v47 R, v59 R]
  congr 1
  refine Finset.sum_congr rfl fun x _ => ?_
  congr 1
  fin_cases b <;> rfl

end Cert.SsdRefIdeal.Proof

end
-- ==== Proof.SsdRefOut.lean ====
/- The reference's steps, each as the named function of positions that it computes. -/
module

public import proofs.«01_k».proof.Defs
public import proofs.«01_k».proof.Proof.Gen.SsdRefIdeal.Run
public import proofs.«01_k».proof.Proof.SsdRefState
public import Idealize.ShloMosaic.Lib.Pointwise
public import Idealize.ShloMosaic.Lib.Pointwise.Sums
public import Idealize.ShloMosaic.Lib.Tactic.CleanTypes

@[expose] public section

set_option maxRecDepth 16384

noncomputable section

open Idealize.ShloMosaic Idealize.ShloMosaic.TcCoe Idealize.SL.Sem
open scoped BigOperators

namespace Cert.SsdRefIdeal.Proof

open Cert.SsdRefIdeal Cert.SsdRefIdeal.Value Cert.SsdSpec

/-- The lower triangle with its diagonal, as the reference's words test it. -/
theorem mask0 : ∀ k s : Fin 128, Scalar.select (IntOp.cmpi .sge (IntOp.addi (BitVec.ofNat 32 k.val) 0#32) (BitVec.ofNat 32 s.val)) 1#1 0#1
    = if s.val ≤ k.val then 1#1 else 0#1 := by decide +kernel

/-- The lower triangle without its diagonal, as the reference's words test it. -/
theorem mask1 : ∀ k s : Fin 128, Scalar.select (IntOp.cmpi .sge (IntOp.addi (BitVec.ofNat 32 k.val) 4294967295#32) (BitVec.ofNat 32 s.val)) 1#1 0#1
    = if s.val < k.val then 1#1 else 0#1 := by decide +kernel

/-- A selection by a decided word is the conditional. -/
theorem select_ite (p : Prop) [Decidable p] (a b : EReal) : Scalar.select (if p then 1#1 else 0#1) a b = if p then a else b := by
  split_ifs <;> rfl

/-- The constant that the reference masks with is minus infinity. -/
theorem negInf : (id (constant (F := Ideal) S_ FTy.f32 4286578688#32) ix0 : EReal) = ⊥ := by
  show Ideal.ofBits .f32 0xFF800000#32 = ⊥
  simp [Ideal.ofBits, Ideal.ieee]

/-- The constant that the reference fills its masked sums with is zero. -/
theorem zero0 : (id (constant (F := Ideal) S_ FTy.f32 0#32) ix0 : EReal) = 0 := by
  show Ideal.ofBits .f32 0x00000000#32 = 0
  simp [Ideal.ofBits, Ideal.ieee]

/-- A chunk's own contribution at one position: the sum over its positions of the step's input, the product of the
    two projections and the decay between. -/
theorem inner_at (P : FVec Ideal S16x16x128x2x4x64 .f32) (Q K : FVec Ideal S16x16x128x2x128 .f32) (W : FVec Ideal S16x2x4x16x128x128 .f32)
    (a b : Fin 16) (d : Fin 2) (e : Fin 4) (f : Fin 64) (l : Fin 128) :
    ((Host.dotGeneral dot_S16x16x128x2x4x64_S16x2x4x16x128x128_S16x16x2x4x64x128_2_5_5_4_0134_0312 none P (mulf (broadcastInDim S16x2x4x16x128x128 ![0, 1, 2, 3, 4, 5] Gen.bcast_S16x2x1x16x128x128_S16x2x4x16x128x128_0_1_2_3_4_5 (broadcastInDim S16x2x1x16x128x128 ![0, 1, 3, 4, 5] Gen.bcast_S16x2x16x128x128_S16x2x1x16x128x128_0_1_3_4_5 (Host.dotGeneral dot_S16x16x128x2x128_S16x16x128x2x128_S16x2x16x128x128_4_4_2_2_031_031 none Q K))) (Host.exp (select (broadcastInDim S16x2x4x16x128x128 ![4, 5] Gen.bcast_S128x128_S16x2x4x16x128x128_4_5 (select (cmpi .sge (addi (iotaInDim S128x128 32 0) (broadcastInDim S128x128 ![] Gen.bcast_S_S128x128 (constantI S_ 32 0#32))) (iotaInDim S128x128 32 1)) (broadcastInDim S128x128 ![] Gen.bcast_S_S128x128 (constantI S_ 1 1#1)) (broadcastInDim S128x128 ![] Gen.bcast_S_S128x128 (constantI S_ 1 0#1)))) W (broadcastInDim S16x2x4x16x128x128 ![] Gen.bcast_S_S16x2x4x16x128x128 (id (constant (F := Ideal) S_ .f32 0xFF800000#32))))))) (ix6 a b d e f l) : EReal)
      = ∑ s : Fin 128, P (ix6 a b s d e f) * ((∑ n : Fin 128, Q (ix5 a b l d n) * K (ix5 a b s d n))
          * Ideal.exp (if s.val ≤ l.val then W (ix6 a d e b l s) else ⊥)) := by
  pointwise
  refine Finset.sum_congr rfl fun s _ => ?_
  rw [mask0 l s, select_ite, negInf]

/-- The parts of the gated output at one position. -/
theorem outer_at (X : FVec Ideal S16x16x2x4x64x128 .f32) (A : FVec Ideal S16x16x128x2x4x64 .f32) (B : FVec Ideal S16x2048x8x64 .f32)
    (C : FVec Ideal S16x2048x512 .f32) (D : FVec Ideal S8 .f32) (a : Fin 16) (b : Fin 2048) (d : Fin 2) (x : Fin 256) :
    ((shapeCast _ (mulf (shapeCast _ (addf (shapeCast _ (addf (transpose S16x16x128x2x4x64 [0, 1, 5, 2, 3, 4] X Gen.transposes_S16x16x2x4x64x128_S16x16x128x2x4x64_0_1_5_2_3_4) A) Gen.shapeCasts_S16x16x128x2x4x64_S16x2048x8x64) (mulf B (broadcastInDim S16x2048x8x64 ![0, 1, 2, 3] Gen.bcast_S1x1x8x1_S16x2048x8x64_0_1_2_3 (broadcastInDim S1x1x8x1 ![2, 3] Gen.bcast_S8x1_S1x1x8x1_2_3 (broadcastInDim S8x1 ![0] Gen.bcast_S8_S8x1_0 D))))) Gen.shapeCasts_S16x2048x8x64_S16x2048x512) (mulf C (Host.divf (broadcastInDim S16x2048x512 ![] Gen.bcast_S_S16x2048x512 (constant (F := Ideal) S_ .f32 0x3F800000#32)) (addf (broadcastInDim S16x2048x512 ![] Gen.bcast_S_S16x2048x512 (constant (F := Ideal) S_ .f32 0x3F800000#32)) (Host.exp (Host.negf C)))))) Gen.shapeCasts_S16x2048x512_S16x2048x2x256 : FVec Ideal S16x2048x2x256 .f32) (ix4 a b d x) : EReal)
      = (X (ix6 a ⟨b.val / 128, by omega⟩ d ⟨(d.val * 256 + x.val) / 64 % 4, by omega⟩ ⟨(d.val * 256 + x.val) % 64, by omega⟩ ⟨b.val % 128, by omega⟩)
          + A (ix6 a ⟨b.val / 128, by omega⟩ ⟨b.val % 128, by omega⟩ d ⟨(d.val * 256 + x.val) / 64 % 4, by omega⟩ ⟨(d.val * 256 + x.val) % 64, by omega⟩)
          + B (ix4 a b ⟨(d.val * 256 + x.val) / 64, by omega⟩ ⟨(d.val * 256 + x.val) % 64, by omega⟩) * D (ix1 ⟨(d.val * 256 + x.val) / 64, by omega⟩))
        * silu (C (ix3 a b ⟨d.val * 256 + x.val, by omega⟩)) := by
  pointwise
  rfl

variable {V0 : Valuation τ sig (Elt Ideal)} {I : Ins} (R : Reads V0 I)
include R

/-- The masked running sum inside a chunk: the decays after `s` up to `l`. -/
theorem segcum (a : Fin 16) (d : Fin 2) (e : Fin 4) (b : Fin 16) (l s : Fin 128) :
    (Host.reduceWindowAdd ![1, 1, 1, 1, 128, 1] ![1, 1, 1, 1, 1, 1] ![0, 0, 0, 0, 127, 0]
                      ![0, 0, 0, 0, 0, 0]
                      (select
                        (broadcastInDim S16x2x4x16x128x128 ![4, 5] Gen.bcast_S128x128_S16x2x4x16x128x128_4_5
                          (select
                            (cmpi CmpIPredicate.sge
                              (addi (iotaInDim S128x128 32 0)
                                (broadcastInDim S128x128 ![] Gen.bcast_S_S128x128 (constantI S_ 32 4294967295#32)))
                              (iotaInDim S128x128 32 1))
                            (broadcastInDim S128x128 ![] Gen.bcast_S_S128x128 (constantI S_ 1 1#1))
                            (broadcastInDim S128x128 ![] Gen.bcast_S_S128x128 (constantI S_ 1 0#1))))
                        (broadcastInDim S16x2x4x16x128x128 ![0, 1, 2, 3, 4, 5]
                          Gen.bcast_S16x2x4x16x128x1_S16x2x4x16x128x128_0_1_2_3_4_5
                          (broadcastInDim S16x2x4x16x128x1 ![0, 1, 2, 3, 4]
                            Gen.bcast_S16x2x4x16x128_S16x2x4x16x128x1_0_1_2_3_4 (res_main_v58 V0)))
                        (broadcastInDim S16x2x4x16x128x128 ![] Gen.bcast_S_S16x2x4x16x128x128
                          (id (constant (F := Ideal) S_ FTy.f32 0#32))))
                      (broadcastInDim S_ ![] Gen.bcast_S_S_ (constant S_ FTy.f32 0#32))
                      Gen.reduceWindows_S16x2x4x16x128x128_S16x2x4x16x128x128_w1s1p0_0_w1s1p0_0_w1s1p0_0_w1s1p0_0_w128s1p127_0_w1s1p0_0
                      Gen.h_S_ (ix6 a d e b l s) : EReal)
      = ∑ k : Fin 128, if k.val ≤ l.val then (if s.val < k.val then da I a.val (b.val * 128 + k.val) (d.val * 4 + e.val) else 0) else 0 := by
  refine (hostCumsum6 _ _ ?_ _ _ a d e b l s).trans ?_
  · funext j; rw [show j = ix0 from funext fun i => i.elim0]; pointwise
  refine Finset.sum_congr rfl fun k _ => ?_
  refine if_congr Iff.rfl ?_ rfl
  pointwise
  rw [mask1 k s, select_ite, v58 R, zero0]

/-- The gated output, in two groups of columns. -/
theorem v252 (a : Fin 16) (b : Fin 2048) (d : Fin 2) (x : Fin 256) :
    (res_main_v252 (F := Ideal) V0 (ix4 a b d x) : EReal) = yz I a.val (b.val / 128) (b.val % 128) (d.val * 256 + x.val) := by
  have hb := b.isLt; have hd := d.isLt; have hx := x.isLt
  unfold res_main_v252
  refine (outer_at _ (res_main_v241 V0) (res_main_v43 V0) (res_main_v1 V0) _ a b d x).trans ?_
  rw [inner_at, v241 R, v43 R, v1 R]
  simp only [segcum R, v51 R, v47 R, v45 R]
  have e1 : d.val * 4 + (d.val * 256 + x.val) / 64 % 4 = (d.val * 256 + x.val) / 64 := by omega
  have e2 : (d.val * 256 + x.val) / 64 / 4 = d.val := by omega
  have e3 : b.val = b.val / 128 * 128 + b.val % 128 := by omega
  have e4 : V0 (Proc.tc.devRef main_arg5) (ix1 ⟨(d.val * 256 + x.val) / 64, by omega⟩) = I.ds ((d.val * 256 + x.val) / 64) := R.ds _
  rw [e1]
  unfold yz y seg
  rw [e2, ← e3]
  exact congrArg₂ _ (congrArg₂ _ rfl (congrArg₂ _ rfl e4)) rfl

end Cert.SsdRefIdeal.Proof

end
-- ==== Proof.SsdValue.lean ====
/- The state-space mixer computes its reference at the real numbers. -/
module

public import proofs.«01_k».proof.Defs
public import proofs.«01_k».proof.Proof.SsdStep
public import proofs.«01_k».proof.Proof.Gen.SsdRefIdeal.Run
public import proofs.«01_k».proof.Proof.SsdRefOut
public import Idealize.ShloMosaic.Lib.Pointwise.Sums
public import Idealize.ShloMosaic.Lib.Pipeline.ValueKit
public import proofs.«01_k».proof.Proof.Gen.SsdIdeal.Value
public import proofs.«01_k».proof.Proof.Gen.Pre_step_sizes_bounded
public import Idealize.ShloMosaic.Lib.ReduceAll
public import Idealize.ShloMosaic.Lib.WordArith
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open scoped BigOperators

namespace Cert.SsdRefIdeal.Proof

open Cert.SsdRefIdeal Cert.SsdRefIdeal.Value Cert.SsdSpec

/-- The reference's last steps at one position: the grouped norm of the gated output, times the gain. -/
theorem normed_at (Y : FVec Ideal S16x2048x2x256 .f32) (G : FVec Ideal S512 .f32) (r : Fin 32768) (j : Fin 512) :
    (((truncf .bf16 (shapeCast _ (mulf (mulf Y (broadcastInDim S16x2048x2x256 ![0, 1, 2, 3] Gen.bcast_S16x2048x2x1_S16x2048x2x256_0_1_2_3 (Host.rsqrt (addf (Host.divf (broadcastInDim S16x2048x2x1 ![0, 1, 2] Gen.bcast_S16x2048x2_S16x2048x2x1_0_1_2 (Host.reduceAdd (mulf Y Y) (constant (F := Ideal) S_ .f32 0x00000000#32) Gen.reducesTo_S16x2048x2x256_S16x2048x2_d3 Gen.h_S_)) (broadcastInDim S16x2048x2x1 ![] Gen.bcast_S_S16x2048x2x1 (constant (F := Ideal) S_ .f32 0x43800000#32))) (broadcastInDim S16x2048x2x1 ![] Gen.bcast_S_S16x2048x2x1 (constant (F := Ideal) S_ .f32 0x358637BD#32)))))) (broadcastInDim S16x2048x2x256 ![0, 1, 2, 3] Gen.bcast_S1x1x2x256_S16x2048x2x256_0_1_2_3 (broadcastInDim S1x1x2x256 ![2, 3] Gen.bcast_S2x256_S1x1x2x256_2_3 (shapeCast _ G Gen.shapeCasts_S512_S2x256)))) Gen.shapeCasts_S16x2048x2x256_S32768x512) Gen.bitsLt_bf16_f32 : FVec Ideal S32768x512 .bf16)) (ix2 r j) : EReal)
      = Y (ix4 ⟨r.val / 2048, by omega⟩ ⟨r.val % 2048, by omega⟩ ⟨j.val / 256, by omega⟩ ⟨j.val % 256, by omega⟩)
        * Ideal.rsqrt (Ideal.div (∑ x : Fin 256, Y (ix4 ⟨r.val / 2048, by omega⟩ ⟨r.val % 2048, by omega⟩ ⟨j.val / 256, by omega⟩ x)
              * Y (ix4 ⟨r.val / 2048, by omega⟩ ⟨r.val % 2048, by omega⟩ ⟨j.val / 256, by omega⟩ x))
            (Ideal.ofBits .f32 0x43800000#32) + Ideal.ofBits .f32 0x358637BD#32) * G (ix1 j) := by
  pointwise

/-- The reference's result at one position. -/
theorem normed {V0 : Valuation τ sig (Elt Ideal)} {I : Ins} (R : Reads V0 I) (r : Fin 32768) (j : Fin 512) :
    (((truncf .bf16 (shapeCast _ (mulf (mulf (res_main_v252 (F := Ideal) V0) (broadcastInDim S16x2048x2x256 ![0, 1, 2, 3] Gen.bcast_S16x2048x2x1_S16x2048x2x256_0_1_2_3 (Host.rsqrt (addf (Host.divf (broadcastInDim S16x2048x2x1 ![0, 1, 2] Gen.bcast_S16x2048x2_S16x2048x2x1_0_1_2 (Host.reduceAdd (mulf (res_main_v252 (F := Ideal) V0) (res_main_v252 (F := Ideal) V0)) (constant (F := Ideal) S_ .f32 0x00000000#32) Gen.reducesTo_S16x2048x2x256_S16x2048x2_d3 Gen.h_S_)) (broadcastInDim S16x2048x2x1 ![] Gen.bcast_S_S16x2048x2x1 (constant (F := Ideal) S_ .f32 0x43800000#32))) (broadcastInDim S16x2048x2x1 ![] Gen.bcast_S_S16x2048x2x1 (constant (F := Ideal) S_ .f32 0x358637BD#32)))))) (broadcastInDim S16x2048x2x256 ![0, 1, 2, 3] Gen.bcast_S1x1x2x256_S16x2048x2x256_0_1_2_3 (broadcastInDim S1x1x2x256 ![2, 3] Gen.bcast_S2x256_S1x1x2x256_2_3 (shapeCast _ (V0 (Proc.tc.devRef main_arg6)) Gen.shapeCasts_S512_S2x256)))) Gen.shapeCasts_S16x2048x2x256_S32768x512) Gen.bitsLt_bf16_f32 : FVec Ideal S32768x512 .bf16)) (ix2 r j) : EReal) = SsdSpec.out I (r.val / 2048) (r.val % 2048 / 128) (r.val % 128) j.val := by
  refine (normed_at (res_main_v252 (F := Ideal) V0) (V0 (Proc.tc.devRef main_arg6)) r j).trans ?_
  simp only [v252 R, R.ng]
  have e1 : r.val % 2048 % 128 = r.val % 128 := by omega
  have e2 : j.val / 256 * 256 + j.val % 256 = j.val := by omega
  simp only [e1, e2]
  rfl

end Cert.SsdRefIdeal.Proof

namespace Cert.SsdIdeal.Proof

open Idealize.ShloMosaic.Pipeline (Dat)
open Cert.SsdIdeal Cert.SsdIdeal.Gen Cert.SsdSpec

variable (m : (ℓ : Loc nD τ sig) → Buf (Elt Ideal) ℓ) (c : Dev nD)

/-- The bound that the precondition compares with is plus infinity. -/
theorem posInf : Ideal.ofBits .f32 0x7F800000#32 = ⊤ := by
  simp [Ideal.ofBits, Ideal.ieee]

/-- A comparison's word is one only where it holds. -/
theorem lt_of_word (x y : EReal) (h : Ideal.cmp .olt x y = 1#1) : x < y := by
  by_contra hn
  simp [Ideal.cmp, hn] at h

/-- The precondition bounds the step sizes' arguments and the decay rates' logarithms. -/
theorem small_of_pre (hp : Cert.Pre_SsdIdeal_step_sizes_bounded m) : Small m c := by
  have h := congrFun (hp c) ix0
  unfold Cert.Pre_step_sizes_bounded.fn at h
  dsimp only at h
  have h' := (IntOp.andi_eq_one.mp h)
  obtain ⟨h1, h2⟩ := h'
  have : Subsingleton Cert.Pre_step_sizes_bounded.S_.Idx := inferInstance
  refine ⟨fun i k hi hk => ?_, fun k hk => ?_⟩
  · have e := Host.reduce_andi_all _ _ _ _ _ h1 (ix2 ⟨i, hi⟩ ⟨k, hk⟩)
    refine lt_of_word _ _ (Eq.trans ?_ e)
    have a : (insOf m c).u i (5376 + k) = m ((c.tc : Thread nD τ).loc main_arg0) (ix2 ⟨i, hi⟩ ⟨5376 + k, by omega⟩) :=
      (ext2_val (m ((c.tc : Thread nD τ).loc main_arg0)) ⟨i, hi⟩ ⟨5376 + k, by omega⟩).symm
    have b : (insOf m c).db k = m ((c.tc : Thread nD τ).loc main_arg3) (ix1 ⟨k, hk⟩) :=
      (ext1_val (m ((c.tc : Thread nD τ).loc main_arg3)) ⟨k, hk⟩).symm
    rw [a, b, ← posInf]
    clean_types
    pointwise
  · have e := Host.reduce_andi_all _ _ _ _ _ h2 (ix1 ⟨k, hk⟩)
    refine lt_of_word _ _ (Eq.trans ?_ e)
    have b : (insOf m c).al k = m ((c.tc : Thread nD τ).loc main_arg4) (ix1 ⟨k, hk⟩) :=
      (ext1_val (m ((c.tc : Thread nD τ).loc main_arg4)) ⟨k, hk⟩).symm
    rw [b, ← posInf]
    clean_types
    pointwise

/-- The two programs' arguments agree on a device. -/
def Agree (m' : (ℓ : Loc Cert.SsdRefIdeal.nD Cert.SsdRefIdeal.τ Cert.SsdRefIdeal.sig) → Buf (Elt Ideal) ℓ) : Prop :=
  m' ((c.tc : Thread Cert.SsdRefIdeal.nD Cert.SsdRefIdeal.τ).loc Cert.SsdRefIdeal.main_arg0) = m ((c.tc : Thread nD τ).loc main_arg0)
  ∧ m' ((c.tc : Thread Cert.SsdRefIdeal.nD Cert.SsdRefIdeal.τ).loc Cert.SsdRefIdeal.main_arg1) = m ((c.tc : Thread nD τ).loc main_arg1)
  ∧ m' ((c.tc : Thread Cert.SsdRefIdeal.nD Cert.SsdRefIdeal.τ).loc Cert.SsdRefIdeal.main_arg2) = m ((c.tc : Thread nD τ).loc main_arg2)
  ∧ m' ((c.tc : Thread Cert.SsdRefIdeal.nD Cert.SsdRefIdeal.τ).loc Cert.SsdRefIdeal.main_arg3) = m ((c.tc : Thread nD τ).loc main_arg3)
  ∧ m' ((c.tc : Thread Cert.SsdRefIdeal.nD Cert.SsdRefIdeal.τ).loc Cert.SsdRefIdeal.main_arg4) = m ((c.tc : Thread nD τ).loc main_arg4)
  ∧ m' ((c.tc : Thread Cert.SsdRefIdeal.nD Cert.SsdRefIdeal.τ).loc Cert.SsdRefIdeal.main_arg5) = m ((c.tc : Thread nD τ).loc main_arg5)
  ∧ m' ((c.tc : Thread Cert.SsdRefIdeal.nD Cert.SsdRefIdeal.τ).loc Cert.SsdRefIdeal.main_arg6) = m ((c.tc : Thread nD τ).loc main_arg6)

/-- With agreeing arguments the reference reads what the kernel reads. -/
theorem reads {m' : (ℓ : Loc Cert.SsdRefIdeal.nD Cert.SsdRefIdeal.τ Cert.SsdRefIdeal.sig) → Buf (Elt Ideal) ℓ} (hag : Agree m c m') :
    Cert.SsdRefIdeal.Proof.Reads (StableHlo.launchContents m' c) (insOf m c) := by
  obtain ⟨h0, h1, h2, h3, h4, h5, h6⟩ := hag
  exact ⟨fun a b => (congrFun h0 _).trans (ext2_val _ a b), fun a b => (congrFun h1 _).trans (ext2_val _ a b),
    fun a => (congrFun h2 _).trans (ext1_val _ a), fun a => (congrFun h3 _).trans (ext1_val _ a),
    fun a => (congrFun h4 _).trans (ext1_val _ a), fun a => (congrFun h5 _).trans (ext1_val _ a),
    fun a => (congrFun h6 _).trans (ext1_val _ a)⟩

/-- The kernel's output array is the reference's result. -/
theorem final (hS : Small m c) {m' : (ℓ : Loc Cert.SsdRefIdeal.nD Cert.SsdRefIdeal.τ Cert.SsdRefIdeal.sig) → Buf (Elt Ideal) ℓ} (hag : Agree m c m')
    (Z : Buf (Elt Ideal) ((c.tc : Thread nD τ).loc main_v9))
    (hZ : ∀ (r : Fin 32768) (j : Fin 512), (Z (ix2 r j) : EReal) = SsdSpec.out (insOf m c) (r.val / 2048) (r.val % 2048 / 128) (r.val % 128) j.val) :
    (dats m 0 c).arrAt 10 cfg0.N = Z := by
  refine (dats m 0 c).arrAt_eq_of_covers 10 _ (by decide +kernel) fun t hf y => ?_
  have hN : t.val < 256 := t.isLt
  blk_simp; rw [after0_10]
  idx_vars y
  rw [emb10]
  refine (outAt m c hS t.val t.isLt y0 y1).trans ((hZ _ _).trans ?_).symm
  have hy := y0.isLt
  have e1 : (row t y0).val / 2048 = t.val / 16 := by simp only [row]; omega
  have e2 : (row t y0).val % 2048 / 128 = t.val % 16 := by simp only [row]; omega
  have e3 : (row t y0).val % 128 = y0.val := by simp only [row]; omega
  rw [e1, e2, e3]

/-- The claim: at the real numbers, kernel and reference leave the same array, for step sizes that are not plus infinity. -/
theorem algebraic : Cert.algebraic_SsdIdeal_SsdRefIdeal_pre_step_sizes_bounded := fun m ρ m' ρ' hp hag =>
  ⟨fun c => (dats m 0 c).arrAt 10 cfg0.N, Cert.SsdIdeal.Value.run_blocks m ρ,
    (θ_run _ _ _).mono (fun _ h c => ⟨(h c).1.trans (final m c (small_of_pre m c hp) (hag c) _ fun r j => Cert.SsdRefIdeal.Proof.normed (reads m c (hag c)) r j).symm, (h c).2⟩)
      (Cert.SsdRefIdeal.Value.run m' ρ')⟩

end Cert.SsdIdeal.Proof

end
-- ==== Proof.FfnValue.lean ====
/- What the feed-forward part computes: the kernel's result array is the reference's, entry by entry. -/
module

public import proofs.«01_k».proof.Defs
public import proofs.«01_k».proof.Proof.Gen.FfnIdeal.Value
public import proofs.«01_k».proof.Proof.Gen.FfnRefIdeal.Run
public import Idealize.ShloMosaic.Lib.Pipeline.ValueKit
public import Idealize.ShloMosaic.Lib.Pointwise
public import Idealize.ShloMosaic.Lib.Tactic.CleanTypes
public import Idealize.ShloMosaic.Lib.Pipeline.ReadBack
public import Idealize.ShloMosaic.Lib.Pointwise.Sums

@[expose] public section

set_option maxRecDepth 16384

noncomputable section

open Idealize.ShloMosaic Idealize.ShloMosaic.TcCoe Idealize.SL.Sem
open Idealize.ShloMosaic.Pipeline (Dat)
open scoped BigOperators

namespace Cert.FfnIdeal.Proof

open Cert.FfnIdeal Cert.FfnIdeal.Gen

variable (m : (ℓ : Loc nD τ sig) → Buf (Elt Ideal) ℓ)

/-- Where each window's block sits at grid point `t`. -/
theorem idx : ∀ t : Fin cfg0.N, win0_0.index t = ![t.val / 2, 0]
    ∧ win0_1.index t = ![t.val / 8, 0, 0]
    ∧ win0_2.index t = ![0, 0]
    ∧ win0_3.index t = ![0, t.val % 2]
    ∧ win0_4.index t = ![0, t.val % 2 + 2]
    ∧ win0_5.index t = ![t.val % 2, 0]
    ∧ win0_6.index t = ![t.val / 2, 0] :=
  (by decide +kernel : ∀ t : Fin grid0.N, _)

/-- The row of the arrays that row `r` of grid point `t`'s block is. -/
def row (t : Fin cfg0.N) (r : Fin 512) : Fin 32768 :=
  ⟨t.val / 2 * 512 + r.val, by have h : t.val < 128 := t.isLt; have := r.isLt; omega⟩

theorem row_div (t : Fin cfg0.N) (r : Fin 512) : (row t r).val / 2048 = t.val / 8 := by
  have := r.isLt; simp only [row]; omega

/-- The batch element of a row. -/
def bat (i : Fin 32768) : Fin 16 := ⟨i.val / 2048, by have := i.isLt; omega⟩

/-- The hidden unit that lane `k` of grid point `t`'s half is. -/
def unit (t : Fin cfg0.N) (k : Fin 1408) : Fin 2816 :=
  ⟨t.val % 2 * 1408 + k.val, by have := k.isLt; omega⟩

/-- The residual's block: rows of its array. -/
theorem blk0 (c : Dev nD) (t : Fin cfg0.N) (r : Fin 512) (j : Fin 1024) :
    iblk m c 0 t (ix2 r j) = m ((c.tc : Thread nD τ).loc main_arg0) (ix2 (row t r) j) := by
  obtain ⟨e0, e1, e2, e3, e4, e5, e6⟩ := idx t
  blk_ext [iblk, V, e0, row]
/-- The modulation's block: the batch element of the rows. -/
theorem blk1 (c : Dev nD) (t : Fin cfg0.N) (r : Fin 512) (q : Fin 6) (j : Fin 1024) :
    iblk m c 1 t (ix3 0 q j) = m ((c.tc : Thread nD τ).loc main_arg1) (ix3 (bat (row t r)) q j) := by
  obtain ⟨e0, e1, e2, e3, e4, e5, e6⟩ := idx t
  have hb : bat (row t r) = ⟨t.val / 8, by have h : t.val < 128 := t.isLt; omega⟩ := Fin.ext (row_div t r)
  rw [hb]
  blk_ext [iblk, V, e1]
/-- The norm's weights' block is its whole array. -/
theorem blk2 (c : Dev nD) (t : Fin cfg0.N) (j : Fin 1024) :
    iblk m c 2 t (ix2 0 j) = m ((c.tc : Thread nD τ).loc main_arg2) (ix1 j) := by
  obtain ⟨e0, e1, e2, e3, e4, e5, e6⟩ := idx t
  blk_ext! [iblk, V, e2]
/-- The first matrix's blocks: the point's hidden units in the left half, and in the right half. -/
theorem blk3 (c : Dev nD) (t : Fin cfg0.N) (k : Fin 1024) (j : Fin 1408) :
    iblk m c 3 t (ix2 k j) = m ((c.tc : Thread nD τ).loc main_arg3) (ix2 k ⟨(unit t j).val, by have := (unit t j).isLt; omega⟩) := by
  obtain ⟨e0, e1, e2, e3, e4, e5, e6⟩ := idx t
  blk_ext [iblk, V, e3, unit]
theorem blk4 (c : Dev nD) (t : Fin cfg0.N) (k : Fin 1024) (j : Fin 1408) :
    iblk m c 4 t (ix2 k j) = m ((c.tc : Thread nD τ).loc main_arg3) (ix2 k ⟨2816 + (unit t j).val, by have := (unit t j).isLt; omega⟩) := by
  obtain ⟨e0, e1, e2, e3, e4, e5, e6⟩ := idx t
  blk_ext [iblk, V, e4, unit]
/-- The second matrix's block: the point's hidden units' rows. -/
theorem blk5 (c : Dev nD) (t : Fin cfg0.N) (k : Fin 1408) (j : Fin 1024) :
    iblk m c 5 t (ix2 k j) = m ((c.tc : Thread nD τ).loc main_arg4) (ix2 (unit t k) j) := by
  obtain ⟨e0, e1, e2, e3, e4, e5, e6⟩ := idx t
  blk_ext [iblk, V, e5, unit]
/-- Where the result's block sits. -/
theorem emb6 (t : Fin cfg0.N) (r : Fin 512) (j : Fin 1024) :
    ((View.whole main_v1).slice (win0_6.rect t)).emb (ix2 r j) = ix2 (row t r) j := by
  obtain ⟨e0, e1, e2, e3, e4, e5, e6⟩ := idx t
  blk_ext [e6, row]

/-- The normalized and modulated input of the two matrices, at a row and a column. -/
def hidOf (x : S32768x1024.Idx → EReal) (md : S16x6x1024.Idx → EReal) (g : S1024.Idx → EReal) (i : Fin 32768) (j : Fin 1024) : EReal :=
  x (ix2 i j) * Ideal.rsqrt (Ideal.div (∑ l, x (ix2 i l) * x (ix2 i l)) (Ideal.ofBits FTy.f32 1149239296#32) + Ideal.ofBits FTy.f32 897988541#32)
    * g (ix1 j) * (1 + md (ix3 (bat i) 4 j)) + md (ix3 (bat i) 3 j)

/-- What hidden unit `u` adds to a row's result, from the row's input `h` and the two matrices. -/
def termOf (h : Fin 1024 → EReal) (w : S1024x5632.Idx → EReal) (o : S2816x1024.Idx → EReal) (j : Fin 1024) (u : Fin 2816) : EReal :=
  ((∑ x, h x * w (ix2 x ⟨u.val, by have := u.isLt; omega⟩)) *
      Ideal.div 1 (1 + Ideal.exp (-∑ x, h x * w (ix2 x ⟨u.val, by have := u.isLt; omega⟩))) *
    ∑ x, h x * w (ix2 x ⟨2816 + u.val, by have := u.isLt; omega⟩)) * o (ix2 u j)

/-- The two at the program's arguments. -/
def hid (c : Dev nD) (i : Fin 32768) (j : Fin 1024) : EReal :=
  hidOf (m ((c.tc : Thread nD τ).loc main_arg0)) (m ((c.tc : Thread nD τ).loc main_arg1)) (m ((c.tc : Thread nD τ).loc main_arg2)) i j
def term (c : Dev nD) (i : Fin 32768) (j : Fin 1024) (u : Fin 2816) : EReal :=
  termOf (hid m c i) (m ((c.tc : Thread nD τ).loc main_arg3)) (m ((c.tc : Thread nD τ).loc main_arg4)) j u

/-- The block the first payload leaves at a point is the normalized and modulated input's. -/
theorem hid_pay (c : Dev nD) (t : Fin cfg0.N) (r : Fin 512) (j : Fin 1024) :
    k0_pay1 (F := Ideal) (iblk m c 0 t) (iblk m c 2 t)
        (View.ld (iblk m c 1 t) (Rect.unit ![0, 4, 0] ![1, 1, 1024] inb_S1x6x1024_S1x1x1024_0_4_0))
        (View.ld (iblk m c 1 t) (Rect.unit ![0, 3, 0] ![1, 1, 1024] inb_S1x6x1024_S1x1x1024_0_3_0)) (ix2 r j)
      = hid m c (row t r) j := by
  pointwise [k0_pay1]
  simp only [blk0, blk1 m c t r, blk2, hid, hidOf]

/-- At a row tile's first point the kept block is the normalized and modulated input's. -/
theorem kept (c : Dev nD) (n : ℕ) (hn : n < cfg0.N) (h0 : n % 2 = 0) (r : Fin 512) (j : Fin 1024) :
    (outsAt0 m c n hn).2.1 (ix2 r j) = hid m c (row ⟨n, hn⟩ r) j := by
  rw [outsAt0_A m c ⟨n, hn⟩ h0 (by simpa using h0)]
  dsimp only; frame_out
  exact hid_pay m c ⟨n, hn⟩ r j

/-- One step of the sum: what was there, and the point's hidden units' terms, when the kept block's row is `g`. -/
theorem step (c : Dev nD) (t : Fin cfg0.N) (h : FVec Ideal S512x1024 .bf16) (z : FVec Ideal S512x1024 .f32) (i : Fin 32768)
    (r : Fin 512) (hh : ∀ x, h (ix2 r x) = hid m c i x) (j : Fin 1024) :
    k0_pay3 (F := Ideal) h (iblk m c 3 t) (iblk m c 4 t) z (iblk m c 5 t) (ix2 r j)
      = z (ix2 r j) + ∑ k : Fin 1408, term m c i j (unit t k) := by
  pointwise [k0_pay3]
  simp only [hh, blk3, blk4, blk5, zero_sub, term, termOf]

/-- The sum starts at zero. -/
theorem start (y) : k0_pay2 (F := Ideal) y = 0 := by
  pointwise [k0_pay2]

/-- At a row tile's first point the sum is the first half's. -/
theorem acc (c : Dev nD) (n : ℕ) (hn : n < cfg0.N) (h0 : n % 2 = 0) (r : Fin 512) (j : Fin 1024) :
    (outsAt0 m c n hn).2.2 (ix2 r j) = ∑ k : Fin 1408, term m c (row ⟨n, hn⟩ r) j (unit ⟨n, hn⟩ k) := by
  rw [outsAt0_A m c ⟨n, hn⟩ h0 (by simpa using h0)]
  dsimp only; frame_out
  refine (step m c ⟨n, hn⟩ _ _ (row ⟨n, hn⟩ r) r (hid_pay m c ⟨n, hn⟩ r) j).trans ?_
  rw [start, zero_add]

/-- The arguments of the two programs agree. -/
def Agree (m' : (ℓ : Loc Cert.FfnRefIdeal.nD Cert.FfnRefIdeal.τ Cert.FfnRefIdeal.sig) → Buf (Elt Ideal) ℓ) (c : Dev nD) : Prop :=
  m' ((c.tc : Thread Cert.FfnRefIdeal.nD Cert.FfnRefIdeal.τ).loc Cert.FfnRefIdeal.main_arg0) = m ((c.tc : Thread nD τ).loc main_arg0)
  ∧ m' ((c.tc : Thread Cert.FfnRefIdeal.nD Cert.FfnRefIdeal.τ).loc Cert.FfnRefIdeal.main_arg1) = m ((c.tc : Thread nD τ).loc main_arg1)
  ∧ m' ((c.tc : Thread Cert.FfnRefIdeal.nD Cert.FfnRefIdeal.τ).loc Cert.FfnRefIdeal.main_arg2) = m ((c.tc : Thread nD τ).loc main_arg2)
  ∧ m' ((c.tc : Thread Cert.FfnRefIdeal.nD Cert.FfnRefIdeal.τ).loc Cert.FfnRefIdeal.main_arg3) = m ((c.tc : Thread nD τ).loc main_arg3)
  ∧ m' ((c.tc : Thread Cert.FfnRefIdeal.nD Cert.FfnRefIdeal.τ).loc Cert.FfnRefIdeal.main_arg4) = m ((c.tc : Thread nD τ).loc main_arg4)

set_option maxHeartbeats 1000000 in
/-- The kernel's result array after the run is the reference's result of the same arguments. -/
theorem final (m' : (ℓ : Loc Cert.FfnRefIdeal.nD Cert.FfnRefIdeal.τ Cert.FfnRefIdeal.sig) → Buf (Elt Ideal) ℓ) (c : Dev nD)
    (hag : Agree m m' c) :
    (dats m 0 c).arrAt 6 cfg0.N = Cert.FfnRefIdeal.Value.res_out0 (F := Ideal) m' c := by
  obtain ⟨h0, h1, h2, h3, h4⟩ := hag
  refine (dats m 0 c).arrAt_eq_of_covers 6 _ (by decide +kernel) fun t hf y => ?_
  have ht : t.val % 2 = 1 := (flush0_6 t).mp hf
  have hN : t.val < 128 := t.isLt
  have hn : t.val - 1 < cfg0.N := Nat.lt_of_le_of_lt (Nat.sub_le _ _) t.isLt
  have hr : ∀ r, row ⟨t.val - 1, hn⟩ r = row t r := fun r => Fin.ext (by simp only [row]; omega)
  blk_simp; rw [after0_6, outsAt0_B m c t (by omega) ht]; dsimp only; frame_out
  idx_vars y
  rw [emb6]
  unfold Cert.FfnRefIdeal.Value.res_out0 Cert.FfnRefIdeal.Value.res_main_v34
  rw [h0, h1, h2, h3, h4]
  clean_types
  pointwise [k0_pay4]
  simp only [read_unread_whole]
  rw [step m c t _ _ (row t y0) y0 (fun x => (kept m c (t.val - 1) hn (by omega) y0 x).trans (by rw [hr])) y1,
    acc m c (t.val - 1) hn (by omega), hr, blk0, blk1 m c t y0]
  change _ = _ + _ * ∑ x : Fin 2816, term m c (row t y0) y1 x
  rw [Fin.sum_univ_two_halves 1408 1408 rfl (fun x => term m c (row t y0) y1 x)]
  have hu0 : ∀ k, unit ⟨t.val - 1, hn⟩ k = ⟨k.val, by have := k.isLt; omega⟩ := fun k => Fin.ext (by simp only [unit]; omega)
  have hu1 : ∀ k, unit t k = ⟨1408 + k.val, by have := k.isLt; omega⟩ := fun k => Fin.ext (by simp only [unit]; omega)
  simp only [hu0, hu1, term, termOf]
  rfl

/-- The claim: at the real numbers, kernel and reference leave the same array, whatever the arguments. -/
theorem algebraic : Cert.algebraic_FfnIdeal_FfnRefIdeal := fun m ρ m' ρ' _ hag =>
  ⟨fun c => (dats m 0 c).arrAt 6 cfg0.N, Cert.FfnIdeal.Value.run_blocks m ρ,
    (θ_run _ _ _).mono (fun _ h c => ⟨(h c).1.trans (final m m' c (hag c)).symm, (h c).2⟩)
      (Cert.FfnRefIdeal.Value.run m' ρ')⟩

end Cert.FfnIdeal.Proof

end
-- ==== Proof.MergeValue.lean ====
/- What the gated merge and output projection computes: the kernel's result array is the reference's, entry by entry. -/
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)
open scoped BigOperators

namespace Cert.MergeIdeal.Proof

open Cert.MergeIdeal Cert.MergeIdeal.Gen

variable (m : (ℓ : Loc nD τ sig) → Buf (Elt Ideal) ℓ)

/-- Where each window's block sits at grid point `t`. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val / 4, 0, 0]
    ∧ win0_7.index t = ![0, 0, 0]
    ∧ win0_8.index t = ![0, 0, 0]
    ∧ win0_9.index t = ![0, 0]
    ∧ win0_10.index t = ![t.val, 0] :=
  (by decide +kernel : ∀ t : Fin grid0.N, _)

/-- The row of the arrays that row `r` of grid point `t`'s block is. -/
def row (t : Fin cfg0.N) (r : Fin 512) : Fin 32768 :=
  ⟨t.val * 512 + r.val, by have h : t.val < 64 := t.isLt; have := r.isLt; omega⟩

theorem row_div (t : Fin cfg0.N) (r : Fin 512) : (row t r).val / 2048 = t.val / 4 := by
  have := r.isLt; simp only [row]; omega

/-- The batch element that grid point `t`'s rows belong to. -/
def bat (t : Fin cfg0.N) : Fin 16 := ⟨t.val / 4, by have h : t.val < 64 := t.isLt; omega⟩

/-- The hidden states' block, the residual's, and the four branches': rows `512 t …` of their arrays. -/
theorem blk0 (c : Dev nD) (t : Fin cfg0.N) (r : Fin 512) (j : Fin 1024) :
    iblk m c 0 t (ix2 r j) = m ((c.tc : Thread nD τ).loc main_arg0) (ix2 (row t r) j) := by
  obtain ⟨e0, e1, e2, e3, e4, e5, e6, e7, e8, e9, e10⟩ := idx t
  blk_ext [iblk, V, e0, row]
theorem blk1 (c : Dev nD) (t : Fin cfg0.N) (r : Fin 512) (j : Fin 1024) :
    iblk m c 1 t (ix2 r j) = m ((c.tc : Thread nD τ).loc main_arg1) (ix2 (row t r) j) := by
  obtain ⟨e0, e1, e2, e3, e4, e5, e6, e7, e8, e9, e10⟩ := idx t
  blk_ext [iblk, V, e1, row]
theorem blk2 (c : Dev nD) (t : Fin cfg0.N) (r : Fin 512) (j : Fin 512) :
    iblk m c 2 t (ix2 r j) = m ((c.tc : Thread nD τ).loc main_arg2) (ix2 (row t r) j) := by
  obtain ⟨e0, e1, e2, e3, e4, e5, e6, e7, e8, e9, e10⟩ := idx t
  blk_ext [iblk, V, e2, row]
theorem blk3 (c : Dev nD) (t : Fin cfg0.N) (r : Fin 512) (j : Fin 512) :
    iblk m c 3 t (ix2 r j) = m ((c.tc : Thread nD τ).loc main_arg3) (ix2 (row t r) j) := by
  obtain ⟨e0, e1, e2, e3, e4, e5, e6, e7, e8, e9, e10⟩ := idx t
  blk_ext [iblk, V, e3, row]
theorem blk4 (c : Dev nD) (t : Fin cfg0.N) (r : Fin 512) (j : Fin 512) :
    iblk m c 4 t (ix2 r j) = m ((c.tc : Thread nD τ).loc main_arg4) (ix2 (row t r) j) := by
  obtain ⟨e0, e1, e2, e3, e4, e5, e6, e7, e8, e9, e10⟩ := idx t
  blk_ext [iblk, V, e4, row]
theorem blk5 (c : Dev nD) (t : Fin cfg0.N) (r : Fin 512) (j : Fin 512) :
    iblk m c 5 t (ix2 r j) = m ((c.tc : Thread nD τ).loc main_arg5) (ix2 (row t r) j) := by
  obtain ⟨e0, e1, e2, e3, e4, e5, e6, e7, e8, e9, e10⟩ := idx t
  blk_ext [iblk, V, e5, row]
/-- The modulation rows' block is the rows of the batch element; the weights' blocks are whole. -/
theorem blk6 (c : Dev nD) (t : Fin cfg0.N) (z : Fin 1) (k : Fin 6) (j : Fin 1024) :
    iblk m c 6 t (ix3 z k j) = m ((c.tc : Thread nD τ).loc main_arg6) (ix3 (bat t) k j) := by
  obtain ⟨e0, e1, e2, e3, e4, e5, e6, e7, e8, e9, e10⟩ := idx t
  obtain rfl : z = 0 := Subsingleton.elim _ _
  blk_ext [iblk, V, e6, bat]
theorem blk7 (c : Dev nD) (t : Fin cfg0.N) (i : Fin 4) (k : Fin 1024) (j : Fin 1024) :
    iblk m c 7 t (ix3 i k j) = m ((c.tc : Thread nD τ).loc main_arg7) (ix3 i k j) := by
  obtain ⟨e0, e1, e2, e3, e4, e5, e6, e7, e8, e9, e10⟩ := idx t
  blk_ext [iblk, V, e7]
theorem blk8 (c : Dev nD) (t : Fin cfg0.N) (i : Fin 4) (k : Fin 512) (j : Fin 1024) :
    iblk m c 8 t (ix3 i k j) = m ((c.tc : Thread nD τ).loc main_arg8) (ix3 i k j) := by
  obtain ⟨e0, e1, e2, e3, e4, e5, e6, e7, e8, e9, e10⟩ := idx t
  blk_ext [iblk, V, e8]
theorem blk9 (c : Dev nD) (t : Fin cfg0.N) (k : Fin 1024) (j : Fin 1024) :
    iblk m c 9 t (ix2 k j) = m ((c.tc : Thread nD τ).loc main_arg9) (ix2 k j) := by
  obtain ⟨e0, e1, e2, e3, e4, e5, e6, e7, e8, e9, e10⟩ := idx t
  blk_ext [iblk, V, e9]
/-- Where the result's block sits. -/
theorem emb10 (t : Fin cfg0.N) (r : Fin 512) (j : Fin 1024) :
    ((View.whole main_v0).slice (win0_10.rect t)).emb (ix2 r j) = ix2 (row t r) j := by
  obtain ⟨e0, e1, e2, e3, e4, e5, e6, e7, e8, e9, e10⟩ := idx t
  blk_ext [e10, row]

/-- The arguments of the two programs agree. -/
def Agree (m' : (ℓ : Loc Cert.MergeRefIdeal.nD Cert.MergeRefIdeal.τ Cert.MergeRefIdeal.sig) → Buf (Elt Ideal) ℓ) (c : Dev nD) : Prop :=
  m' ((c.tc : Thread Cert.MergeRefIdeal.nD Cert.MergeRefIdeal.τ).loc Cert.MergeRefIdeal.main_arg0) = m ((c.tc : Thread nD τ).loc main_arg0)
  ∧ m' ((c.tc : Thread Cert.MergeRefIdeal.nD Cert.MergeRefIdeal.τ).loc Cert.MergeRefIdeal.main_arg1) = m ((c.tc : Thread nD τ).loc main_arg1)
  ∧ m' ((c.tc : Thread Cert.MergeRefIdeal.nD Cert.MergeRefIdeal.τ).loc Cert.MergeRefIdeal.main_arg2) = m ((c.tc : Thread nD τ).loc main_arg2)
  ∧ m' ((c.tc : Thread Cert.MergeRefIdeal.nD Cert.MergeRefIdeal.τ).loc Cert.MergeRefIdeal.main_arg3) = m ((c.tc : Thread nD τ).loc main_arg3)
  ∧ m' ((c.tc : Thread Cert.MergeRefIdeal.nD Cert.MergeRefIdeal.τ).loc Cert.MergeRefIdeal.main_arg4) = m ((c.tc : Thread nD τ).loc main_arg4)
  ∧ m' ((c.tc : Thread Cert.MergeRefIdeal.nD Cert.MergeRefIdeal.τ).loc Cert.MergeRefIdeal.main_arg5) = m ((c.tc : Thread nD τ).loc main_arg5)
  ∧ m' ((c.tc : Thread Cert.MergeRefIdeal.nD Cert.MergeRefIdeal.τ).loc Cert.MergeRefIdeal.main_arg6) = m ((c.tc : Thread nD τ).loc main_arg6)
  ∧ m' ((c.tc : Thread Cert.MergeRefIdeal.nD Cert.MergeRefIdeal.τ).loc Cert.MergeRefIdeal.main_arg7) = m ((c.tc : Thread nD τ).loc main_arg7)
  ∧ m' ((c.tc : Thread Cert.MergeRefIdeal.nD Cert.MergeRefIdeal.τ).loc Cert.MergeRefIdeal.main_arg8) = m ((c.tc : Thread nD τ).loc main_arg8)
  ∧ m' ((c.tc : Thread Cert.MergeRefIdeal.nD Cert.MergeRefIdeal.τ).loc Cert.MergeRefIdeal.main_arg9) = m ((c.tc : Thread nD τ).loc main_arg9)

/-- The kernel's result array after the run is the reference's result of the same arguments. -/
theorem final (m' : (ℓ : Loc Cert.MergeRefIdeal.nD Cert.MergeRefIdeal.τ Cert.MergeRefIdeal.sig) → Buf (Elt Ideal) ℓ) (c : Dev nD)
    (hag : Agree m m' c) :
    (dats m 0 c).arrAt 10 cfg0.N = Cert.MergeRefIdeal.Value.res_out0 (F := Ideal) m' c := by
  obtain ⟨h0, h1, h2, h3, h4, h5, h6, h7, h8, h9⟩ := hag
  refine (dats m 0 c).arrAt_eq_of_covers 10 _ (by decide +kernel) fun t hf y => ?_
  blk_simp; rw [after0_10]; frame_out
  idx_vars y
  rw [emb10]
  unfold Cert.MergeRefIdeal.Value.res_out0 Cert.MergeRefIdeal.Value.res_main_v76
  rw [h0, h1, h2, h3, h4, h5, h6, h7, h8, h9]
  clean_types
  pointwise [k0_pay1, k0_pay4, k0_pay2, k0_pay3]
  have hb : (⟨(row t y0).val / 2048, by have := (row t y0).isLt; omega⟩ : Fin 16) = bat t := Fin.ext (row_div t y0)
  simp only [blk0, blk1, blk2, blk3, blk4, blk5, blk6, blk7, blk8, blk9, zero_sub, hb]

/-- The claim: at the real numbers, kernel and reference leave the same array, whatever the arguments. -/
theorem algebraic : Cert.algebraic_MergeIdeal_MergeRefIdeal := fun m ρ m' ρ' _ hag =>
  ⟨fun c => (dats m 0 c).arrAt 10 cfg0.N, Cert.MergeIdeal.Value.run_blocks m ρ,
    (θ_run _ _ _).mono (fun _ h c => ⟨(h c).1.trans (final m m' c (hag c)).symm, (h c).2⟩)
      (Cert.MergeRefIdeal.Value.run m' ρ')⟩

end Cert.MergeIdeal.Proof

end
-- ==== Proof.InRef.lean ====
/- The norm with its projection: the entries of the reference's two results, from its arguments. -/
module

public import proofs.«01_k».proof.Defs
public import proofs.«01_k».proof.Proof.Gen.InRefIdeal.Run
public import Idealize.ShloMosaic.Lib.Pointwise
public import Idealize.ShloMosaic.Lib.Pointwise.Sums
public import Idealize.ShloMosaic.Lib.Tactic.CleanTypes

@[expose] public section

set_option maxRecDepth 16384

noncomputable section

open Idealize.ShloMosaic Idealize.ShloMosaic.TcCoe Idealize.SL.Sem
open scoped BigOperators

namespace Cert.InSpec

/-- One entry of the normed and modulated rows: the row over the root of its mean square, times the gain, scaled and
    shifted by the batch element's two modulation rows. -/
def normed (x : Fin 32768 → Fin 1024 → EReal) (md : Fin 16 → Fin 6 → Fin 1024 → EReal) (g : Fin 1024 → EReal)
    (i : Fin 32768) (k : Fin 1024) : EReal :=
  x i k * Ideal.rsqrt (Ideal.div (∑ l : Fin 1024, x i l * x i l) (Ideal.ofBits .f32 1149239296#32) + Ideal.ofBits .f32 897988541#32)
      * g k * (Ideal.ofBits .f32 1065353216#32 + md ⟨i.val / 2048, by omega⟩ 1 k)
    + md ⟨i.val / 2048, by omega⟩ 0 k

/-- The column of the projection that column `j` of the first result holds; the columns from 5408 on are zero. -/
def src (j : ℕ) : ℕ := if j < 1536 then j else if j < 5376 then j + 8 else if j < 5384 then j - 3840 else j

theorem src_lt (j : ℕ) (h : j < 5408) : src j < 5408 := by
  unfold src; split_ifs <;> omega

end Cert.InSpec

namespace Cert.InRefIdeal.Proof

open Cert.InRefIdeal Cert.InSpec

/-- The padding word is zero. -/
theorem zero_word : (FloatOps.sitofp (F := Ideal) FTy.f32 (0#32 : BitVec 32) : EReal) = 0 := by
  show (((0#32 : BitVec 32).toInt : ℝ) : EReal) = 0
  simp

/-- The reference's rows. -/
theorem normed_at (x : FVec Ideal S32768x1024 .f32) (md : FVec Ideal S16x6x1024 .f32) (g : FVec Ideal S1024 .f32)
    (a : Fin 16) (b : Fin 2048) (k : Fin 1024) :
    ((addf (mulf (mulf (mulf (shapeCast _ x Gen.shapeCasts_S32768x1024_S16x2048x1024) (broadcastInDim S16x2048x1024 ![0, 1, 2] Gen.bcast_S16x2048x1_S16x2048x1024_0_1_2 (Host.rsqrt (addf (Host.divf (broadcastInDim S16x2048x1 ![0, 1] Gen.bcast_S16x2048_S16x2048x1_0_1 (Host.reduceAdd (mulf (shapeCast _ x Gen.shapeCasts_S32768x1024_S16x2048x1024) (shapeCast _ x Gen.shapeCasts_S32768x1024_S16x2048x1024)) (constant (F := Ideal) S_ .f32 0x00000000#32) Gen.reducesTo_S16x2048x1024_S16x2048_d2 Gen.h_S_)) (broadcastInDim S16x2048x1 ![] Gen.bcast_S_S16x2048x1 (constant (F := Ideal) S_ .f32 0x44800000#32))) (broadcastInDim S16x2048x1 ![] Gen.bcast_S_S16x2048x1 (constant (F := Ideal) S_ .f32 0x358637BD#32)))))) (broadcastInDim S16x2048x1024 ![0, 1, 2] Gen.bcast_S1x1x1024_S16x2048x1024_0_1_2 (broadcastInDim S1x1x1024 ![2] Gen.bcast_S1024_S1x1x1024_2 g))) (broadcastInDim S16x2048x1024 ![0, 1, 2] Gen.bcast_S16x1x1024_S16x2048x1024_0_1_2 (addf (broadcastInDim S16x1x1024 ![] Gen.bcast_S_S16x1x1024 (constant (F := Ideal) S_ .f32 0x3F800000#32)) (extractStridedSlice S16x1x1024 ![0, 1, 0] md Gen.slices_S16x6x1024_S16x1x1024_0_1_0)))) (broadcastInDim S16x2048x1024 ![0, 1, 2] Gen.bcast_S16x1x1024_S16x2048x1024_0_1_2 (extractStridedSlice S16x1x1024 ![0, 0, 0] md Gen.slices_S16x6x1024_S16x1x1024_0_0_0))) (ix3 a b k) : EReal)
      = normed (fun i l => x (ix2 i l)) (fun p q l => md (ix3 p q l)) (fun l => g (ix1 l)) ⟨a.val * 2048 + b.val, by omega⟩ k := by
  have e : (⟨(a.val * 2048 + b.val) / 2048, by omega⟩ : Fin 16) = a := Fin.ext (by show (a.val * 2048 + b.val) / 2048 = a.val; omega)
  unfold normed
  rw [e]
  pointwise

/-- The columns in order, where `f` is a row: each is the one that `src` names. -/
theorem order_eq (f : Fin 5408 → EReal) (z : EReal) (hz : z = 0) (j : ℕ) (p q : Prop) [Decidable p] [Decidable q] (h : p ∧ q) :
    (if _h0 : p ∧ q ∧ j < 5408 then if _h1 : j < 1536 then f ⟨j, by omega⟩
      else if _h2 : j - 1536 < 3840 then f ⟨1544 + (j - 1536), by omega⟩
      else if _h3 : j - 1536 - 3840 < 8 then f ⟨1536 + (j - 1536 - 3840), by omega⟩
      else f ⟨5384 + (j - 1536 - 3840 - 8), by omega⟩ else z)
      = if h : j < 5408 then f ⟨src j, src_lt _ h⟩ else 0 := by
  by_cases h0 : j < 5408
  · rw [dif_pos ⟨h.1, h.2, h0⟩, dif_pos h0]
    split_ifs with h1 h2 h3
    all_goals
      refine congrArg f (Fin.ext ?_)
      unfold src
      dsimp only
      split_ifs <;> omega
  · rw [dif_neg fun h' => h0 h'.2.2, dif_neg h0, hz]

/-- Its columns put in order and padded with zeros. -/
theorem ordered_at (U : FVec Ideal S16x2048x5408 .f32) (i : Fin 32768) (j : Fin 5632) :
    ((shapeCast _ (pad S16x2048x5632 ![0, 0, 0] ![0, 0, 224] ![0, 0, 0] ((concatenate S16x2048x5408 2 [⟨S16x2048x1536, ((extractStridedSlice S16x2048x1536 ![0, 0, 0] U Gen.slices_S16x2048x5408_S16x2048x1536_0_0_0) : (⟨S16x2048x1536, .f32⟩ : BufTy).Contents (Elt Ideal))⟩, ⟨S16x2048x3840, ((extractStridedSlice S16x2048x3840 ![0, 0, 1544] U Gen.slices_S16x2048x5408_S16x2048x3840_0_0_1544) : (⟨S16x2048x3840, .f32⟩ : BufTy).Contents (Elt Ideal))⟩, ⟨S16x2048x8, ((extractStridedSlice S16x2048x8 ![0, 0, 1536] U Gen.slices_S16x2048x5408_S16x2048x8_0_0_1536) : (⟨S16x2048x8, .f32⟩ : BufTy).Contents (Elt Ideal))⟩, ⟨S16x2048x24, ((extractStridedSlice S16x2048x24 ![0, 0, 5384] U Gen.slices_S16x2048x5408_S16x2048x24_0_0_5384) : (⟨S16x2048x24, .f32⟩ : BufTy).Contents (Elt Ideal))⟩] Gen.concatenates_S16x2048x1536_S16x2048x3840_S16x2048x8_S16x2048x24_S16x2048x5408_d2 : (⟨S16x2048x5408, .f32⟩ : BufTy).Contents (Elt Ideal))) (sitofp (F := Ideal) .f32 (constantI S_ 32 0#32)) Gen.pads_S16x2048x5408_S16x2048x5632_000_000_02240 Gen.h_S_) Gen.shapeCasts_S16x2048x5632_S32768x5632 : FVec Ideal S32768x5632 .f32) (ix2 i j) : EReal)
      = if h : j.val < 5408 then U (ix3 ⟨i.val / 2048, by omega⟩ ⟨i.val % 2048, by omega⟩ ⟨src j.val, src_lt _ h⟩) else 0 := by
  have hrow : i.val / 2048 < 16 ∧ i.val % 2048 < 2048 := ⟨by omega, by omega⟩
  pointwise
  exact order_eq (fun k => U (ix3 ⟨i.val / 2048, hrow.1⟩ ⟨i.val % 2048, hrow.2⟩ k)) _ zero_word j.val (i.val / 2048 < 16) (i.val % 2048 < 2048) hrow

/-- The projection: each entry a sum over the row. -/
theorem dot_at (h : FVec Ideal S16x2048x1024 .f32) (w : FVec Ideal S1024x5408 .f32) (a : Fin 16) (b : Fin 2048) (j : Fin 5408) :
    (Host.dotGeneral dot_S16x2048x1024_S1024x5408_S16x2048x5408_2_0_01_1_n_n none h w (ix3 a b j) : EReal)
      = ∑ k : Fin 1024, h (ix3 a b k) * w (ix2 k j) := by
  pointwise

/-- The row of a normed entry. -/
theorem normed_row (x : FVec Ideal S32768x1024 .f32) (md : FVec Ideal S16x6x1024 .f32) (g : FVec Ideal S1024 .f32)
    (i : Fin 32768) (k : Fin 1024) :
    ((addf (mulf (mulf (mulf (shapeCast _ x Gen.shapeCasts_S32768x1024_S16x2048x1024) (broadcastInDim S16x2048x1024 ![0, 1, 2] Gen.bcast_S16x2048x1_S16x2048x1024_0_1_2 (Host.rsqrt (addf (Host.divf (broadcastInDim S16x2048x1 ![0, 1] Gen.bcast_S16x2048_S16x2048x1_0_1 (Host.reduceAdd (mulf (shapeCast _ x Gen.shapeCasts_S32768x1024_S16x2048x1024) (shapeCast _ x Gen.shapeCasts_S32768x1024_S16x2048x1024)) (constant (F := Ideal) S_ .f32 0x00000000#32) Gen.reducesTo_S16x2048x1024_S16x2048_d2 Gen.h_S_)) (broadcastInDim S16x2048x1 ![] Gen.bcast_S_S16x2048x1 (constant (F := Ideal) S_ .f32 0x44800000#32))) (broadcastInDim S16x2048x1 ![] Gen.bcast_S_S16x2048x1 (constant (F := Ideal) S_ .f32 0x358637BD#32)))))) (broadcastInDim S16x2048x1024 ![0, 1, 2] Gen.bcast_S1x1x1024_S16x2048x1024_0_1_2 (broadcastInDim S1x1x1024 ![2] Gen.bcast_S1024_S1x1x1024_2 g))) (broadcastInDim S16x2048x1024 ![0, 1, 2] Gen.bcast_S16x1x1024_S16x2048x1024_0_1_2 (addf (broadcastInDim S16x1x1024 ![] Gen.bcast_S_S16x1x1024 (constant (F := Ideal) S_ .f32 0x3F800000#32)) (extractStridedSlice S16x1x1024 ![0, 1, 0] md Gen.slices_S16x6x1024_S16x1x1024_0_1_0)))) (broadcastInDim S16x2048x1024 ![0, 1, 2] Gen.bcast_S16x1x1024_S16x2048x1024_0_1_2 (extractStridedSlice S16x1x1024 ![0, 0, 0] md Gen.slices_S16x6x1024_S16x1x1024_0_0_0))) (ix3 ⟨i.val / 2048, by omega⟩ ⟨i.val % 2048, by omega⟩ k) : EReal)
      = normed (fun i l => x (ix2 i l)) (fun p q l => md (ix3 p q l)) (fun l => g (ix1 l)) i k := by
  have e : (⟨i.val / 2048 * 2048 + i.val % 2048, by omega⟩ : Fin 32768) = i := Fin.ext (by show i.val / 2048 * 2048 + i.val % 2048 = i.val; omega)
  refine (normed_at x md g ⟨i.val / 2048, by omega⟩ ⟨i.val % 2048, by omega⟩ k).trans ?_
  exact congrArg (fun z => normed (fun i l => x (ix2 i l)) (fun p q l => md (ix3 p q l)) (fun l => g (ix1 l)) z k) e

/-- The first result: each entry the sum of a row times a column of the weights, or zero. -/
theorem projected_at (x : FVec Ideal S32768x1024 .f32) (md : FVec Ideal S16x6x1024 .f32) (g : FVec Ideal S1024 .f32)
    (w : FVec Ideal S1024x5408 .f32) (i : Fin 32768) (j : Fin 5632) :
    ((shapeCast _ (pad S16x2048x5632 ![0, 0, 0] ![0, 0, 224] ![0, 0, 0] ((concatenate S16x2048x5408 2 [⟨S16x2048x1536, ((extractStridedSlice S16x2048x1536 ![0, 0, 0] (Host.dotGeneral dot_S16x2048x1024_S1024x5408_S16x2048x5408_2_0_01_1_n_n none (addf (mulf (mulf (mulf (shapeCast _ x Gen.shapeCasts_S32768x1024_S16x2048x1024) (broadcastInDim S16x2048x1024 ![0, 1, 2] Gen.bcast_S16x2048x1_S16x2048x1024_0_1_2 (Host.rsqrt (addf (Host.divf (broadcastInDim S16x2048x1 ![0, 1] Gen.bcast_S16x2048_S16x2048x1_0_1 (Host.reduceAdd (mulf (shapeCast _ x Gen.shapeCasts_S32768x1024_S16x2048x1024) (shapeCast _ x Gen.shapeCasts_S32768x1024_S16x2048x1024)) (constant (F := Ideal) S_ .f32 0x00000000#32) Gen.reducesTo_S16x2048x1024_S16x2048_d2 Gen.h_S_)) (broadcastInDim S16x2048x1 ![] Gen.bcast_S_S16x2048x1 (constant (F := Ideal) S_ .f32 0x44800000#32))) (broadcastInDim S16x2048x1 ![] Gen.bcast_S_S16x2048x1 (constant (F := Ideal) S_ .f32 0x358637BD#32)))))) (broadcastInDim S16x2048x1024 ![0, 1, 2] Gen.bcast_S1x1x1024_S16x2048x1024_0_1_2 (broadcastInDim S1x1x1024 ![2] Gen.bcast_S1024_S1x1x1024_2 g))) (broadcastInDim S16x2048x1024 ![0, 1, 2] Gen.bcast_S16x1x1024_S16x2048x1024_0_1_2 (addf (broadcastInDim S16x1x1024 ![] Gen.bcast_S_S16x1x1024 (constant (F := Ideal) S_ .f32 0x3F800000#32)) (extractStridedSlice S16x1x1024 ![0, 1, 0] md Gen.slices_S16x6x1024_S16x1x1024_0_1_0)))) (broadcastInDim S16x2048x1024 ![0, 1, 2] Gen.bcast_S16x1x1024_S16x2048x1024_0_1_2 (extractStridedSlice S16x1x1024 ![0, 0, 0] md Gen.slices_S16x6x1024_S16x1x1024_0_0_0))) w) Gen.slices_S16x2048x5408_S16x2048x1536_0_0_0) : (⟨S16x2048x1536, .f32⟩ : BufTy).Contents (Elt Ideal))⟩, ⟨S16x2048x3840, ((extractStridedSlice S16x2048x3840 ![0, 0, 1544] (Host.dotGeneral dot_S16x2048x1024_S1024x5408_S16x2048x5408_2_0_01_1_n_n none (addf (mulf (mulf (mulf (shapeCast _ x Gen.shapeCasts_S32768x1024_S16x2048x1024) (broadcastInDim S16x2048x1024 ![0, 1, 2] Gen.bcast_S16x2048x1_S16x2048x1024_0_1_2 (Host.rsqrt (addf (Host.divf (broadcastInDim S16x2048x1 ![0, 1] Gen.bcast_S16x2048_S16x2048x1_0_1 (Host.reduceAdd (mulf (shapeCast _ x Gen.shapeCasts_S32768x1024_S16x2048x1024) (shapeCast _ x Gen.shapeCasts_S32768x1024_S16x2048x1024)) (constant (F := Ideal) S_ .f32 0x00000000#32) Gen.reducesTo_S16x2048x1024_S16x2048_d2 Gen.h_S_)) (broadcastInDim S16x2048x1 ![] Gen.bcast_S_S16x2048x1 (constant (F := Ideal) S_ .f32 0x44800000#32))) (broadcastInDim S16x2048x1 ![] Gen.bcast_S_S16x2048x1 (constant (F := Ideal) S_ .f32 0x358637BD#32)))))) (broadcastInDim S16x2048x1024 ![0, 1, 2] Gen.bcast_S1x1x1024_S16x2048x1024_0_1_2 (broadcastInDim S1x1x1024 ![2] Gen.bcast_S1024_S1x1x1024_2 g))) (broadcastInDim S16x2048x1024 ![0, 1, 2] Gen.bcast_S16x1x1024_S16x2048x1024_0_1_2 (addf (broadcastInDim S16x1x1024 ![] Gen.bcast_S_S16x1x1024 (constant (F := Ideal) S_ .f32 0x3F800000#32)) (extractStridedSlice S16x1x1024 ![0, 1, 0] md Gen.slices_S16x6x1024_S16x1x1024_0_1_0)))) (broadcastInDim S16x2048x1024 ![0, 1, 2] Gen.bcast_S16x1x1024_S16x2048x1024_0_1_2 (extractStridedSlice S16x1x1024 ![0, 0, 0] md Gen.slices_S16x6x1024_S16x1x1024_0_0_0))) w) Gen.slices_S16x2048x5408_S16x2048x3840_0_0_1544) : (⟨S16x2048x3840, .f32⟩ : BufTy).Contents (Elt Ideal))⟩, ⟨S16x2048x8, ((extractStridedSlice S16x2048x8 ![0, 0, 1536] (Host.dotGeneral dot_S16x2048x1024_S1024x5408_S16x2048x5408_2_0_01_1_n_n none (addf (mulf (mulf (mulf (shapeCast _ x Gen.shapeCasts_S32768x1024_S16x2048x1024) (broadcastInDim S16x2048x1024 ![0, 1, 2] Gen.bcast_S16x2048x1_S16x2048x1024_0_1_2 (Host.rsqrt (addf (Host.divf (broadcastInDim S16x2048x1 ![0, 1] Gen.bcast_S16x2048_S16x2048x1_0_1 (Host.reduceAdd (mulf (shapeCast _ x Gen.shapeCasts_S32768x1024_S16x2048x1024) (shapeCast _ x Gen.shapeCasts_S32768x1024_S16x2048x1024)) (constant (F := Ideal) S_ .f32 0x00000000#32) Gen.reducesTo_S16x2048x1024_S16x2048_d2 Gen.h_S_)) (broadcastInDim S16x2048x1 ![] Gen.bcast_S_S16x2048x1 (constant (F := Ideal) S_ .f32 0x44800000#32))) (broadcastInDim S16x2048x1 ![] Gen.bcast_S_S16x2048x1 (constant (F := Ideal) S_ .f32 0x358637BD#32)))))) (broadcastInDim S16x2048x1024 ![0, 1, 2] Gen.bcast_S1x1x1024_S16x2048x1024_0_1_2 (broadcastInDim S1x1x1024 ![2] Gen.bcast_S1024_S1x1x1024_2 g))) (broadcastInDim S16x2048x1024 ![0, 1, 2] Gen.bcast_S16x1x1024_S16x2048x1024_0_1_2 (addf (broadcastInDim S16x1x1024 ![] Gen.bcast_S_S16x1x1024 (constant (F := Ideal) S_ .f32 0x3F800000#32)) (extractStridedSlice S16x1x1024 ![0, 1, 0] md Gen.slices_S16x6x1024_S16x1x1024_0_1_0)))) (broadcastInDim S16x2048x1024 ![0, 1, 2] Gen.bcast_S16x1x1024_S16x2048x1024_0_1_2 (extractStridedSlice S16x1x1024 ![0, 0, 0] md Gen.slices_S16x6x1024_S16x1x1024_0_0_0))) w) Gen.slices_S16x2048x5408_S16x2048x8_0_0_1536) : (⟨S16x2048x8, .f32⟩ : BufTy).Contents (Elt Ideal))⟩, ⟨S16x2048x24, ((extractStridedSlice S16x2048x24 ![0, 0, 5384] (Host.dotGeneral dot_S16x2048x1024_S1024x5408_S16x2048x5408_2_0_01_1_n_n none (addf (mulf (mulf (mulf (shapeCast _ x Gen.shapeCasts_S32768x1024_S16x2048x1024) (broadcastInDim S16x2048x1024 ![0, 1, 2] Gen.bcast_S16x2048x1_S16x2048x1024_0_1_2 (Host.rsqrt (addf (Host.divf (broadcastInDim S16x2048x1 ![0, 1] Gen.bcast_S16x2048_S16x2048x1_0_1 (Host.reduceAdd (mulf (shapeCast _ x Gen.shapeCasts_S32768x1024_S16x2048x1024) (shapeCast _ x Gen.shapeCasts_S32768x1024_S16x2048x1024)) (constant (F := Ideal) S_ .f32 0x00000000#32) Gen.reducesTo_S16x2048x1024_S16x2048_d2 Gen.h_S_)) (broadcastInDim S16x2048x1 ![] Gen.bcast_S_S16x2048x1 (constant (F := Ideal) S_ .f32 0x44800000#32))) (broadcastInDim S16x2048x1 ![] Gen.bcast_S_S16x2048x1 (constant (F := Ideal) S_ .f32 0x358637BD#32)))))) (broadcastInDim S16x2048x1024 ![0, 1, 2] Gen.bcast_S1x1x1024_S16x2048x1024_0_1_2 (broadcastInDim S1x1x1024 ![2] Gen.bcast_S1024_S1x1x1024_2 g))) (broadcastInDim S16x2048x1024 ![0, 1, 2] Gen.bcast_S16x1x1024_S16x2048x1024_0_1_2 (addf (broadcastInDim S16x1x1024 ![] Gen.bcast_S_S16x1x1024 (constant (F := Ideal) S_ .f32 0x3F800000#32)) (extractStridedSlice S16x1x1024 ![0, 1, 0] md Gen.slices_S16x6x1024_S16x1x1024_0_1_0)))) (broadcastInDim S16x2048x1024 ![0, 1, 2] Gen.bcast_S16x1x1024_S16x2048x1024_0_1_2 (extractStridedSlice S16x1x1024 ![0, 0, 0] md Gen.slices_S16x6x1024_S16x1x1024_0_0_0))) w) Gen.slices_S16x2048x5408_S16x2048x24_0_0_5384) : (⟨S16x2048x24, .f32⟩ : BufTy).Contents (Elt Ideal))⟩] Gen.concatenates_S16x2048x1536_S16x2048x3840_S16x2048x8_S16x2048x24_S16x2048x5408_d2 : (⟨S16x2048x5408, .f32⟩ : BufTy).Contents (Elt Ideal))) (sitofp (F := Ideal) .f32 (constantI S_ 32 0#32)) Gen.pads_S16x2048x5408_S16x2048x5632_000_000_02240 Gen.h_S_) Gen.shapeCasts_S16x2048x5632_S32768x5632 : FVec Ideal S32768x5632 .f32) (ix2 i j) : EReal)
      = if h : j.val < 5408 then ∑ k : Fin 1024, normed (fun i l => x (ix2 i l)) (fun p q l => md (ix3 p q l)) (fun l => g (ix1 l)) i k
          * w (ix2 k ⟨src j.val, src_lt _ h⟩) else 0 := by
  refine (ordered_at _ i j).trans ?_
  by_cases h : j.val < 5408
  · rw [dif_pos h, dif_pos h]
    refine (dot_at _ w _ _ _).trans (Finset.sum_congr rfl fun k _ => ?_)
    exact congrArg (fun z => z * w (ix2 k ⟨src j.val, src_lt _ h⟩)) (normed_row x md g i k)
  · rw [dif_neg h, dif_neg h]

/-- The rows as stored: the same entries. -/
theorem flat_at (h : FVec Ideal S16x2048x1024 .f32) (i : Fin 32768) (k : Fin 1024) :
    ((shapeCast _ (truncf .bf16 h Gen.bitsLt_bf16_f32) Gen.shapeCasts_S16x2048x1024_S32768x1024 : FVec Ideal S32768x1024 .bf16) (ix2 i k) : EReal)
      = h (ix3 ⟨i.val / 2048, by omega⟩ ⟨i.val % 2048, by omega⟩ k) := by
  pointwise

/-- The second result: the normed rows. -/
theorem stored_at (x : FVec Ideal S32768x1024 .f32) (md : FVec Ideal S16x6x1024 .f32) (g : FVec Ideal S1024 .f32)
    (i : Fin 32768) (k : Fin 1024) :
    ((shapeCast _ (truncf .bf16 (addf (mulf (mulf (mulf (shapeCast _ x Gen.shapeCasts_S32768x1024_S16x2048x1024) (broadcastInDim S16x2048x1024 ![0, 1, 2] Gen.bcast_S16x2048x1_S16x2048x1024_0_1_2 (Host.rsqrt (addf (Host.divf (broadcastInDim S16x2048x1 ![0, 1] Gen.bcast_S16x2048_S16x2048x1_0_1 (Host.reduceAdd (mulf (shapeCast _ x Gen.shapeCasts_S32768x1024_S16x2048x1024) (shapeCast _ x Gen.shapeCasts_S32768x1024_S16x2048x1024)) (constant (F := Ideal) S_ .f32 0x00000000#32) Gen.reducesTo_S16x2048x1024_S16x2048_d2 Gen.h_S_)) (broadcastInDim S16x2048x1 ![] Gen.bcast_S_S16x2048x1 (constant (F := Ideal) S_ .f32 0x44800000#32))) (broadcastInDim S16x2048x1 ![] Gen.bcast_S_S16x2048x1 (constant (F := Ideal) S_ .f32 0x358637BD#32)))))) (broadcastInDim S16x2048x1024 ![0, 1, 2] Gen.bcast_S1x1x1024_S16x2048x1024_0_1_2 (broadcastInDim S1x1x1024 ![2] Gen.bcast_S1024_S1x1x1024_2 g))) (broadcastInDim S16x2048x1024 ![0, 1, 2] Gen.bcast_S16x1x1024_S16x2048x1024_0_1_2 (addf (broadcastInDim S16x1x1024 ![] Gen.bcast_S_S16x1x1024 (constant (F := Ideal) S_ .f32 0x3F800000#32)) (extractStridedSlice S16x1x1024 ![0, 1, 0] md Gen.slices_S16x6x1024_S16x1x1024_0_1_0)))) (broadcastInDim S16x2048x1024 ![0, 1, 2] Gen.bcast_S16x1x1024_S16x2048x1024_0_1_2 (extractStridedSlice S16x1x1024 ![0, 0, 0] md Gen.slices_S16x6x1024_S16x1x1024_0_0_0))) Gen.bitsLt_bf16_f32) Gen.shapeCasts_S16x2048x1024_S32768x1024 : FVec Ideal S32768x1024 .bf16) (ix2 i k) : EReal)
      = normed (fun i l => x (ix2 i l)) (fun p q l => md (ix3 p q l)) (fun l => g (ix1 l)) i k :=
  (flat_at _ i k).trans (normed_row x md g i k)

end Cert.InRefIdeal.Proof

end
-- ==== Proof.InValue.lean ====
/- What the norm with its projection computes: the kernel's two result arrays are the reference's, entry by entry. -/
module

public import proofs.«01_k».proof.Defs
public import proofs.«01_k».proof.Proof.InIdealFrame
public import proofs.«01_k».proof.Proof.InRef
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)
open scoped BigOperators

namespace Cert.InIdeal.Proof

open Cert.InIdeal Cert.InIdeal.Gen Cert.InIdeal.Body Cert.InSpec

variable (m : (ℓ : Loc nD τ sig) → Buf (Elt Ideal) ℓ)

/-- Where each window's block sits at grid point `t`. -/
theorem idx : ∀ t : Fin cfg0.N, win0_0.index t = ![t.val / 11, 0]
    ∧ win0_1.index t = ![t.val / 22, 0, 0]
    ∧ win0_2.index t = ![0, 0]
    ∧ win0_3.index t = ![0, t.val % 11]
    ∧ win0_4.index t = ![t.val / 11, t.val % 11]
    ∧ win0_5.index t = ![t.val / 11, 0] :=
  (by decide +kernel : ∀ t : Fin grid0.N, _)

/-- The row of the arrays that row `r` of grid point `t`'s block is. -/
def row (t : Fin cfg0.N) (r : Fin 1024) : Fin 32768 :=
  ⟨t.val / 11 * 1024 + r.val, by have h : t.val < 352 := t.isLt; have := r.isLt; omega⟩

/-- The column of the projection that column `j` of grid point `t`'s block is. -/
def col (t : Fin cfg0.N) (j : Fin 512) : Fin 5632 :=
  ⟨t.val % 11 * 512 + j.val, by have := j.isLt; omega⟩

/-- The batch element of grid point `t`'s rows. -/
def bat (t : Fin cfg0.N) : Fin 16 := ⟨t.val / 22, by have h : t.val < 352 := t.isLt; omega⟩

/-- The batch element of a row. -/
theorem row_div (t : Fin cfg0.N) (r : Fin 1024) : (row t r).val / 2048 = t.val / 22 := by
  have := r.isLt; simp only [row]; omega

/-- A grid point's row block is that of its block's first point; -/
theorem start_div (t : Fin cfg0.N) : (start t).val / 11 = t.val / 11 := by
  show t.val / 11 * 11 / 11 = t.val / 11; omega

/-- so are its rows, -/
theorem row_start (t : Fin cfg0.N) (r : Fin 1024) : row (start t) r = row t r :=
  Fin.ext (by show (start t).val / 11 * 1024 + r.val = t.val / 11 * 1024 + r.val; rw [start_div])

/-- and its batch element. -/
theorem bat_start (t : Fin cfg0.N) : bat (start t) = bat t :=
  Fin.ext (by show t.val / 11 * 11 / 22 = t.val / 22; omega)

/-- The block of the rows at a grid point. -/
theorem blk0 (c : Dev nD) (t : Fin cfg0.N) (r : Fin 1024) (j : Fin 1024) :
    iblk m c 0 t (ix2 r j) = m ((c.tc : Thread nD τ).loc main_arg0) (ix2 (row t r) j) := by
  obtain ⟨e0, e1, e2, e3, e4, e5⟩ := idx t
  blk_ext [iblk, V, e0, row]

/-- The block of the modulation rows. -/
theorem blk1 (c : Dev nD) (t : Fin cfg0.N) (k : Fin 6) (j : Fin 1024) :
    iblk m c 1 t (ix3 0 k j) = m ((c.tc : Thread nD τ).loc main_arg1) (ix3 (bat t) k j) := by
  obtain ⟨e0, e1, e2, e3, e4, e5⟩ := idx t
  blk_ext [iblk, V, e1, bat]

/-- The gain as the kernel is handed it: one row. -/
theorem V8 (c : Dev nD) : V m c main_v8 = shapeCast S1x1024 (m ((c.tc : Thread nD τ).loc main_arg2)) shapeCasts_S1024_S1x1024 := by
  rfl

/-- The block of the gain. -/
theorem blk2 (c : Dev nD) (t : Fin cfg0.N) (j : Fin 1024) :
    iblk m c 2 t (ix2 0 j) = m ((c.tc : Thread nD τ).loc main_arg2) (ix1 j) := by
  obtain ⟨e0, e1, e2, e3, e4, e5⟩ := idx t
  have hb : iblk m c 2 t (ix2 0 j) = V m c main_v8 (ix2 0 j) := by
    blk_ext [iblk, e2]
  rw [hb, V8]
  pointwise

/-- The weights as the kernel is handed them: their columns in order, padded with zeros. -/
def packed (W : FVec Ideal S1024x5408 .f32) : FVec Ideal S1024x5632 .bf16 :=
  truncf .bf16 (pad S1024x5632 ![0, 0] ![0, 224] ![0, 0] ((concatenate S1024x5408 1 [⟨S1024x1536, ((extractStridedSlice S1024x1536 ![0, 0] W slices_S1024x5408_S1024x1536_0_0) : (⟨S1024x1536, .f32⟩ : BufTy).Contents (Elt Ideal))⟩, ⟨S1024x2560, ((extractStridedSlice S1024x2560 ![0, 1544] W slices_S1024x5408_S1024x2560_0_1544) : (⟨S1024x2560, .f32⟩ : BufTy).Contents (Elt Ideal))⟩, ⟨S1024x1280, ((extractStridedSlice S1024x1280 ![0, 4104] W slices_S1024x5408_S1024x1280_0_4104) : (⟨S1024x1280, .f32⟩ : BufTy).Contents (Elt Ideal))⟩, ⟨S1024x8, ((extractStridedSlice S1024x8 ![0, 1536] W slices_S1024x5408_S1024x8_0_1536) : (⟨S1024x8, .f32⟩ : BufTy).Contents (Elt Ideal))⟩, ⟨S1024x24, ((extractStridedSlice S1024x24 ![0, 5384] W slices_S1024x5408_S1024x24_0_5384) : (⟨S1024x24, .f32⟩ : BufTy).Contents (Elt Ideal))⟩] concatenates_S1024x1536_S1024x2560_S1024x1280_S1024x8_S1024x24_S1024x5408_d1 : (⟨S1024x5408, .f32⟩ : BufTy).Contents (Elt Ideal))) (sitofp (F := Ideal) .f32 (constantI S_ 32 0#32) : Vec Ideal S_ .f32) pads_S1024x5408_S1024x5632_000_02240 h_S_) bitsLt_bf16_f32

/-- The kernel's weights are the packed ones. -/
theorem V7 (c : Dev nD) : V m c main_v7 = packed (m ((c.tc : Thread nD τ).loc main_arg3)) := by
  rfl

/-- The columns in order, where `f` is a row: each is the one that `src` names. -/
theorem order_eq (f : Fin 5408 → EReal) (z : EReal) (hz : z = 0) (j : ℕ) :
    (if _h0 : j < 5408 then if _h1 : j < 1536 then f ⟨j, by omega⟩
      else if _h2 : j - 1536 < 2560 then f ⟨1544 + (j - 1536), by omega⟩
      else if _h3 : j - 1536 - 2560 < 1280 then f ⟨4104 + (j - 1536 - 2560), by omega⟩
      else if _h4 : j - 1536 - 2560 - 1280 < 8 then f ⟨1536 + (j - 1536 - 2560 - 1280), by omega⟩
      else f ⟨5384 + (j - 1536 - 2560 - 1280 - 8), by omega⟩ else z)
      = if h : j < 5408 then f ⟨src j, src_lt _ h⟩ else 0 := by
  by_cases h0 : j < 5408
  · rw [dif_pos h0, dif_pos h0]
    split_ifs with h1 h2 h3 h4
    all_goals
      refine congrArg f (Fin.ext ?_)
      unfold src
      dsimp only
      split_ifs <;> omega
  · rw [dif_neg h0, dif_neg h0, hz]

/-- An entry of the packed weights. -/
theorem packed_at (W : FVec Ideal S1024x5408 .f32) (k : Fin 1024) (j : Fin 5632) :
    (packed W (ix2 k j) : EReal) = if h : j.val < 5408 then W (ix2 k ⟨src j.val, src_lt _ h⟩) else 0 := by
  unfold packed
  pointwise
  exact order_eq (fun l => W (ix2 k l)) _ Cert.InRefIdeal.Proof.zero_word j.val

/-- The block of the weights at a grid point. -/
theorem blk3 (c : Dev nD) (t : Fin cfg0.N) (k : Fin 1024) (j : Fin 512) :
    (iblk m c 3 t (ix2 k j) : EReal)
      = if h : (col t j).val < 5408 then m ((c.tc : Thread nD τ).loc main_arg3) (ix2 k ⟨src (col t j).val, src_lt _ h⟩) else (0 : EReal) := by
  obtain ⟨e0, e1, e2, e3, e4, e5⟩ := idx t
  have hb : iblk m c 3 t (ix2 k j) = V m c main_v7 (ix2 k (col t j)) := by
    blk_ext [iblk, e3, col]
  rw [hb, V7]
  exact packed_at _ k (col t j)

/-- Where the results' blocks sit. -/
theorem emb4 (t : Fin cfg0.N) (r : Fin 1024) (j : Fin 512) :
    ((View.whole main_v9_0).slice (win0_4.rect t)).emb (ix2 r j) = ix2 (row t r) (col t j) := by
  obtain ⟨e0, e1, e2, e3, e4, e5⟩ := idx t
  blk_ext [e4, row, col]

theorem emb5 (t : Fin cfg0.N) (r : Fin 1024) (j : Fin 1024) :
    ((View.whole main_v9_1).slice (win0_5.rect t)).emb (ix2 r j) = ix2 (row t r) j := by
  obtain ⟨e0, e1, e2, e3, e4, e5⟩ := idx t
  blk_ext [e5, row]

/-- One entry of the rows, from the blocks. -/
theorem pay1_at (x0 : Vec Ideal S1024x1024 .f32) (x2 : Vec Ideal S1x1024 .f32) (y1 y0 : Vec Ideal S1x1x1024 .f32) (r k : Fin 1024) :
    (k0_pay1 x0 x2 y1 y0 (ix2 r k) : EReal)
      = x0 (ix2 r k) * Ideal.rsqrt (Ideal.div (∑ l : Fin 1024, x0 (ix2 r l) * x0 (ix2 r l)) (Ideal.ofBits .f32 1149239296#32) + Ideal.ofBits .f32 897988541#32)
          * x2 (ix2 0 k) * (Ideal.ofBits .f32 1065353216#32 + y1 (ix3 0 0 k)) + y0 (ix3 0 0 k) := by
  pointwise [k0_pay1]

/-- Reading one modulation row of the block. -/
theorem ld1 (x1 : Vec Ideal S1x6x1024 .f32) (k : Fin 1024) :
    View.ld x1 (Rect.unit (s := S1x6x1024) ![0, 1, 0] S1x1x1024.size inb_S1x6x1024_S1x1x1024_0_1_0) (ix3 0 0 k) = x1 (ix3 0 1 k) := by
  refine congrArg x1 ?_
  blk_ext []
  · rfl
  · exact (Nat.zero_add _).trans (Nat.one_mul _)
theorem ld0 (x1 : Vec Ideal S1x6x1024 .f32) (k : Fin 1024) :
    View.ld x1 (Rect.unit (s := S1x6x1024) ![0, 0, 0] S1x1x1024.size inb_S1x6x1024_S1x1x1024_0_0_0) (ix3 0 0 k) = x1 (ix3 0 0 k) := by
  refine congrArg x1 ?_
  blk_ext []
  · rfl
  · exact (Nat.zero_add _).trans (Nat.one_mul _)

/-- The rows of a grid point's block. -/
theorem hrows_at (c : Dev nD) (t : Fin cfg0.N) (r k : Fin 1024) :
    (hrows m c t (ix2 r k) : EReal)
      = normed (fun i l => m ((c.tc : Thread nD τ).loc main_arg0) (ix2 i l)) (fun p q l => m ((c.tc : Thread nD τ).loc main_arg1) (ix3 p q l))
          (fun l => m ((c.tc : Thread nD τ).loc main_arg2) (ix1 l)) (row t r) k := by
  have hb : (⟨(row t r).val / 2048, by have := (row t r).isLt; omega⟩ : Fin 16) = bat t := Fin.ext (row_div t r)
  unfold hrows rows
  rw [pay1_at, ld1, ld0]
  simp only [blk0, blk1, blk2, row_start, bat_start]
  unfold normed
  rw [hb]

/-- The product of the rows with a block of weights. -/
theorem pay2_at (h : Vec Ideal S1024x1024 .bf16) (b : Vec Ideal S1024x512 .bf16) (r : Fin 1024) (j : Fin 512) :
    (k0_pay2 h b (ix2 r j) : EReal) = ∑ k : Fin 1024, h (ix2 r k) * b (ix2 k j) := by
  pointwise [k0_pay2]

/-- The arguments of the two programs agree. -/
def Agree (m' : (ℓ : Loc Cert.InRefIdeal.nD Cert.InRefIdeal.τ Cert.InRefIdeal.sig) → Buf (Elt Ideal) ℓ) (c : Dev nD) : Prop :=
  m' ((c.tc : Thread Cert.InRefIdeal.nD Cert.InRefIdeal.τ).loc Cert.InRefIdeal.main_arg0) = m ((c.tc : Thread nD τ).loc main_arg0)
  ∧ m' ((c.tc : Thread Cert.InRefIdeal.nD Cert.InRefIdeal.τ).loc Cert.InRefIdeal.main_arg1) = m ((c.tc : Thread nD τ).loc main_arg1)
  ∧ m' ((c.tc : Thread Cert.InRefIdeal.nD Cert.InRefIdeal.τ).loc Cert.InRefIdeal.main_arg2) = m ((c.tc : Thread nD τ).loc main_arg2)
  ∧ m' ((c.tc : Thread Cert.InRefIdeal.nD Cert.InRefIdeal.τ).loc Cert.InRefIdeal.main_arg3) = m ((c.tc : Thread nD τ).loc main_arg3)

/-- The projection's array after the run is the reference's first result of the same arguments. -/
theorem final0 (m' : (ℓ : Loc Cert.InRefIdeal.nD Cert.InRefIdeal.τ Cert.InRefIdeal.sig) → Buf (Elt Ideal) ℓ) (c : Dev nD)
    (hag : Agree m m' c) :
    (dats m 0 c).arrAt 4 cfg0.N = Cert.InRefIdeal.Value.res_out0 (F := Ideal) m' c := by
  obtain ⟨h0, h1, h2, h3⟩ := hag
  refine (dats m 0 c).arrAt_eq_of_covers 4 _ (by decide +kernel) fun t hf y => ?_
  blk_simp; rw [after_4]
  idx_vars y
  rw [emb4]
  unfold Cert.InRefIdeal.Value.res_out0 Cert.InRefIdeal.Value.res_main_v29
  rw [h0, h1, h2, h3]
  refine (pay2_at _ _ y0 y1).trans ?_
  refine Eq.trans ?_ (Cert.InRefIdeal.Proof.projected_at _ _ _ _ (row t y0) (col t y1)).symm
  simp only [hrows_at, blk3]
  by_cases h : (col t y1).val < 5408
  · simp only [dif_pos h]
  · simp only [dif_neg h, mul_zero, Finset.sum_const_zero]

/-- The rows' array after the run is the reference's second result of the same arguments. -/
theorem final1 (c : Dev nD) (X : Buf (Elt Ideal) ((c.tc : Thread nD τ).loc main_v9_1))
    (hX : ∀ (i : Fin 32768) (k : Fin 1024), (X (ix2 i k) : EReal)
      = normed (fun i l => m ((c.tc : Thread nD τ).loc main_arg0) (ix2 i l)) (fun p q l => m ((c.tc : Thread nD τ).loc main_arg1) (ix3 p q l))
          (fun l => m ((c.tc : Thread nD τ).loc main_arg2) (ix1 l)) i k) :
    (dats m 0 c).arrAt 5 cfg0.N = X := by
  refine (dats m 0 c).arrAt_eq_of_covers 5 _ (by decide +kernel) fun t hf y => ?_
  blk_simp; rw [after_5]
  idx_vars y
  rw [emb5]
  exact (hrows_at m c t y0 y1).trans (hX (row t y0) y1).symm

/-- The kernel's run: its two result arrays are what its blocks make of them, its arguments unchanged. -/
theorem run_blocks (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9_0) = (dats m 0 c).arrAt 4 cfg0.N
      ∧ r.2.mem ((c.tc : Thread nD τ).loc main_v9_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c => ⟨(h c).1 4, (h c).1 5,
      ((h c).1 0).trans (((dats m 0 c).arrAt_in 0 rfl _).trans ((arrays m c 0).trans (V_main_arg0 m c))),
      ((h c).1 1).trans (((dats m 0 c).arrAt_in 1 rfl _).trans ((arrays m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

/-- The claim: at the real numbers, kernel and reference leave the same two arrays, whatever the arguments. -/
theorem algebraic : Cert.algebraic_InIdeal_InRefIdeal := fun m ρ m' ρ' _ hag =>
  ⟨fun c => (dats m 0 c).arrAt 4 cfg0.N, fun c => (dats m 0 c).arrAt 5 cfg0.N, run_blocks m ρ,
    (θ_run _ _ _).mono (fun _ h c => ⟨(h c).1.trans (final0 m m' c (hag c)).symm,
        (h c).2.1.trans (final1 m c _ fun i k => by
          obtain ⟨h0, h1, h2, h3⟩ := hag c
          rw [h0, h1, h2]
          exact Cert.InRefIdeal.Proof.stored_at _ _ _ i k).symm, (h c).2.2⟩)
      (Cert.InRefIdeal.Value.run m' ρ')⟩

end Cert.InIdeal.Proof

end
-- ==== Proof.SgKernel.lean ====
/- What the spatial gating's kernel stores at one position, from the blocks that it reads. -/
module

public import proofs.«01_k».proof.Defs
public import proofs.«01_k».proof.Proof.Gen.SgIdeal.Value
public import proofs.«01_k».proof.Proof.Gen.SgRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)
open scoped BigOperators

namespace Cert.SgIdeal.Proof
open Cert.SgIdeal Cert.SgIdeal.Gen

/-- The smooth rectifier, as the kernel takes it. -/
def gelu (x : EReal) : EReal := Ideal.ofBits FTy.f32 1056964608#32 * x
  * (1 + Ideal.tanh (Ideal.ofBits FTy.f32 1061962282#32 * (x + Ideal.ofBits FTy.f32 1027024659#32 * (x * x * x))))

/-- The lower triangle, as the kernel's words test it. -/
theorem sle128 : ∀ x r : Fin 128, IntOp.cmpi .sle (BitVec.ofNat 32 x.val) (BitVec.ofNat 32 r.val)
    = if x.val ≤ r.val then 1#1 else 0#1 := by decide +kernel

/-- A selection by a decided word is the conditional. -/
theorem select_ite (p : Prop) [Decidable p] (a b : EReal) : Scalar.select (if p then 1#1 else 0#1) a b = if p then a else b := by
  split_ifs <;> rfl

/-- The gate at one position. -/
theorem gate_at (x : Vec Ideal S128x512 .f32) (r : Fin 128) (j : Fin 512) :
    (k0_pay2 (F := Ideal) x (ix2 r j) : EReal) = gelu (x (ix2 r j)) := by
  pointwise [k0_pay2]
  rfl

/-- The rows divided by their root mean square, at one position. -/
theorem norm_at (x : Vec Ideal S128x512 .f32) (r : Fin 128) (j : Fin 512) :
    (k0_pay3 (F := Ideal) x (ix2 r j) : EReal) = gelu (x (ix2 r j))
      * Ideal.rsqrt (Ideal.div (∑ k : Fin 512, gelu (x (ix2 r k)) * gelu (x (ix2 r k))) (Ideal.ofBits FTy.f32 1140850688#32)
          + Ideal.ofBits FTy.f32 897988541#32) := by
  pointwise [k0_pay3]
  rfl

/-- One group's mixing at a position: the sum over the positions up to it. -/
def mix (w : Fin 128 → EReal) (v : Fin 128 → EReal) (r : Fin 128) : EReal :=
  ∑ x : Fin 128, (if x.val ≤ r.val then w x else 0) * v x

/-- The kernel's sum over a group's positions, with the triangle as its words test it, is that mixing. -/
theorem mix_of (w v : Fin 128 → EReal) (r : Fin 128) :
    (∑ x : Fin 128, Scalar.select (IntOp.cmpi .sle (BitVec.ofNat 32 x.val) (BitVec.ofNat 32 r.val)) (w x * v x) 0) = mix w v r := by
  refine Finset.sum_congr rfl fun x _ => ?_
  rw [sle128 x r, select_ite]
  split_ifs
  · rfl
  · exact (zero_mul _).symm

/-- Four ranges of columns, laid side by side and read at one column. -/
theorem pick (f0 f1 f2 f3 : Fin 512 → EReal) (T : EReal) (j : Fin 512) (k0 : j.val / 128 = 0 → f0 j = T) (k1 : j.val / 128 = 1 → f1 j = T)
    (k2 : j.val / 128 = 2 → f2 j = T) (k3 : j.val / 128 = 3 → f3 j = T) :
    (if _ : j.val < 128 then f0 j else if h1 : j.val - 128 < 128 then f1 ⟨128 + (j.val - 128), by omega⟩
      else if h2 : j.val - 128 - 128 < 128 then f2 ⟨256 + (j.val - 128 - 128), by omega⟩
      else f3 ⟨384 + (j.val - 128 - 128 - 128), by have := j.isLt; omega⟩) = T := by
  have hj := j.isLt
  split_ifs with a b c
  · exact k0 (by omega)
  · have e : (⟨128 + (j.val - 128), by omega⟩ : Fin 512) = j := Fin.ext (by show 128 + (j.val - 128) = j.val; omega)
    rw [e]; exact k1 (by omega)
  · have e : (⟨256 + (j.val - 128 - 128), by omega⟩ : Fin 512) = j := Fin.ext (by show 256 + (j.val - 128 - 128) = j.val; omega)
    rw [e]; exact k2 (by omega)
  · have e : (⟨384 + (j.val - 128 - 128 - 128), by omega⟩ : Fin 512) = j := Fin.ext (by show 384 + (j.val - 128 - 128 - 128) = j.val; omega)
    rw [e]; exact k3 (by omega)

/-- The mixed rows at one position: each of the four groups of columns is mixed by weights of its own. -/
theorem mix_at (v37 v40 : FVec Ideal S128x512 .f32) (v45 v54 v63 v72 : Vec Ideal S1x128x128 .f32) (W : Fin 4 → Fin 128 → Fin 128 → EReal)
    (h0 : ∀ r x, v45 (ix3 0 r x) = W 0 r x) (h1 : ∀ r x, v54 (ix3 0 r x) = W 1 r x)
    (h2 : ∀ r x, v63 (ix3 0 r x) = W 2 r x) (h3 : ∀ r x, v72 (ix3 0 r x) = W 3 r x) (r : Fin 128) (j : Fin 512) (g : Fin 4)
    (hg : j.val / 128 = g.val) :
    (k0_pay5 (F := Ideal) v37 v40 v45 v54 v63 v72 (ix2 r j) : EReal)
      = mix (W g r) (fun x => v37 (ix2 x j) * v40 (ix2 x j)) r := by
  have e0 : j.val / 128 = 0 → mix (fun x => v45 (ix3 0 r x)) (fun x => v37 (ix2 x j) * v40 (ix2 x j)) r
      = mix (W g r) (fun x => v37 (ix2 x j) * v40 (ix2 x j)) r := fun h => by
    obtain rfl : g = 0 := Fin.ext (hg.symm.trans h)
    simp only [h0]
  have e1 : j.val / 128 = 1 → mix (fun x => v54 (ix3 0 r x)) (fun x => v37 (ix2 x j) * v40 (ix2 x j)) r
      = mix (W g r) (fun x => v37 (ix2 x j) * v40 (ix2 x j)) r := fun h => by
    obtain rfl : g = 1 := Fin.ext (hg.symm.trans h)
    simp only [h1]
  have e2 : j.val / 128 = 2 → mix (fun x => v63 (ix3 0 r x)) (fun x => v37 (ix2 x j) * v40 (ix2 x j)) r
      = mix (W g r) (fun x => v37 (ix2 x j) * v40 (ix2 x j)) r := fun h => by
    obtain rfl : g = 2 := Fin.ext (hg.symm.trans h)
    simp only [h2]
  have e3 : j.val / 128 = 3 → mix (fun x => v72 (ix3 0 r x)) (fun x => v37 (ix2 x j) * v40 (ix2 x j)) r
      = mix (W g r) (fun x => v37 (ix2 x j) * v40 (ix2 x j)) r := fun h => by
    obtain rfl : g = 3 := Fin.ext (hg.symm.trans h)
    simp only [h3]
  let S : Vec Ideal S1x128x128 .f32 → Fin 512 → EReal := fun v i => ∑ x : Fin 128,
    Scalar.select (IntOp.cmpi .sle (BitVec.ofNat 32 x.val) (BitVec.ofNat 32 r.val)) (v (ix3 0 r x) * (v37 (ix2 x i) * v40 (ix2 x i))) 0
  have f : ∀ (v : Vec Ideal S1x128x128 .f32) (i : Fin 512), S v i = _ := fun v i => mix_of (fun x => v (ix3 0 r x)) (fun x => v37 (ix2 x i) * v40 (ix2 x i)) r
  have k := pick (S v45) (S v54) (S v63) (S v72) _ j (fun h => (f v45 j).trans (e0 h)) (fun h => (f v54 j).trans (e1 h)) (fun h => (f v63 j).trans (e2 h))
    (fun h => (f v72 j).trans (e3 h))
  pointwise [k0_pay5]
  exact k

/-- Reading the weights of the first group. -/
theorem ld_2 (x : Vec Ideal S4x128x128 .f32) (r k : Fin 128) : View.ld x r0_2 (ix3 0 r k) = x (ix3 0 r k) := by
  refine congrArg x ?_
  blk_ext []
  all_goals first | exact (Nat.zero_add _).trans (Nat.one_mul _) | rfl
/-- Reading the weights of the second group. -/
theorem ld_3 (x : Vec Ideal S4x128x128 .f32) (r k : Fin 128) : View.ld x r0_3 (ix3 0 r k) = x (ix3 1 r k) := by
  refine congrArg x ?_
  blk_ext []
  all_goals first | exact (Nat.zero_add _).trans (Nat.one_mul _) | rfl
/-- Reading the weights of the third group. -/
theorem ld_4 (x : Vec Ideal S4x128x128 .f32) (r k : Fin 128) : View.ld x r0_4 (ix3 0 r k) = x (ix3 2 r k) := by
  refine congrArg x ?_
  blk_ext []
  all_goals first | exact (Nat.zero_add _).trans (Nat.one_mul _) | rfl
/-- Reading the weights of the fourth group. -/
theorem ld_5 (x : Vec Ideal S4x128x128 .f32) (r k : Fin 128) : View.ld x r0_5 (ix3 0 r k) = x (ix3 3 r k) := by
  refine congrArg x ?_
  blk_ext []
  all_goals first | exact (Nat.zero_add _).trans (Nat.one_mul _) | rfl
/-- The norm's weights, the same in every row. -/
theorem weight_at (x : Vec Ideal S1x512 .f32) (r : Fin 128) (j : Fin 512) : k0_pay4 (F := Ideal) x (ix2 r j) = x (ix2 0 j) := by
  pointwise [k0_pay4]

/-- The normed rows that are mixed, at one position. -/
def normed (u : Fin 512 → EReal) (w : EReal) (j : Fin 512) : EReal :=
  gelu (u j) * Ideal.rsqrt (Ideal.div (∑ k : Fin 512, gelu (u k) * gelu (u k)) (Ideal.ofBits FTy.f32 1140850688#32)
    + Ideal.ofBits FTy.f32 897988541#32) * w

/-- What the kernel stores at one position, from what it reads. -/
theorem out_of (x0 x1 : Vec Ideal S128x512 .f32) (x2 : Vec Ideal S1x512 .f32) (x3 : Vec Ideal S4x128x128 .f32) (x4 : Vec Ideal S128x512 .f32)
    (v45 v54 v63 v72 : Vec Ideal S1x128x128 .f32) (h0 : ∀ r x, v45 (ix3 0 r x) = x3 (ix3 0 r x)) (h1 : ∀ r x, v54 (ix3 0 r x) = x3 (ix3 1 r x))
    (h2 : ∀ r x, v63 (ix3 0 r x) = x3 (ix3 2 r x)) (h3 : ∀ r x, v72 (ix3 0 r x) = x3 (ix3 3 r x))
    (r : Fin 128) (j : Fin 512) (g : Fin 4) (hg : j.val / 128 = g.val) :
    (k0_pay1 (k0_pay2 x0) (k0_pay5 (k0_pay3 x1) (k0_pay4 x2) v45 v54 v63 v72) x4 (ix2 r j) : EReal)
      = gelu (x0 (ix2 r j)) * (mix (fun x => x3 (ix3 g r x)) (fun x => normed (fun k => x1 (ix2 x k)) (x2 (ix2 0 j)) j) r + x4 (ix2 r j)) := by
  have e := mix_at (k0_pay3 x1) (k0_pay4 x2) v45 v54 v63 v72 (fun g r x => x3 (ix3 g r x)) h0 h1 h2 h3 r j g hg
  simp only [norm_at, weight_at] at e
  have e' := gate_at x0 r j
  pointwise [k0_pay1]
  rw [e, e']
  rfl

/-- What the kernel stores at one position, from the blocks. -/
theorem out_at (x0 x1 : Vec Ideal S128x512 .f32) (x2 : Vec Ideal S1x512 .f32) (x3 : Vec Ideal S4x128x128 .f32) (x4 : Vec Ideal S128x512 .f32)
    (r : Fin 128) (j : Fin 512) (g : Fin 4) (hg : j.val / 128 = g.val) :
    (k0_pay1 (k0_pay2 x0) (k0_pay5 (k0_pay3 x1) (k0_pay4 x2) (View.ld x3 r0_2) (View.ld x3 r0_3) (View.ld x3 r0_4) (View.ld x3 r0_5)) x4 (ix2 r j) : EReal)
      = gelu (x0 (ix2 r j)) * (mix (fun x => x3 (ix3 g r x)) (fun x => normed (fun k => x1 (ix2 x k)) (x2 (ix2 0 j)) j) r + x4 (ix2 r j)) :=
  out_of x0 x1 x2 x3 x4 _ _ _ _ (ld_2 x3) (ld_3 x3) (ld_4 x3) (ld_5 x3) r j g hg

/-- Row `r` of the chunk `q`. -/
def rowAt (q : Fin 256) (r : Fin 128) : Fin 32768 := ⟨q.val * 128 + r.val, by have := q.isLt; have := r.isLt; omega⟩

/-- The result at one position, from the arrays. -/
def result (X0 : FVec Ideal S32768x5632 .f32) (X1 : FVec Ideal S512 .f32) (X2 : FVec Ideal S4x128x128 .f32) (X3 : FVec Ideal S4x128 .f32)
    (q : Fin 256) (r : Fin 128) (j : Fin 512) : EReal :=
  gelu (X0 (ix2 (rowAt q r) ⟨3072 + j.val, by have := j.isLt; omega⟩))
    * (mix (fun x => X2 (ix3 ⟨j.val / 128, by have := j.isLt; omega⟩ r x))
        (fun x => normed (fun k => X0 (ix2 (rowAt q x) ⟨3584 + k.val, by have := k.isLt; omega⟩)) (X1 (ix1 j)) j) r
      + X3 (ix2 ⟨j.val / 128, by have := j.isLt; omega⟩ r))

end Cert.SgIdeal.Proof
end
-- ==== Proof.SgRef.lean ====
/- What the spatial gating's reference computes, entry by entry. -/
module

public import proofs.«01_k».proof.Defs
public import proofs.«01_k».proof.Proof.Gen.SgIdeal.Value
public import proofs.«01_k».proof.Proof.SgKernel
public import proofs.«01_k».proof.Proof.Gen.SgRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)
open scoped BigOperators

namespace Cert.SgRefIdeal.Proof

open Cert.SgRefIdeal Cert.SgRefIdeal.Value
open Cert.SgIdeal.Proof (gelu mix normed select_ite rowAt result)

/-- The lower triangle, as the reference's words test it. -/
theorem sge128 : ∀ k s : Fin 128, Scalar.select (IntOp.cmpi .sge (IntOp.addi (BitVec.ofNat 32 k.val) 0#32) (BitVec.ofNat 32 s.val)) 1#1 0#1
    = if s.val ≤ k.val then 1#1 else 0#1 := by decide +kernel

/-- The constant that masked weights are filled with is zero. -/
theorem fill_zero : (id (constant (F := Ideal) S_ FTy.f32 0#32) ix0 : EReal) = 0 := by
  show Ideal.ofBits .f32 0x00000000#32 = 0
  simp [Ideal.ofBits, Ideal.ieee]

/-- The smooth rectifier with its factors in the reference's order. -/
theorem gelu_order (x y : EReal) : x * (Ideal.ofBits FTy.f32 1056964608#32 * y) = Ideal.ofBits FTy.f32 1056964608#32 * x * y := by
  rw [← mul_assoc, mul_comm x]

/-- The rectified projection at one position. -/
theorem gelu_at (SL : FVec Ideal S16x2048x1024 .f32) (a : Fin 16) (b : Fin 2048) (j : Fin 1024) :
    ((mulf SL (mulf (broadcastInDim S16x2048x1024 ![] Gen.bcast_S_S16x2048x1024 (constant (F := Ideal) S_ .f32 0x3F000000#32)) (addf (broadcastInDim S16x2048x1024 ![] Gen.bcast_S_S16x2048x1024 (constant (F := Ideal) S_ .f32 0x3F800000#32)) (Host.tanh (mulf (broadcastInDim S16x2048x1024 ![] Gen.bcast_S_S16x2048x1024 (constant (F := Ideal) S_ .f32 0x3F4C422A#32)) (addf SL (mulf (broadcastInDim S16x2048x1024 ![] Gen.bcast_S_S16x2048x1024 (constant (F := Ideal) S_ .f32 0x3D372713#32)) (mulf (mulf SL SL) SL)))))))) : FVec Ideal S16x2048x1024 .f32) (ix3 a b j) = gelu (SL (ix3 a b j)) := by
  pointwise
  exact gelu_order _ _

/-- The normed rows at one position. -/
theorem norm_at (H : FVec Ideal S16x2048x512 .f32) (X1 : FVec Ideal S512 .f32) (a : Fin 16) (b : Fin 2048) (j : Fin 512) :
    ((mulf (mulf H (broadcastInDim S16x2048x512 ![0, 1, 2] Gen.bcast_S16x2048x1_S16x2048x512_0_1_2 (Host.rsqrt (addf (Host.divf (broadcastInDim S16x2048x1 ![0, 1] Gen.bcast_S16x2048_S16x2048x1_0_1 (Host.reduceAdd (mulf H H) (constant (F := Ideal) S_ .f32 0x00000000#32) Gen.reducesTo_S16x2048x512_S16x2048_d2 Gen.h_S_)) (broadcastInDim S16x2048x1 ![] Gen.bcast_S_S16x2048x1 (constant (F := Ideal) S_ .f32 0x44000000#32))) (broadcastInDim S16x2048x1 ![] Gen.bcast_S_S16x2048x1 (constant (F := Ideal) S_ .f32 0x358637BD#32)))))) (broadcastInDim S16x2048x512 ![0, 1, 2] Gen.bcast_S1x1x512_S16x2048x512_0_1_2 (broadcastInDim S1x1x512 ![2] Gen.bcast_S512_S1x1x512_2 X1))) : FVec Ideal S16x2048x512 .f32) (ix3 a b j)
      = H (ix3 a b j) * Ideal.rsqrt (Ideal.div (∑ k : Fin 512, H (ix3 a b k) * H (ix3 a b k)) (Ideal.ofBits FTy.f32 1140850688#32)
          + Ideal.ofBits FTy.f32 897988541#32) * X1 (ix1 j) := by
  pointwise

/-- The projection's columns that are taken, and their two halves, at one position. -/
theorem cols_at (X0 : FVec Ideal S32768x5632 .f32) (a : Fin 16) (b : Fin 2048) (j : Fin 1024) :
    ((extractStridedSlice S16x2048x1024 ![0, 0, 3072] (shapeCast _ X0 Gen.shapeCasts_S32768x5632_S16x2048x5632) Gen.slices_S16x2048x5632_S16x2048x1024_0_0_3072) : FVec Ideal S16x2048x1024 .f32) (ix3 a b j) = X0 (ix2 ⟨a.val * 2048 + b.val, by have := a.isLt; have := b.isLt; omega⟩ ⟨3072 + j.val, by have := j.isLt; omega⟩) := by
  pointwise
theorem half_at (G : FVec Ideal S16x2048x1024 .f32) (a : Fin 16) (b : Fin 2048) (j : Fin 512) :
    ((extractStridedSlice S16x2048x512 ![0, 0, 512] G Gen.slices_S16x2048x1024_S16x2048x512_0_0_512) : FVec Ideal S16x2048x512 .f32) (ix3 a b j) = G (ix3 a b ⟨512 + j.val, by have := j.isLt; omega⟩) := by
  pointwise

/-- The sum over a group's positions, with the reference's words and its order of factors. -/
theorem mix_of (v w : Fin 128 → EReal) (r : Fin 128) (z : EReal) (hz : z = 0) :
    (∑ x : Fin 128, v x * Scalar.select (Scalar.select (IntOp.cmpi .sge (IntOp.addi (BitVec.ofNat 32 r.val) 0#32) (BitVec.ofNat 32 x.val)) 1#1 0#1) (w x) z)
      = mix w v r := by
  refine Finset.sum_congr rfl fun x _ => ?_
  rw [sge128 r x, select_ite, hz]
  exact mul_comm _ _

/-- The result at one position, from the gates and the normed rows. -/
theorem out_at (G : FVec Ideal S16x2048x1024 .f32) (N : FVec Ideal S16x2048x512 .f32) (X2 : FVec Ideal S4x128x128 .f32) (X3 : FVec Ideal S4x128 .f32)
    (a : Fin 32768) (j : Fin 512) :
    (truncf .bf16 (shapeCast _ (mulf (extractStridedSlice S16x2048x512 ![0, 0, 0] G Gen.slices_S16x2048x1024_S16x2048x512_0_0_0) (shapeCast _ (addf (transpose S16x16x128x4x128 [1, 2, 4, 0, 3] (Host.dotGeneral dot_S16x16x128x4x128_S4x128x128_S4x16x16x128x128_2_2_014_1_3_0 none (shapeCast _ N Gen.shapeCasts_S16x2048x512_S16x16x128x4x128) (select (broadcastInDim S4x128x128 ![1, 2] Gen.bcast_S128x128_S4x128x128_1_2 (select (cmpi .sge (addi (iotaInDim S128x128 32 0) (broadcastInDim S128x128 ![] Gen.bcast_S_S128x128 (constantI S_ 32 0#32))) (iotaInDim S128x128 32 1)) (broadcastInDim S128x128 ![] Gen.bcast_S_S128x128 (constantI S_ 1 1#1)) (broadcastInDim S128x128 ![] Gen.bcast_S_S128x128 (constantI S_ 1 0#1)))) X2 (broadcastInDim S4x128x128 ![] Gen.bcast_S_S4x128x128 (id (constant (F := Ideal) S_ .f32 0x00000000#32))))) Gen.transposes_S4x16x16x128x128_S16x16x128x4x128_1_2_4_0_3) (broadcastInDim S16x16x128x4x128 ![0, 1, 2, 3, 4] Gen.bcast_S1x1x128x4x1_S16x16x128x4x128_0_1_2_3_4 (broadcastInDim S1x1x128x4x1 ![2, 3, 4] Gen.bcast_S128x4x1_S1x1x128x4x1_2_3_4 (broadcastInDim S128x4x1 ![0, 1] Gen.bcast_S128x4_S128x4x1_0_1 (transpose S128x4 [1, 0] X3 Gen.transposes_S4x128_S128x4_1_0))))) Gen.shapeCasts_S16x16x128x4x128_S16x2048x512)) Gen.shapeCasts_S16x2048x512_S32768x512) Gen.bitsLt_bf16_f32 : FVec Ideal S32768x512 .bf16) (ix2 a j)
      = G (ix3 ⟨a.val / 2048, by have := a.isLt; omega⟩ ⟨a.val % 2048, Nat.mod_lt _ (by norm_num)⟩ ⟨j.val, by have := j.isLt; omega⟩)
        * (mix (fun x => X2 (ix3 ⟨j.val / 128, by have := j.isLt; omega⟩ ⟨a.val % 2048 % 128, Nat.mod_lt _ (by norm_num)⟩ x))
            (fun x => N (ix3 ⟨a.val / 2048, by have := a.isLt; omega⟩ ⟨a.val % 2048 / 128 * 128 + x.val, by have := x.isLt; omega⟩ j))
            ⟨a.val % 2048 % 128, Nat.mod_lt _ (by norm_num)⟩
          + X3 (ix2 ⟨j.val / 128, by have := j.isLt; omega⟩ ⟨a.val % 2048 % 128, Nat.mod_lt _ (by norm_num)⟩)) := by
  have e := mix_of (fun x => N (ix3 ⟨a.val / 2048, by have := a.isLt; omega⟩ ⟨a.val % 2048 / 128 * 128 + x.val, by have := x.isLt; omega⟩ j))
    (fun x => X2 (ix3 ⟨j.val / 128, by have := j.isLt; omega⟩ ⟨a.val % 2048 % 128, Nat.mod_lt _ (by norm_num)⟩ x))
    ⟨a.val % 2048 % 128, Nat.mod_lt _ (by norm_num)⟩ _ fill_zero
  pointwise
  exact congrArg₂ (fun x y : EReal => x * y) rfl (congrArg₂ (fun x y : EReal => x + y) e rfl)

/-- What the gates and the normed rows are makes the result what the kernel's is described to be. -/
theorem out_result (X0 : FVec Ideal S32768x5632 .f32) (X1 : FVec Ideal S512 .f32) (X2 : FVec Ideal S4x128x128 .f32) (X3 : FVec Ideal S4x128 .f32)
    (SL G : FVec Ideal S16x2048x1024 .f32) (H N : FVec Ideal S16x2048x512 .f32)
    (hS : ∀ (a : Fin 16) (b : Fin 2048) (j : Fin 1024), SL (ix3 a b j) = X0 (ix2 ⟨a.val * 2048 + b.val, by have := a.isLt; have := b.isLt; omega⟩ ⟨3072 + j.val, by have := j.isLt; omega⟩))
    (hG : ∀ (a : Fin 16) (b : Fin 2048) (j : Fin 1024), G (ix3 a b j) = gelu (SL (ix3 a b j)))
    (hH : ∀ (a : Fin 16) (b : Fin 2048) (j : Fin 512), H (ix3 a b j) = G (ix3 a b ⟨512 + j.val, by have := j.isLt; omega⟩))
    (hN : ∀ (a : Fin 16) (b : Fin 2048) (j : Fin 512), N (ix3 a b j)
      = H (ix3 a b j) * Ideal.rsqrt (Ideal.div (∑ k : Fin 512, H (ix3 a b k) * H (ix3 a b k)) (Ideal.ofBits FTy.f32 1140850688#32)
          + Ideal.ofBits FTy.f32 897988541#32) * X1 (ix1 j))
    (q : Fin 256) (r : Fin 128) (a : Fin 32768) (ha : a = rowAt q r) (j : Fin 512) :
    G (ix3 ⟨a.val / 2048, by have := a.isLt; omega⟩ ⟨a.val % 2048, Nat.mod_lt _ (by norm_num)⟩ ⟨j.val, by have := j.isLt; omega⟩)
        * (mix (fun x => X2 (ix3 ⟨j.val / 128, by have := j.isLt; omega⟩ ⟨a.val % 2048 % 128, Nat.mod_lt _ (by norm_num)⟩ x))
            (fun x => N (ix3 ⟨a.val / 2048, by have := a.isLt; omega⟩ ⟨a.val % 2048 / 128 * 128 + x.val, by have := x.isLt; omega⟩ j))
            ⟨a.val % 2048 % 128, Nat.mod_lt _ (by norm_num)⟩
          + X3 (ix2 ⟨j.val / 128, by have := j.isLt; omega⟩ ⟨a.val % 2048 % 128, Nat.mod_lt _ (by norm_num)⟩))
      = result X0 X1 X2 X3 q r j := by
  have hv : a.val = q.val * 128 + r.val := congrArg Fin.val ha
  have hr := r.isLt
  have er : (⟨a.val % 2048 % 128, Nat.mod_lt _ (by norm_num)⟩ : Fin 128) = r := Fin.ext (by show a.val % 2048 % 128 = r.val; omega)
  have e1 : (⟨a.val / 2048 * 2048 + a.val % 2048, by have := a.isLt; omega⟩ : Fin 32768) = rowAt q r :=
    Fin.ext (by show a.val / 2048 * 2048 + a.val % 2048 = q.val * 128 + r.val; omega)
  have e2 : ∀ x : Fin 128, (⟨a.val / 2048 * 2048 + (a.val % 2048 / 128 * 128 + x.val), by have := a.isLt; have := x.isLt; omega⟩ : Fin 32768) = rowAt q x :=
    fun x => Fin.ext (by show a.val / 2048 * 2048 + (a.val % 2048 / 128 * 128 + x.val) = q.val * 128 + x.val; omega)
  have e3 : ∀ k : Fin 512, (⟨3072 + (512 + k.val), by have := k.isLt; omega⟩ : Fin 5632) = ⟨3584 + k.val, by have := k.isLt; omega⟩ :=
    fun k => Fin.ext (by show 3072 + (512 + k.val) = 3584 + k.val; omega)
  simp only [hN, hH, hG, hS, er, e1, e2, e3]
  rfl

/-- The reference's result at one position, from the arrays. -/
theorem res_at (X0 : FVec Ideal S32768x5632 .f32) (X1 : FVec Ideal S512 .f32) (X2 : FVec Ideal S4x128x128 .f32) (X3 : FVec Ideal S4x128 .f32)
    (m' : (ℓ : Loc nD τ sig) → Buf (Elt Ideal) ℓ) (c : Dev nD)
    (h0 : m' ((c.tc : Thread nD τ).loc main_arg0) = X0) (h1 : m' ((c.tc : Thread nD τ).loc main_arg1) = X1)
    (h2 : m' ((c.tc : Thread nD τ).loc main_arg2) = X2) (h3 : m' ((c.tc : Thread nD τ).loc main_arg3) = X3)
    (q : Fin 256) (r : Fin 128) (j : Fin 512) :
    (res_out0 (F := Ideal) m' c (ix2 (rowAt q r) j) : EReal) = result X0 X1 X2 X3 q r j := by
  subst h0 h1 h2 h3
  unfold res_out0 res_main_v44
  exact (out_at _ _ _ _ (rowAt q r) j).trans
    (out_result _ _ _ _ _ _ _ _ (cols_at _) (gelu_at _) (half_at _) (norm_at _ _) q r (rowAt q r) rfl j)
end Cert.SgRefIdeal.Proof
end
-- ==== Proof.SgValue.lean ====
/- What the spatial gating computes: the kernel's result array is the reference's, entry by entry. -/
module

public import proofs.«01_k».proof.Defs
public import proofs.«01_k».proof.Proof.Gen.SgIdeal.Value
public import proofs.«01_k».proof.Proof.SgRef
public import proofs.«01_k».proof.Proof.Gen.SgRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)
open scoped BigOperators

namespace Cert.SgIdeal.Proof

open Cert.SgIdeal Cert.SgIdeal.Gen

variable (m : (ℓ : Loc nD τ sig) → Buf (Elt Ideal) ℓ)

/-- Where each window's block sits at grid point `t`. -/
theorem idx : ∀ t : Fin cfg0.N, win0_0.index t = ![t.val, 6]
    ∧ win0_1.index t = ![t.val, 7]
    ∧ win0_2.index t = ![0, 0]
    ∧ win0_3.index t = ![0, 0, 0]
    ∧ win0_4.index t = ![0, 0]
    ∧ win0_5.index t = ![t.val, 0] :=
  (by decide +kernel : ∀ t : Fin grid0.N, _)

/-- The row of the arrays that row `r` of grid point `t`'s block is. -/
def row (t : Fin cfg0.N) (r : Fin 128) : Fin 32768 :=
  ⟨t.val * 128 + r.val, by have h : t.val < 256 := t.isLt; have := r.isLt; omega⟩

/-- The block that the gate is made of. -/
theorem blk0 (c : Dev nD) (t : Fin cfg0.N) (r : Fin 128) (j : Fin 512) :
    iblk m c 0 t (ix2 r j) = m ((c.tc : Thread nD τ).loc main_arg0) (ix2 (row t r) ⟨3072 + j.val, by have := j.isLt; omega⟩) := by
  obtain ⟨e0, e1, e2, e3, e4, e5⟩ := idx t
  blk_ext [iblk, V, e0, row]

/-- The block that is normed and mixed. -/
theorem blk1 (c : Dev nD) (t : Fin cfg0.N) (r : Fin 128) (j : Fin 512) :
    iblk m c 1 t (ix2 r j) = m ((c.tc : Thread nD τ).loc main_arg0) (ix2 (row t r) ⟨3584 + j.val, by have := j.isLt; omega⟩) := by
  obtain ⟨e0, e1, e2, e3, e4, e5⟩ := idx t
  blk_ext [iblk, V, e1, row]

/-- The norm's weights as the host lays them out, and their block. -/
theorem V3 (c : Dev nD) : V m c main_v3 = shapeCast S1x512 (m ((c.tc : Thread nD τ).loc main_arg1)) shapeCasts_S512_S1x512 := by
  rfl
theorem blk2 (c : Dev nD) (t : Fin cfg0.N) (j : Fin 512) :
    iblk m c 2 t (ix2 0 j) = m ((c.tc : Thread nD τ).loc main_arg1) (ix1 j) := by
  obtain ⟨e0, e1, e2, e3, e4, e5⟩ := idx t
  have hb : iblk m c 2 t (ix2 0 j) = V m c main_v3 (ix2 0 j) := by
    blk_ext [iblk, e2]
  rw [hb, V3]
  pointwise

/-- The mixing weights' block is whole. -/
theorem blk3 (c : Dev nD) (t : Fin cfg0.N) (g : Fin 4) (r k : Fin 128) :
    iblk m c 3 t (ix3 g r k) = m ((c.tc : Thread nD τ).loc main_arg2) (ix3 g r k) := by
  obtain ⟨e0, e1, e2, e3, e4, e5⟩ := idx t
  blk_ext [iblk, V, e3]

/-- The offsets as the host lays them out, each repeated over its group's columns, and their block. -/
theorem V2 (c : Dev nD) : V m c main_v2 = shapeCast S128x512 (broadcastInDim S128x4x128 ![0, 1] bcast_S128x4_S128x4x128_0_1
    (transpose S128x4 [1, 0] (m ((c.tc : Thread nD τ).loc main_arg3)) transposes_S4x128_S128x4_1_0)) shapeCasts_S128x4x128_S128x512 := by
  rfl
theorem blk4 (c : Dev nD) (t : Fin cfg0.N) (r : Fin 128) (j : Fin 512) :
    iblk m c 4 t (ix2 r j) = m ((c.tc : Thread nD τ).loc main_arg3) (ix2 ⟨j.val / 128, by have := j.isLt; omega⟩ r) := by
  obtain ⟨e0, e1, e2, e3, e4, e5⟩ := idx t
  have hb : iblk m c 4 t (ix2 r j) = V m c main_v2 (ix2 r j) := by
    blk_ext [iblk, e4]
  rw [hb, V2]
  pointwise

/-- Where the result's block sits. -/
theorem emb5 (t : Fin cfg0.N) (r : Fin 128) (j : Fin 512) :
    ((View.whole main_v4).slice (win0_5.rect t)).emb (ix2 r j) = ix2 (row t r) j := by
  obtain ⟨e0, e1, e2, e3, e4, e5⟩ := idx t
  blk_ext [e5, row]

/-- The arguments of the two programs agree. -/
def Agree (m' : (ℓ : Loc Cert.SgRefIdeal.nD Cert.SgRefIdeal.τ Cert.SgRefIdeal.sig) → Buf (Elt Ideal) ℓ) (c : Dev nD) : Prop :=
  m' ((c.tc : Thread Cert.SgRefIdeal.nD Cert.SgRefIdeal.τ).loc Cert.SgRefIdeal.main_arg0) = m ((c.tc : Thread nD τ).loc main_arg0)
  ∧ m' ((c.tc : Thread Cert.SgRefIdeal.nD Cert.SgRefIdeal.τ).loc Cert.SgRefIdeal.main_arg1) = m ((c.tc : Thread nD τ).loc main_arg1)
  ∧ m' ((c.tc : Thread Cert.SgRefIdeal.nD Cert.SgRefIdeal.τ).loc Cert.SgRefIdeal.main_arg2) = m ((c.tc : Thread nD τ).loc main_arg2)
  ∧ m' ((c.tc : Thread Cert.SgRefIdeal.nD Cert.SgRefIdeal.τ).loc Cert.SgRefIdeal.main_arg3) = m ((c.tc : Thread nD τ).loc main_arg3)

/-- The kernel's result array after the run is the reference's result of the same arguments. -/
theorem final (m' : (ℓ : Loc Cert.SgRefIdeal.nD Cert.SgRefIdeal.τ Cert.SgRefIdeal.sig) → Buf (Elt Ideal) ℓ) (c : Dev nD)
    (hag : Agree m m' c) :
    (dats m 0 c).arrAt 5 cfg0.N = Cert.SgRefIdeal.Value.res_out0 (F := Ideal) m' c := by
  obtain ⟨h0, h1, h2, h3⟩ := hag
  refine (dats m 0 c).arrAt_eq_of_covers 5 _ (by decide +kernel) fun t hf y => ?_
  blk_simp; rw [after0_5]; frame_out
  idx_vars y
  rw [emb5]
  refine (out_at (iblk m c 0 t) (iblk m c 1 t) (iblk m c 2 t) (iblk m c 3 t) (iblk m c 4 t) y0 y1
    ⟨y1.val / 128, by have := y1.isLt; omega⟩ rfl).trans
    (Eq.trans ?_ (Cert.SgRefIdeal.Proof.res_at _ _ _ _ m' c h0 h1 h2 h3 ⟨t.val, t.isLt⟩ y0 y1).symm)
  simp only [blk0, blk1, blk2, blk3, blk4]
  rfl

/-- The claim: at the real numbers, kernel and reference leave the same array, whatever the arguments. -/
theorem algebraic : Cert.algebraic_SgIdeal_SgRefIdeal := fun m ρ m' ρ' _ hag =>
  ⟨fun c => (dats m 0 c).arrAt 5 cfg0.N, Cert.SgIdeal.Value.run_blocks m ρ,
    (θ_run _ _ _).mono (fun _ h c => ⟨(h c).1.trans (final m m' c (hag c)).symm, (h c).2⟩)
      (Cert.SgRefIdeal.Value.run m' ρ')⟩

end Cert.SgIdeal.Proof
end
-- ==== Proof.lean ====
module

public import proofs.«01_k».proof.Defs
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdIdeal.Value
public import proofs.«01_k».proof.Proof.Gen.SsdRefIdeal
public import proofs.«01_k».proof.Proof.Gen.SsdRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.InFrame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.InIdealFrame
public import proofs.«01_k».proof.Proof.Gen.InRefIdeal
public import proofs.«01_k».proof.Proof.Gen.InRefIdeal.Run
public import proofs.«01_k».proof.Proof.Gen.Sg
public import proofs.«01_k».proof.Proof.Gen.Sg.Skeleton
public import proofs.«01_k».proof.Proof.Gen.Sg.Launch
public import proofs.«01_k».proof.Proof.Gen.Sg.Points
public import proofs.«01_k».proof.Proof.Gen.Sg.Frame
public import proofs.«01_k».proof.Proof.Gen.SgIdeal
public import proofs.«01_k».proof.Proof.Gen.SgIdeal.Skeleton
public import proofs.«01_k».proof.Proof.Gen.SgIdeal.Launch
public import proofs.«01_k».proof.Proof.Gen.SgIdeal.Points
public import proofs.«01_k».proof.Proof.Gen.SgIdeal.Frame
public import proofs.«01_k».proof.Proof.Gen.SgIdeal.Value
public import proofs.«01_k».proof.Proof.Gen.SgRefIdeal
public import proofs.«01_k».proof.Proof.Gen.SgRefIdeal.Run
public import proofs.«01_k».proof.Proof.SsdValue
public import proofs.«01_k».proof.Proof.FfnValue
public import proofs.«01_k».proof.Proof.MergeValue
public import proofs.«01_k».proof.Proof.InValue
public import proofs.«01_k».proof.Proof.SgValue
public import proofs.«01_k».proof.Proof.Gen.Pre_step_sizes_bounded
public import Idealize.ShloMosaic.Lib.Quiescent
public import Idealize.ShloMosaic.Adequacy
public import Idealize.ShloMosaic.Init

@[expose] public section

noncomputable section

namespace Cert.Proof

open Idealize.ShloMosaic Idealize.SL.Sem

/-- The reference `SsdRefIdeal` runs, leaves its arguments as they were, and has no semaphore that could be left raised. -/
theorem frame_SsdRefIdeal : @Cert.quiescent_SsdRefIdeal Cert.SsdRefIdeal.Gen.facts := fun m ρ _ =>
  (θ_run _ _ _).mono (fun r h => ⟨fun c => (h c).2, sem_eq_zero_of_no_sems rfl r.2⟩) (Cert.SsdRefIdeal.Value.run m ρ)

/-- The reference `FfnRefIdeal` runs, leaves its arguments as they were, and has no semaphore that could be left raised. -/
theorem frame_FfnRefIdeal : @Cert.quiescent_FfnRefIdeal Cert.FfnRefIdeal.Gen.facts := fun m ρ _ =>
  (θ_run _ _ _).mono (fun r h => ⟨fun c => (h c).2, sem_eq_zero_of_no_sems rfl r.2⟩) (Cert.FfnRefIdeal.Value.run m ρ)

/-- The reference `MergeRefIdeal` runs, leaves its arguments as they were, and has no semaphore that could be left raised. -/
theorem frame_MergeRefIdeal : @Cert.quiescent_MergeRefIdeal Cert.MergeRefIdeal.Gen.facts := fun m ρ _ =>
  (θ_run _ _ _).mono (fun r h => ⟨fun c => (h c).2, sem_eq_zero_of_no_sems rfl r.2⟩) (Cert.MergeRefIdeal.Value.run m ρ)

/-- The reference `InRefIdeal` runs, leaves its arguments as they were, and has no semaphore that could be left raised. -/
theorem frame_InRefIdeal : @Cert.quiescent_InRefIdeal Cert.InRefIdeal.Gen.facts := fun m ρ _ =>
  (θ_run _ _ _).mono (fun r h => ⟨fun c => (h c).2.2, sem_eq_zero_of_no_sems rfl r.2⟩) (Cert.InRefIdeal.Value.run m ρ)

/-- The reference `SgRefIdeal` runs, leaves its arguments as they were, and has no semaphore that could be left raised. -/
theorem frame_SgRefIdeal : @Cert.quiescent_SgRefIdeal Cert.SgRefIdeal.Gen.facts := fun m ρ _ =>
  (θ_run _ _ _).mono (fun r h => ⟨fun c => (h c).2, sem_eq_zero_of_no_sems rfl r.2⟩) (Cert.SgRefIdeal.Value.run m ρ)

/-- Everything claimed. -/
theorem claim : Cert.Claim := ⟨Cert.Ssd.Gen.facts, Cert.SsdIdeal.Gen.facts, Cert.SsdRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.In.Gen.facts, Cert.InIdeal.Gen.facts, Cert.InRefIdeal.Gen.facts, Cert.Sg.Gen.facts, Cert.SgIdeal.Gen.facts, Cert.SgRefIdeal.Gen.facts, Cert.Pre_step_sizes_bounded.Gen.facts,
  fun m ρ _ => Cert.Ssd.Gen.frame m ρ,
  fun m ρ _ => Cert.SsdIdeal.Gen.frame m ρ,
  fun m ρ _ => Cert.SsdIdeal.Gen.frame m ρ,
  frame_SsdRefIdeal,
  fun m ρ _ => frame_SsdRefIdeal m ρ trivial,
  fun m ρ _ => Cert.Ffn.Gen.frame m ρ,
  fun m ρ _ => Cert.FfnIdeal.Gen.frame m ρ,
  frame_FfnRefIdeal,
  fun m ρ _ => Cert.Merge.Gen.frame m ρ,
  fun m ρ _ => Cert.MergeIdeal.Gen.frame m ρ,
  frame_MergeRefIdeal,
  fun m ρ _ => Cert.In.Body.frame_claim m ρ,
  fun m ρ _ => Cert.InIdeal.Body.frame_claim m ρ,
  frame_InRefIdeal,
  fun m ρ _ => Cert.Sg.Gen.frame m ρ,
  fun m ρ _ => Cert.SgIdeal.Gen.frame m ρ,
  frame_SgRefIdeal,
  trivial,
  Cert.SsdIdeal.Proof.algebraic,
  trivial,
  Cert.FfnIdeal.Proof.algebraic,
  trivial,
  Cert.MergeIdeal.Proof.algebraic,
  trivial,
  Cert.InIdeal.Proof.algebraic,
  trivial,
  Cert.SgIdeal.Proof.algebraic⟩

end Cert.Proof

end
